-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v28)) (v4 : (c : Dev Cert.KernelIdeal.nD) → Buf (Elt Ideal) ((c.tc : Thread Cert.KernelIdeal.nD Cert.KernelIdeal.τ).loc Cert.KernelIdeal.main_v32)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v21)) (v7 : (c : Dev Cert.KernelIdeal.nD) → Buf (Elt Ideal) ((c.tc : Thread Cert.KernelIdeal.nD Cert.KernelIdeal.τ).loc Cert.KernelIdeal.main_v25)) (v8 : (c : Dev Cert.KernelIdeal.nD) → Buf (Elt Ideal) ((c.tc : Thread Cert.KernelIdeal.nD Cert.KernelIdeal.τ).loc Cert.KernelIdeal.main_v29)) (v9 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_v32) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_v21) = v6 c
          ∧ r.2.mem ((c.tc : Thread Cert.KernelIdeal.nD Cert.KernelIdeal.τ).loc Cert.KernelIdeal.main_v25) = v7 c
          ∧ r.2.mem ((c.tc : Thread Cert.KernelIdeal.nD Cert.KernelIdeal.τ).loc Cert.KernelIdeal.main_v29) = v8 c
          ∧ r.2.mem ((c.tc : Thread Cert.KernelIdeal.nD Cert.KernelIdeal.τ).loc Cert.KernelIdeal.main_v33) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v206) = v2 c
          ∧ r.2.mem ((c.tc : Thread Cert.ReferenceIdeal.nD Cert.ReferenceIdeal.τ).loc Cert.ReferenceIdeal.main_v277) = v3 c
          ∧ r.2.mem ((c.tc : Thread Cert.ReferenceIdeal.nD Cert.ReferenceIdeal.τ).loc Cert.ReferenceIdeal.main_v348) = v4 c
          ∧ r.2.mem ((c.tc : Thread Cert.ReferenceIdeal.nD Cert.ReferenceIdeal.τ).loc Cert.ReferenceIdeal.main_v70) = v5 c
          ∧ r.2.mem ((c.tc : Thread Cert.ReferenceIdeal.nD Cert.ReferenceIdeal.τ).loc Cert.ReferenceIdeal.main_v141) = v6 c
          ∧ r.2.mem ((c.tc : Thread Cert.ReferenceIdeal.nD Cert.ReferenceIdeal.τ).loc Cert.ReferenceIdeal.main_v212) = v7 c
          ∧ r.2.mem ((c.tc : Thread Cert.ReferenceIdeal.nD Cert.ReferenceIdeal.τ).loc Cert.ReferenceIdeal.main_v283) = v8 c
          ∧ r.2.mem ((c.tc : Thread Cert.ReferenceIdeal.nD Cert.ReferenceIdeal.τ).loc Cert.ReferenceIdeal.main_v354) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S2x256x8x8 : Shape := ⟨4, ![2, 256, 8, 8]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S3x256x3x256 : Shape := ⟨4, ![3, 256, 3, 256]⟩
abbrev S3x256x768 : Shape := ⟨3, ![3, 256, 768]⟩
abbrev S_ : Shape := ⟨0, ![]⟩
abbrev S5x256 : Shape := ⟨2, ![5, 256]⟩
abbrev S4x256 : Shape := ⟨2, ![4, 256]⟩
abbrev S3x256 : Shape := ⟨2, ![3, 256]⟩
abbrev S12x256 : Shape := ⟨2, ![12, 256]⟩
abbrev S24x256 : Shape := ⟨2, ![24, 256]⟩
abbrev S256x1 : Shape := ⟨2, ![256, 1]⟩
abbrev S5 : Shape := ⟨1, ![5]⟩
abbrev S4 : Shape := ⟨1, ![4]⟩
abbrev S24 : Shape := ⟨1, ![24]⟩
abbrev S24x1 : Shape := ⟨2, ![24, 1]⟩
abbrev S2x256x16384 : Shape := ⟨3, ![2, 256, 16384]⟩
abbrev S2x3x16384 : Shape := ⟨3, ![2, 3, 16384]⟩
abbrev S2x12x16384 : Shape := ⟨3, ![2, 12, 16384]⟩
abbrev S1x256x16384 : Shape := ⟨3, ![1, 256, 16384]⟩
abbrev S1x3x16384 : Shape := ⟨3, ![1, 3, 16384]⟩
abbrev S1x12x16384 : Shape := ⟨3, ![1, 12, 16384]⟩
abbrev S256x16384 : Shape := ⟨2, ![256, 16384]⟩
abbrev S2x768x1024 : Shape := ⟨3, ![2, 768, 1024]⟩
abbrev S256x1024 : Shape := ⟨2, ![256, 1024]⟩
abbrev S1x256x1024 : Shape := ⟨3, ![1, 256, 1024]⟩
abbrev S1x768x1024 : Shape := ⟨3, ![1, 768, 1024]⟩
abbrev S768x1024 : Shape := ⟨2, ![768, 1024]⟩
abbrev S1x256x768 : Shape := ⟨3, ![1, 256, 768]⟩
abbrev S256x768 : Shape := ⟨2, ![256, 768]⟩
abbrev S24x1024 : Shape := ⟨2, ![24, 1024]⟩
abbrev S3x1024 : Shape := ⟨2, ![3, 1024]⟩
abbrev S1x3x1024 : Shape := ⟨3, ![1, 3, 1024]⟩
abbrev S12x1024 : Shape := ⟨2, ![12, 1024]⟩
abbrev S1x12x1024 : Shape := ⟨3, ![1, 12, 1024]⟩
abbrev S2x3x128x128 : Shape := ⟨4, ![2, 3, 128, 128]⟩
abbrev S2x12x128x128 : Shape := ⟨4, ![2, 12, 128, 128]⟩
abbrev S2x256x4096 : Shape := ⟨3, ![2, 256, 4096]⟩
abbrev S2x3x4096 : Shape := ⟨3, ![2, 3, 4096]⟩
abbrev S2x12x4096 : Shape := ⟨3, ![2, 12, 4096]⟩
abbrev S1x256x4096 : Shape := ⟨3, ![1, 256, 4096]⟩
abbrev S1x3x4096 : Shape := ⟨3, ![1, 3, 4096]⟩
abbrev S1x12x4096 : Shape := ⟨3, ![1, 12, 4096]⟩
abbrev S256x4096 : Shape := ⟨2, ![256, 4096]⟩
abbrev S2x768x2048 : Shape := ⟨3, ![2, 768, 2048]⟩
abbrev S256x2048 : Shape := ⟨2, ![256, 2048]⟩
abbrev S1x256x2048 : Shape := ⟨3, ![1, 256, 2048]⟩
abbrev S256x2176 : Shape := ⟨2, ![256, 2176]⟩
abbrev S1x768x2048 : Shape := ⟨3, ![1, 768, 2048]⟩
abbrev S768x2048 : Shape := ⟨2, ![768, 2048]⟩
abbrev S24x2048 : Shape := ⟨2, ![24, 2048]⟩
abbrev S3x2048 : Shape := ⟨2, ![3, 2048]⟩
abbrev S1x3x2048 : Shape := ⟨3, ![1, 3, 2048]⟩
abbrev S12x2048 : Shape := ⟨2, ![12, 2048]⟩
abbrev S1x12x2048 : Shape := ⟨3, ![1, 12, 2048]⟩
abbrev S2x3x64x64 : Shape := ⟨4, ![2, 3, 64, 64]⟩
abbrev S2x12x64x64 : Shape := ⟨4, ![2, 12, 64, 64]⟩
abbrev S2x256x1024 : Shape := ⟨3, ![2, 256, 1024]⟩
abbrev S2x3x1024 : Shape := ⟨3, ![2, 3, 1024]⟩
abbrev S2x12x1024 : Shape := ⟨3, ![2, 12, 1024]⟩
abbrev S256x1152 : Shape := ⟨2, ![256, 1152]⟩
abbrev S2x3x32x32 : Shape := ⟨4, ![2, 3, 32, 32]⟩
abbrev S2x12x32x32 : Shape := ⟨4, ![2, 12, 32, 32]⟩
abbrev S2x256x256 : Shape := ⟨3, ![2, 256, 256]⟩
abbrev S2x3x256 : Shape := ⟨3, ![2, 3, 256]⟩
abbrev S2x12x256 : Shape := ⟨3, ![2, 12, 256]⟩
abbrev S1x256x256 : Shape := ⟨3, ![1, 256, 256]⟩
abbrev S1x3x256 : Shape := ⟨3, ![1, 3, 256]⟩
abbrev S1x12x256 : Shape := ⟨3, ![1, 12, 256]⟩
abbrev S256x256 : Shape := ⟨2, ![256, 256]⟩
abbrev S2x768x256 : Shape := ⟨3, ![2, 768, 256]⟩
abbrev S256x384 : Shape := ⟨2, ![256, 384]⟩
abbrev S1x768x256 : Shape := ⟨3, ![1, 768, 256]⟩
abbrev S768x256 : Shape := ⟨2, ![768, 256]⟩
abbrev S2x3x16x16 : Shape := ⟨4, ![2, 3, 16, 16]⟩
abbrev S2x12x16x16 : Shape := ⟨4, ![2, 12, 16, 16]⟩
abbrev S2x256x64 : Shape := ⟨3, ![2, 256, 64]⟩
abbrev S2x3x64 : Shape := ⟨3, ![2, 3, 64]⟩
abbrev S2x12x64 : Shape := ⟨3, ![2, 12, 64]⟩
abbrev S1x256x64 : Shape := ⟨3, ![1, 256, 64]⟩
abbrev S1x3x64 : Shape := ⟨3, ![1, 3, 64]⟩
abbrev S1x12x64 : Shape := ⟨3, ![1, 12, 64]⟩
abbrev S256x64 : Shape := ⟨2, ![256, 64]⟩
abbrev S2x768x64 : Shape := ⟨3, ![2, 768, 64]⟩
abbrev S256x192 : Shape := ⟨2, ![256, 192]⟩
abbrev S1x768x64 : Shape := ⟨3, ![1, 768, 64]⟩
abbrev S768x64 : Shape := ⟨2, ![768, 64]⟩
abbrev S24x64 : Shape := ⟨2, ![24, 64]⟩
abbrev S3x64 : Shape := ⟨2, ![3, 64]⟩
abbrev S12x64 : Shape := ⟨2, ![12, 64]⟩
abbrev S2x3x8x8 : Shape := ⟨4, ![2, 3, 8, 8]⟩
abbrev S2x12x8x8 : Shape := ⟨4, ![2, 12, 8, 8]⟩

abbrev nBuf : Space → Nat
  | .hbm => 54
  | .vmem => 60
  | .smem => 0
  | _ => 0

abbrev bufTy : (tb : Table) → Fin (tcTables nBuf tb) → BufTy
  | .hbm, ⟨0, _⟩ => ⟨S2x256x128x128, .f32⟩
  | .hbm, ⟨1, _⟩ => ⟨S2x256x64x64, .f32⟩
  | .hbm, ⟨2, _⟩ => ⟨S2x256x32x32, .f32⟩
  | .hbm, ⟨3, _⟩ => ⟨S2x256x16x16, .f32⟩
  | .hbm, ⟨4, _⟩ => ⟨S2x256x8x8, .f32⟩
  | .hbm, ⟨5, _⟩ => ⟨S256x256x3x3, .f32⟩
  | .hbm, ⟨6, _⟩ => ⟨S256, .f32⟩
  | .hbm, ⟨7, _⟩ => ⟨S3x256x1x1, .f32⟩
  | .hbm, ⟨8, _⟩ => ⟨S3, .f32⟩
  | .hbm, ⟨9, _⟩ => ⟨S12x256x1x1, .f32⟩
  | .hbm, ⟨10, _⟩ => ⟨S12, .f32⟩
  | .hbm, ⟨11, _⟩ => ⟨S3x256x3x256, .f32⟩
  | .hbm, ⟨12, _⟩ => ⟨S3x256x768, .f32⟩
  | .hbm, ⟨13, _⟩ => ⟨S3x256x768, .bf16⟩
  | .hbm, ⟨14, _⟩ => ⟨S_, .f32⟩
  | .hbm, ⟨15, _⟩ => ⟨S5x256, .f32⟩
  | .hbm, ⟨16, _⟩ => ⟨S_, .f32⟩
  | .hbm, ⟨17, _⟩ => ⟨S4x256, .f32⟩
  | .hbm, ⟨18, _⟩ => ⟨S3x256, .f32⟩
  | .hbm, ⟨19, _⟩ => ⟨S12x256, .f32⟩
  | .hbm, ⟨20, _⟩ => ⟨S24x256, .f32⟩
  | .hbm, ⟨21, _⟩ => ⟨S24x256, .bf16⟩
  | .hbm, ⟨22, _⟩ => ⟨S256x1, .f32⟩
  | .hbm, ⟨23, _⟩ => ⟨S_, .f32⟩
  | .hbm, ⟨24, _⟩ => ⟨S5, .f32⟩
  | .hbm, ⟨25, _⟩ => ⟨S_, .f32⟩
  | .hbm, ⟨26, _⟩ => ⟨S4, .f32⟩
  | .hbm, ⟨27, _⟩ => ⟨S24, .f32⟩
  | .hbm, ⟨28, _⟩ => ⟨S24x1, .f32⟩
  | .hbm, ⟨29, _⟩ => ⟨S2x256x16384, .f32⟩
  | .hbm, ⟨30, _⟩ => ⟨S2x3x16384, .f32⟩
  | .hbm, ⟨31, _⟩ => ⟨S2x12x16384, .f32⟩
  | .hbm, ⟨32, _⟩ => ⟨S2x3x128x128, .f32⟩
  | .hbm, ⟨33, _⟩ => ⟨S2x12x128x128, .f32⟩
  | .hbm, ⟨34, _⟩ => ⟨S2x256x4096, .f32⟩
  | .hbm, ⟨35, _⟩ => ⟨S2x3x4096, .f32⟩
  | .hbm, ⟨36, _⟩ => ⟨S2x12x4096, .f32⟩
  | .hbm, ⟨37, _⟩ => ⟨S2x3x64x64, .f32⟩
  | .hbm, ⟨38, _⟩ => ⟨S2x12x64x64, .f32⟩
  | .hbm, ⟨39, _⟩ => ⟨S2x256x1024, .f32⟩
  | .hbm, ⟨40, _⟩ => ⟨S2x3x1024, .f32⟩
  | .hbm, ⟨41, _⟩ => ⟨S2x12x1024, .f32⟩
  | .hbm, ⟨42, _⟩ => ⟨S2x3x32x32, .f32⟩
  | .hbm, ⟨43, _⟩ => ⟨S2x12x32x32, .f32⟩
  | .hbm, ⟨44, _⟩ => ⟨S2x256x256, .f32⟩
  | .hbm, ⟨45, _⟩ => ⟨S2x3x256, .f32⟩
  | .hbm, ⟨46, _⟩ => ⟨S2x12x256, .f32⟩
  | .hbm, ⟨47, _⟩ => ⟨S2x3x16x16, .f32⟩
  | .hbm, ⟨48, _⟩ => ⟨S2x12x16x16, .f32⟩
  | .hbm, ⟨49, _⟩ => ⟨S2x256x64, .f32⟩
  | .hbm, ⟨50, _⟩ => ⟨S2x3x64, .f32⟩
  | .hbm, ⟨51, _⟩ => ⟨S2x12x64, .f32⟩
  | .hbm, ⟨52, _⟩ => ⟨S2x3x8x8, .f32⟩
  | .hbm, ⟨53, _⟩ => ⟨S2x12x8x8, .f32⟩
  | .local _ .vmem, ⟨0, _⟩ => ⟨S1x256x16384, .f32⟩
  | .local _ .vmem, ⟨1, _⟩ => ⟨S1x256x16384, .f32⟩
  | .local _ .vmem, ⟨2, _⟩ => ⟨S3x256x768, .bf16⟩
  | .local _ .vmem, ⟨3, _⟩ => ⟨S24x256, .bf16⟩
  | .local _ .vmem, ⟨4, _⟩ => ⟨S256x1, .f32⟩
  | .local _ .vmem, ⟨5, _⟩ => ⟨S24x1, .f32⟩
  | .local _ .vmem, ⟨6, _⟩ => ⟨S1x3x16384, .f32⟩
  | .local _ .vmem, ⟨7, _⟩ => ⟨S1x3x16384, .f32⟩
  | .local _ .vmem, ⟨8, _⟩ => ⟨S1x12x16384, .f32⟩
  | .local _ .vmem, ⟨9, _⟩ => ⟨S1x12x16384, .f32⟩
  | .local _ .vmem, ⟨10, _⟩ => ⟨S256x16384, .bf16⟩
  | .local _ .vmem, ⟨11, _⟩ => ⟨S2x768x1024, .bf16⟩
  | .local _ .vmem, ⟨12, _⟩ => ⟨S1x256x4096, .f32⟩
  | .local _ .vmem, ⟨13, _⟩ => ⟨S1x256x4096, .f32⟩
  | .local _ .vmem, ⟨14, _⟩ => ⟨S3x256x768, .bf16⟩
  | .local _ .vmem, ⟨15, _⟩ => ⟨S24x256, .bf16⟩
  | .local _ .vmem, ⟨16, _⟩ => ⟨S256x1, .f32⟩
  | .local _ .vmem, ⟨17, _⟩ => ⟨S24x1, .f32⟩
  | .local _ .vmem, ⟨18, _⟩ => ⟨S1x3x4096, .f32⟩
  | .local _ .vmem, ⟨19, _⟩ => ⟨S1x3x4096, .f32⟩
  | .local _ .vmem, ⟨20, _⟩ => ⟨S1x12x4096, .f32⟩
  | .local _ .vmem, ⟨21, _⟩ => ⟨S1x12x4096, .f32⟩
  | .local _ .vmem, ⟨22, _⟩ => ⟨S256x4096, .bf16⟩
  | .local _ .vmem, ⟨23, _⟩ => ⟨S2x768x2048, .bf16⟩
  | .local _ .vmem, ⟨24, _⟩ => ⟨S1x256x1024, .f32⟩
  | .local _ .vmem, ⟨25, _⟩ => ⟨S1x256x1024, .f32⟩
  | .local _ .vmem, ⟨26, _⟩ => ⟨S3x256x768, .bf16⟩
  | .local _ .vmem, ⟨27, _⟩ => ⟨S24x256, .bf16⟩
  | .local _ .vmem, ⟨28, _⟩ => ⟨S256x1, .f32⟩
  | .local _ .vmem, ⟨29, _⟩ => ⟨S24x1, .f32⟩
  | .local _ .vmem, ⟨30, _⟩ => ⟨S1x3x1024, .f32⟩
  | .local _ .vmem, ⟨31, _⟩ => ⟨S1x3x1024, .f32⟩
  | .local _ .vmem, ⟨32, _⟩ => ⟨S1x12x1024, .f32⟩
  | .local _ .vmem, ⟨33, _⟩ => ⟨S1x12x1024, .f32⟩
  | .local _ .vmem, ⟨34, _⟩ => ⟨S256x1024, .bf16⟩
  | .local _ .vmem, ⟨35, _⟩ => ⟨S2x768x1024, .bf16⟩
  | .local _ .vmem, ⟨36, _⟩ => ⟨S1x256x256, .f32⟩
  | .local _ .vmem, ⟨37, _⟩ => ⟨S1x256x256, .f32⟩
  | .local _ .vmem, ⟨38, _⟩ => ⟨S3x256x768, .bf16⟩
  | .local _ .vmem, ⟨39, _⟩ => ⟨S24x256, .bf16⟩
  | .local _ .vmem, ⟨40, _⟩ => ⟨S256x1, .f32⟩
  | .local _ .vmem, ⟨41, _⟩ => ⟨S24x1, .f32⟩
  | .local _ .vmem, ⟨42, _⟩ => ⟨S1x3x256, .f32⟩
  | .local _ .vmem, ⟨43, _⟩ => ⟨S1x3x256, .f32⟩
  | .local _ .vmem, ⟨44, _⟩ => ⟨S1x12x256, .f32⟩
  | .local _ .vmem, ⟨45, _⟩ => ⟨S1x12x256, .f32⟩
  | .local _ .vmem, ⟨46, _⟩ => ⟨S256x256, .bf16⟩
  | .local _ .vmem, ⟨47, _⟩ => ⟨S2x768x256, .bf16⟩
  | .local _ .vmem, ⟨48, _⟩ => ⟨S1x256x64, .f32⟩
  | .local _ .vmem, ⟨49, _⟩ => ⟨S1x256x64, .f32⟩
  | .local _ .vmem, ⟨50, _⟩ => ⟨S3x256x768, .bf16⟩
  | .local _ .vmem, ⟨51, _⟩ => ⟨S24x256, .bf16⟩
  | .local _ .vmem, ⟨52, _⟩ => ⟨S256x1, .f32⟩
  | .local _ .vmem, ⟨53, _⟩ => ⟨S24x1, .f32⟩
  | .local _ .vmem, ⟨54, _⟩ => ⟨S1x3x64, .f32⟩
  | .local _ .vmem, ⟨55, _⟩ => ⟨S1x3x64, .f32⟩
  | .local _ .vmem, ⟨56, _⟩ => ⟨S1x12x64, .f32⟩
  | .local _ .vmem, ⟨57, _⟩ => ⟨S1x12x64, .f32⟩
  | .local _ .vmem, ⟨58, _⟩ => ⟨S256x64, .bf16⟩
  | .local _ .vmem, ⟨59, _⟩ => ⟨S2x768x64, .bf16⟩
  | _, _ => ⟨S2x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31_0 : Ref sig .tc := ⟨.hbm, 50, rfl⟩
abbrev main_v31_1 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc3_scratch0 : Ref sig .tc := ⟨.vmem, 46, rfl⟩
abbrev cc3_scratch1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg5_1 : Ref sig .tc := ⟨.vmem, 55, rfl⟩
abbrev cc4_stg6_0 : Ref sig .tc := ⟨.vmem, 56, rfl⟩
abbrev cc4_stg6_1 : Ref sig .tc := ⟨.vmem, 57, rfl⟩
abbrev cc4_scratch0 : Ref sig .tc := ⟨.vmem, 58, rfl⟩
abbrev cc4_scratch1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47
abbrev cc4_sem6_0 : DmaSem sig := 48
abbrev cc4_sem6_1 : DmaSem sig := 49

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_6 : BitVec 32 := 0#32
  let c16_i32 : BitVec 32 := 16#32
  let v21 : BitVec 32 := Scalar.addi c0_i32_6 c16_i32
  let c1_i32_7 : BitVec 32 := 1#32
  ⟨c0_i32_6, v21, c1_i32_7⟩
def k0_off1 (k0_t1 : Fin k0_t1_loop.trips) : Fin 3 → Nat :=
  let c0_27 : Index := 0#32
  let c0_28 : Index := 0#32
  let c0_i32_6 : BitVec 32 := 0#32
  let c1_i32_7 : BitVec 32 := 1#32
  let arg10 : BitVec 32 := Scf.iv c0_i32_6 c1_i32_7 k0_t1
  let c1024_i32 : BitVec 32 := 1024#32
  let v40 : BitVec 32 := Scalar.muli arg10 c1024_i32
  let v41 : Index := Scalar.indexCast v40
  ![0, 0, v41.toNat]
def k0_off2 (k0_t1 : Fin k0_t1_loop.trips) : Fin 2 → Nat :=
  let c0_30 : Index := 0#32
  let c0_i32_6 : BitVec 32 := 0#32
  let c1_i32_7 : BitVec 32 := 1#32
  let arg10 : BitVec 32 := Scf.iv c0_i32_6 c1_i32_7 k0_t1
  let c1024_i32_29 : BitVec 32 := 1024#32
  let v45 : BitVec 32 := Scalar.muli arg10 c1024_i32_29
  let v46 : Index := Scalar.indexCast v45
  ![0, v46.toNat]
@[reducible] def k0_t2_loop : Scf.Loop 32 :=
  let c0_i32_23 : BitVec 32 := 0#32
  let c16_i32_24 : BitVec 32 := 16#32
  let v39 : BitVec 32 := Scalar.addi c0_i32_23 c16_i32_24
  let c1_i32_25 : BitVec 32 := 1#32
  ⟨c0_i32_23, v39, c1_i32_25⟩
def k0_cond1 (k0_t2 : Fin k0_t2_loop.trips) : BitVec 1 :=
  let c0_i32_23 : BitVec 32 := 0#32
  let c1_i32_25 : BitVec 32 := 1#32
  let arg10 : BitVec 32 := Scf.iv c0_i32_23 c1_i32_25 k0_t2
  let c1_i32_27 : BitVec 32 := 1#32
  let v41 : BitVec 32 := Scalar.addi arg10 c1_i32_27
  let c1_i32_28 : BitVec 32 := 1#32
  let v42 : BitVec 1 := Scalar.cmpi .sge v41 c1_i32_28
  let c1_i32_29 : BitVec 32 := 1#32
  let v43 : BitVec 32 := Scalar.addi arg10 c1_i32_29
  let c15_i32 : BitVec 32 := 15#32
  let v44 : BitVec 1 := Scalar.cmpi .slt v43 c15_i32
  let v45 : BitVec 1 := Scalar.andi v42 v44
  let v46 : BitVec 32 := Scalar.extui v45
  let c0_i32_30 : BitVec 32 := 0#32
  let v47 : BitVec 1 := Scalar.cmpi .ne v46 c0_i32_30
  v47

def k0_off3 (k0_t2 : Fin k0_t2_loop.trips) (c_m128_i32 : BitVec 32) : Fin 2 → Nat :=
  let c0_62 : Index := 0#32
  let c0_i32_23 : BitVec 32 := 0#32
  let c1_i32_25 : BitVec 32 := 1#32
  let arg10 : BitVec 32 := Scf.iv c0_i32_23 c1_i32_25 k0_t2
  let c1_i32_60 : BitVec 32 := 1#32
  let v99 : BitVec 32 := Scalar.addi arg10 c1_i32_60
  let c1024_i32_61 : BitVec 32 := 1024#32
  let v100 : BitVec 32 := Scalar.muli v99 c1024_i32_61
  let v101 : BitVec 32 := Scalar.addi v100 c_m128_i32
  let v102 : Index := Scalar.indexCast v101
  ![0, v102.toNat]
def k0_off4 (k0_t2 : Fin k0_t2_loop.trips) : Fin 3 → Nat :=
  let c1_i32_59 : BitVec 32 := 1#32
  let c0_i32_23 : BitVec 32 := 0#32
  let c1_i32_25 : BitVec 32 := 1#32
  let arg10 : BitVec 32 := Scf.iv c0_i32_23 c1_i32_25 k0_t2
  let c2_i32 : BitVec 32 := 2#32
  let v40 : BitVec 32 := Scalar.remsi arg10 c2_i32
  let v98 : BitVec 32 := Scalar.subi c1_i32_59 v40
  let v104 : Index := Scalar.indexCast v98
  let c0_63 : Index := 0#32
  let c0_64 : Index := 0#32
  ![v104.toNat, 0, 0]
def k0_off5 (k0_t2 : Fin k0_t2_loop.trips) : Fin 2 → Nat :=
  let c0_65 : Index := 0#32
  let c0_i32_23 : BitVec 32 := 0#32
  let c1_i32_25 : BitVec 32 := 1#32
  let arg10 : BitVec 32 := Scf.iv c0_i32_23 c1_i32_25 k0_t2
  let c1_i32_60 : BitVec 32 := 1#32
  let v99 : BitVec 32 := Scalar.addi arg10 c1_i32_60
  let c1024_i32_61 : BitVec 32 := 1024#32
  let v100 : BitVec 32 := Scalar.muli v99 c1024_i32_61
  let v108 : Index := Scalar.indexCast v100
  ![0, v108.toNat]
def k0_off6 (k0_t2 : Fin k0_t2_loop.trips) : Fin 3 → Nat :=
  let c1_i32_59 : BitVec 32 := 1#32
  let c0_i32_23 : BitVec 32 := 0#32
  let c1_i32_25 : BitVec 32 := 1#32
  let arg10 : BitVec 32 := Scf.iv c0_i32_23 c1_i32_25 k0_t2
  let c2_i32 : BitVec 32 := 2#32
  let v40 : BitVec 32 := Scalar.remsi arg10 c2_i32
  let v98 : BitVec 32 := Scalar.subi c1_i32_59 v40
  let v110 : Index := Scalar.indexCast v98
  let c256_66 : Index := 256#32
  let c0_67 : Index := 0#32
  ![v110.toNat, 256, 0]
def k0_off7 (k0_t2 : Fin k0_t2_loop.trips) : Fin 3 → Nat :=
  let c1_i32_59 : BitVec 32 := 1#32
  let c0_i32_23 : BitVec 32 := 0#32
  let c1_i32_25 : BitVec 32 := 1#32
  let arg10 : BitVec 32 := Scf.iv c0_i32_23 c1_i32_25 k0_t2
  let c2_i32 : BitVec 32 := 2#32
  let v40 : BitVec 32 := Scalar.remsi arg10 c2_i32
  let v98 : BitVec 32 := Scalar.subi c1_i32_59 v40
  let v117 : Index := Scalar.indexCast v98
  let c512_70 : Index := 512#32
  let c0_71 : Index := 0#32
  ![v117.toNat, 512, 0]
def k0_cond2 (k0_t2 : Fin k0_t2_loop.trips) : BitVec 1 :=
  let c0_i32_23 : BitVec 32 := 0#32
  let c1_i32_25 : BitVec 32 := 1#32
  let arg10 : BitVec 32 := Scf.iv c0_i32_23 c1_i32_25 k0_t2
  let c1_i32_31 : BitVec 32 := 1#32
  let v48 : BitVec 32 := Scalar.addi arg10 c1_i32_31
  let c15_i32_32 : BitVec 32 := 15#32
  let v49 : BitVec 1 := Scalar.cmpi .eq v48 c15_i32_32
  let v50 : BitVec 32 := Scalar.extui v49
  let c0_i32_33 : BitVec 32 := 0#32
  let v51 : BitVec 1 := Scalar.cmpi .ne v50 c0_i32_33
  v51

def k0_off8 (k0_t2 : Fin k0_t2_loop.trips) : Fin 3 → Nat :=
  let c1_i32_59 : BitVec 32 := 1#32
  let c0_i32_23 : BitVec 32 := 0#32
  let c1_i32_25 : BitVec 32 := 1#32
  let arg10 : BitVec 32 := Scf.iv c0_i32_23 c1_i32_25 k0_t2
  let c2_i32 : BitVec 32 := 2#32
  let v40 : BitVec 32 := Scalar.remsi arg10 c2_i32
  let v98 : BitVec 32 := Scalar.subi c1_i32_59 v40
  let v100 : Index := Scalar.indexCast v98
  let c0_61 : Index := 0#32
  let c0_62 : Index := 0#32
  ![v100.toNat, 0, 0]
def k0_off9 (k0_t2 : Fin k0_t2_loop.trips) : Fin 3 → Nat :=
  let c1_i32_59 : BitVec 32 := 1#32
  let c0_i32_23 : BitVec 32 := 0#32
  let c1_i32_25 : BitVec 32 := 1#32
  let arg10 : BitVec 32 := Scf.iv c0_i32_23 c1_i32_25 k0_t2
  let c2_i32 : BitVec 32 := 2#32
  let v40 : BitVec 32 := Scalar.remsi arg10 c2_i32
  let v98 : BitVec 32 := Scalar.subi c1_i32_59 v40
  let v105 : Index := Scalar.indexCast v98
  let c256_64 : Index := 256#32
  let c0_65 : Index := 0#32
  ![v105.toNat, 256, 0]
def k0_off10 (k0_t2 : Fin k0_t2_loop.trips) : Fin 3 → Nat :=
  let c1_i32_59 : BitVec 32 := 1#32
  let c0_i32_23 : BitVec 32 := 0#32
  let c1_i32_25 : BitVec 32 := 1#32
  let arg10 : BitVec 32 := Scf.iv c0_i32_23 c1_i32_25 k0_t2
  let c2_i32 : BitVec 32 := 2#32
  let v40 : BitVec 32 := Scalar.remsi arg10 c2_i32
  let v98 : BitVec 32 := Scalar.subi c1_i32_59 v40
  let v115 : Index := Scalar.indexCast v98
  let c512_70 : Index := 512#32
  let c0_71 : Index := 0#32
  ![v115.toNat, 512, 0]
def k0_off11 (k0_t2 : Fin k0_t2_loop.trips) : Fin 3 → Nat :=
  let c0_i32_23 : BitVec 32 := 0#32
  let c1_i32_25 : BitVec 32 := 1#32
  let arg10 : BitVec 32 := Scf.iv c0_i32_23 c1_i32_25 k0_t2
  let c2_i32 : BitVec 32 := 2#32
  let v40 : BitVec 32 := Scalar.remsi arg10 c2_i32
  let v52 : Index := Scalar.indexCast v40
  let c0_34 : Index := 0#32
  let c0_35 : Index := 0#32
  ![v52.toNat, 0, 0]
def k0_off12 (k0_t2 : Fin k0_t2_loop.trips) : Fin 3 → Nat :=
  let c0_54 : Index := 0#32
  let c0_55 : Index := 0#32
  let c0_i32_23 : BitVec 32 := 0#32
  let c1_i32_25 : BitVec 32 := 1#32
  let arg10 : BitVec 32 := Scf.iv c0_i32_23 c1_i32_25 k0_t2
  let c1024_i32 : BitVec 32 := 1024#32
  let v87 : BitVec 32 := Scalar.muli arg10 c1024_i32
  let v88 : Index := Scalar.indexCast v87
  ![0, 0, v88.toNat]
def k0_off13 (k0_t2 : Fin k0_t2_loop.trips) : Fin 3 → Nat :=
  let c0_57 : Index := 0#32
  let c0_58 : Index := 0#32
  let c0_i32_23 : BitVec 32 := 0#32
  let c1_i32_25 : BitVec 32 := 1#32
  let arg10 : BitVec 32 := Scf.iv c0_i32_23 c1_i32_25 k0_t2
  let c1024_i32_56 : BitVec 32 := 1024#32
  let v93 : BitVec 32 := Scalar.muli arg10 c1024_i32_56
  let v94 : Index := Scalar.indexCast v93
  ![0, 0, v94.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x12x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

@[reducible] def k1_t1_loop : Scf.Loop 32 :=
  let c0_i32_6 : BitVec 32 := 0#32
  let c2_i32 : BitVec 32 := 2#32
  let v21 : BitVec 32 := Scalar.addi c0_i32_6 c2_i32
  let c1_i32_7 : BitVec 32 := 1#32
  ⟨c0_i32_6, v21, c1_i32_7⟩
def k1_off1 (k1_t1 : Fin k1_t1_loop.trips) : Fin 3 → Nat :=
  let c0_28 : Index := 0#32
  let c0_29 : Index := 0#32
  let c0_i32_6 : BitVec 32 := 0#32
  let c1_i32_7 : BitVec 32 := 1#32
  let arg10 : BitVec 32 := Scf.iv c0_i32_6 c1_i32_7 k1_t1
  let c2048_i32 : BitVec 32 := 2048#32
  let v42 : BitVec 32 := Scalar.muli arg10 c2048_i32
  let v43 : Index := Scalar.indexCast v42
  ![0, 0, v43.toNat]
def k1_off2 (k1_t1 : Fin k1_t1_loop.trips) : Fin 2 → Nat :=
  let c0_31 : Index := 0#32
  let c0_i32_6 : BitVec 32 := 0#32
  let c1_i32_7 : BitVec 32 := 1#32
  let arg10 : BitVec 32 := Scf.iv c0_i32_6 c1_i32_7 k1_t1
  let c2048_i32_30 : BitVec 32 := 2048#32
  let v47 : BitVec 32 := Scalar.muli arg10 c2048_i32_30
  let v48 : Index := Scalar.indexCast v47
  ![0, v48.toNat]
@[reducible] def k1_t2_loop : Scf.Loop 32 :=
  let c0_i32_24 : BitVec 32 := 0#32
  let c2_i32_25 : BitVec 32 := 2#32
  let v41 : BitVec 32 := Scalar.addi c0_i32_24 c2_i32_25
  let c1_i32_26 : BitVec 32 := 1#32
  ⟨c0_i32_24, v41, c1_i32_26⟩
def k1_cond1 (k1_t2 : Fin k1_t2_loop.trips) : BitVec 1 :=
  let c0_i32_24 : BitVec 32 := 0#32
  let c1_i32_26 : BitVec 32 := 1#32
  let arg10 : BitVec 32 := Scf.iv c0_i32_24 c1_i32_26 k1_t2
  let c1_i32_29 : BitVec 32 := 1#32
  let v43 : BitVec 32 := Scalar.addi arg10 c1_i32_29
  let c1_i32_30 : BitVec 32 := 1#32
  let v44 : BitVec 1 := Scalar.cmpi .sge v43 c1_i32_30
  let c1_i32_31 : BitVec 32 := 1#32
  let v45 : BitVec 32 := Scalar.addi arg10 c1_i32_31
  let c1_i32_32 : BitVec 32 := 1#32
  let v46 : BitVec 1 := Scalar.cmpi .slt v45 c1_i32_32
  let v47 : BitVec 1 := Scalar.andi v44 v46
  let v48 : BitVec 32 := Scalar.extui v47
  let c0_i32_33 : BitVec 32 := 0#32
  let v49 : BitVec 1 := Scalar.cmpi .ne v48 c0_i32_33
  v49

def k1_off3 (k1_t2 : Fin k1_t2_loop.trips) (c_m128_i32 : BitVec 32) : Fin 2 → Nat :=
  let c0_65 : Index := 0#32
  let c0_i32_24 : BitVec 32 := 0#32
  let c1_i32_26 : BitVec 32 := 1#32
  let arg10 : BitVec 32 := Scf.iv c0_i32_24 c1_i32_26 k1_t2
  let c1_i32_63 : BitVec 32 := 1#32
  let v101 : BitVec 32 := Scalar.addi arg10 c1_i32_63
  let c2048_i32_64 : BitVec 32 := 2048#32
  let v102 : BitVec 32 := Scalar.muli v101 c2048_i32_64
  let v103 : BitVec 32 := Scalar.addi v102 c_m128_i32
  let v104 : Index := Scalar.indexCast v103
  ![0, v104.toNat]
def k1_off4 (k1_t2 : Fin k1_t2_loop.trips) : Fin 3 → Nat :=
  let c1_i32_62 : BitVec 32 := 1#32
  let c0_i32_24 : BitVec 32 := 0#32
  let c1_i32_26 : BitVec 32 := 1#32
  let arg10 : BitVec 32 := Scf.iv c0_i32_24 c1_i32_26 k1_t2
  let c2_i32_28 : BitVec 32 := 2#32
  let v42 : BitVec 32 := Scalar.remsi arg10 c2_i32_28
  let v100 : BitVec 32 := Scalar.subi c1_i32_62 v42
  let v108 : Index := Scalar.indexCast v100
  let c0_67 : Index := 0#32
  let c0_68 : Index := 0#32
  ![v108.toNat, 0, 0]
def k1_off5 (k1_t2 : Fin k1_t2_loop.trips) : Fin 2 → Nat :=
  let c0_69 : Index := 0#32
  let c0_i32_24 : BitVec 32 := 0#32
  let c1_i32_26 : BitVec 32 := 1#32
  let arg10 : BitVec 32 := Scf.iv c0_i32_24 c1_i32_26 k1_t2
  let c1_i32_63 : BitVec 32 := 1#32
  let v101 : BitVec 32 := Scalar.addi arg10 c1_i32_63
  let c2048_i32_64 : BitVec 32 := 2048#32
  let v102 : BitVec 32 := Scalar.muli v101 c2048_i32_64
  let v112 : Index := Scalar.indexCast v102
  ![0, v112.toNat]
def k1_off6 (k1_t2 : Fin k1_t2_loop.trips) : Fin 3 → Nat :=
  let c1_i32_62 : BitVec 32 := 1#32
  let c0_i32_24 : BitVec 32 := 0#32
  let c1_i32_26 : BitVec 32 := 1#32
  let arg10 : BitVec 32 := Scf.iv c0_i32_24 c1_i32_26 k1_t2
  let c2_i32_28 : BitVec 32 := 2#32
  let v42 : BitVec 32 := Scalar.remsi arg10 c2_i32_28
  let v100 : BitVec 32 := Scalar.subi c1_i32_62 v42
  let v114 : Index := Scalar.indexCast v100
  let c256_70 : Index := 256#32
  let c0_71 : Index := 0#32
  ![v114.toNat, 256, 0]
def k1_off7 (k1_t2 : Fin k1_t2_loop.trips) : Fin 3 → Nat :=
  let c1_i32_62 : BitVec 32 := 1#32
  let c0_i32_24 : BitVec 32 := 0#32
  let c1_i32_26 : BitVec 32 := 1#32
  let arg10 : BitVec 32 := Scf.iv c0_i32_24 c1_i32_26 k1_t2
  let c2_i32_28 : BitVec 32 := 2#32
  let v42 : BitVec 32 := Scalar.remsi arg10 c2_i32_28
  let v100 : BitVec 32 := Scalar.subi c1_i32_62 v42
  let v123 : Index := Scalar.indexCast v100
  let c512_75 : Index := 512#32
  let c0_76 : Index := 0#32
  ![v123.toNat, 512, 0]
def k1_cond2 (k1_t2 : Fin k1_t2_loop.trips) : BitVec 1 :=
  let c0_i32_24 : BitVec 32 := 0#32
  let c1_i32_26 : BitVec 32 := 1#32
  let arg10 : BitVec 32 := Scf.iv c0_i32_24 c1_i32_26 k1_t2
  let c1_i32_34 : BitVec 32 := 1#32
  let v50 : BitVec 32 := Scalar.addi arg10 c1_i32_34
  let c1_i32_35 : BitVec 32 := 1#32
  let v51 : BitVec 1 := Scalar.cmpi .eq v50 c1_i32_35
  let v52 : BitVec 32 := Scalar.extui v51
  let c0_i32_36 : BitVec 32 := 0#32
  let v53 : BitVec 1 := Scalar.cmpi .ne v52 c0_i32_36
  v53

def k1_off8 (k1_t2 : Fin k1_t2_loop.trips) : Fin 3 → Nat :=
  let c1_i32_62 : BitVec 32 := 1#32
  let c0_i32_24 : BitVec 32 := 0#32
  let c1_i32_26 : BitVec 32 := 1#32
  let arg10 : BitVec 32 := Scf.iv c0_i32_24 c1_i32_26 k1_t2
  let c2_i32_28 : BitVec 32 := 2#32
  let v42 : BitVec 32 := Scalar.remsi arg10 c2_i32_28
  let v100 : BitVec 32 := Scalar.subi c1_i32_62 v42
  let v104 : Index := Scalar.indexCast v100
  let c0_65 : Index := 0#32
  let c0_66 : Index := 0#32
  ![v104.toNat, 0, 0]
def k1_off9 (k1_t2 : Fin k1_t2_loop.trips) : Fin 3 → Nat :=
  let c1_i32_62 : BitVec 32 := 1#32
  let c0_i32_24 : BitVec 32 := 0#32
  let c1_i32_26 : BitVec 32 := 1#32
  let arg10 : BitVec 32 := Scf.iv c0_i32_24 c1_i32_26 k1_t2
  let c2_i32_28 : BitVec 32 := 2#32
  let v42 : BitVec 32 := Scalar.remsi arg10 c2_i32_28
  let v100 : BitVec 32 := Scalar.subi c1_i32_62 v42
  let v109 : Index := Scalar.indexCast v100
  let c256_68 : Index := 256#32
  let c0_69 : Index := 0#32
  ![v109.toNat, 256, 0]
def k1_off10 (k1_t2 : Fin k1_t2_loop.trips) : Fin 3 → Nat :=
  let c1_i32_62 : BitVec 32 := 1#32
  let c0_i32_24 : BitVec 32 := 0#32
  let c1_i32_26 : BitVec 32 := 1#32
  let arg10 : BitVec 32 := Scf.iv c0_i32_24 c1_i32_26 k1_t2
  let c2_i32_28 : BitVec 32 := 2#32
  let v42 : BitVec 32 := Scalar.remsi arg10 c2_i32_28
  let v100 : BitVec 32 := Scalar.subi c1_i32_62 v42
  let v119 : Index := Scalar.indexCast v100
  let c512_74 : Index := 512#32
  let c0_75 : Index := 0#32
  ![v119.toNat, 512, 0]
def k1_off11 (k1_t2 : Fin k1_t2_loop.trips) : Fin 3 → Nat :=
  let c0_i32_24 : BitVec 32 := 0#32
  let c1_i32_26 : BitVec 32 := 1#32
  let arg10 : BitVec 32 := Scf.iv c0_i32_24 c1_i32_26 k1_t2
  let c2_i32_28 : BitVec 32 := 2#32
  let v42 : BitVec 32 := Scalar.remsi arg10 c2_i32_28
  let v54 : Index := Scalar.indexCast v42
  let c0_37 : Index := 0#32
  let c0_38 : Index := 0#32
  ![v54.toNat, 0, 0]
def k1_off12 (k1_t2 : Fin k1_t2_loop.trips) : Fin 3 → Nat :=
  let c0_57 : Index := 0#32
  let c0_58 : Index := 0#32
  let c0_i32_24 : BitVec 32 := 0#32
  let c1_i32_26 : BitVec 32 := 1#32
  let arg10 : BitVec 32 := Scf.iv c0_i32_24 c1_i32_26 k1_t2
  let c2048_i32 : BitVec 32 := 2048#32
  let v89 : BitVec 32 := Scalar.muli arg10 c2048_i32
  let v90 : Index := Scalar.indexCast v89
  ![0, 0, v90.toNat]
def k1_off13 (k1_t2 : Fin k1_t2_loop.trips) : Fin 3 → Nat :=
  let c0_60 : Index := 0#32
  let c0_61 : Index := 0#32
  let c0_i32_24 : BitVec 32 := 0#32
  let c1_i32_26 : BitVec 32 := 1#32
  let arg10 : BitVec 32 := Scf.iv c0_i32_24 c1_i32_26 k1_t2
  let c2048_i32_59 : BitVec 32 := 2048#32
  let v95 : BitVec 32 := Scalar.muli arg10 c2048_i32_59
  let v96 : Index := Scalar.indexCast v95
  ![0, 0, v96.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x256x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S24x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S24x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x3x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x12x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![2], ![false]⟩

def k2_off1 : Fin 3 → Nat :=
  let c0_7 : Index := 0#32
  let c0_8 : Index := 0#32
  let c0_i32_6 : BitVec 32 := 0#32
  let c1024_i32 : BitVec 32 := 1024#32
  let v21 : BitVec 32 := Scalar.muli c0_i32_6 c1024_i32
  let v22 : Index := Scalar.indexCast v21
  ![0, 0, v22.toNat]
def k2_off2 : Fin 2 → Nat :=
  let c0_10 : Index := 0#32
  let c0_i32_6 : BitVec 32 := 0#32
  let c1024_i32_9 : BitVec 32 := 1024#32
  let v26 : BitVec 32 := Scalar.muli c0_i32_6 c1024_i32_9
  let v27 : Index := Scalar.indexCast v26
  ![0, v27.toNat]
def k2_cond1 : BitVec 1 :=
  let c0_i32_29 : BitVec 32 := 0#32
  let c1_i32_30 : BitVec 32 := 1#32
  let v54 : BitVec 32 := Scalar.addi c0_i32_29 c1_i32_30
  let c1_i32_31 : BitVec 32 := 1#32
  let v55 : BitVec 1 := Scalar.cmpi .sge v54 c1_i32_31
  let c1_i32_32 : BitVec 32 := 1#32
  let v56 : BitVec 32 := Scalar.addi c0_i32_29 c1_i32_32
  let c0_i32_33 : BitVec 32 := 0#32
  let v57 : BitVec 1 := Scalar.cmpi .slt v56 c0_i32_33
  let v58 : BitVec 1 := Scalar.andi v55 v57
  let v59 : BitVec 32 := Scalar.extui v58
  let c0_i32_34 : BitVec 32 := 0#32
  let v60 : BitVec 1 := Scalar.cmpi .ne v59 c0_i32_34
  v60

def k2_off3 (c_m128_i32 : BitVec 32) : Fin 2 → Nat :=
  let c0_65 : Index := 0#32
  let c0_i32_29 : BitVec 32 := 0#32
  let c1_i32_63 : BitVec 32 := 1#32
  let v108 : BitVec 32 := Scalar.addi c0_i32_29 c1_i32_63
  let c1024_i32_64 : BitVec 32 := 1024#32
  let v109 : BitVec 32 := Scalar.muli v108 c1024_i32_64
  let v110 : BitVec 32 := Scalar.addi v109 c_m128_i32
  let v111 : Index := Scalar.indexCast v110
  ![0, v111.toNat]
def k2_off4 : Fin 3 → Nat :=
  let c1_i32_62 : BitVec 32 := 1#32
  let c0_i32_29 : BitVec 32 := 0#32
  let c2_i32 : BitVec 32 := 2#32
  let v53 : BitVec 32 := Scalar.remsi c0_i32_29 c2_i32
  let v107 : BitVec 32 := Scalar.subi c1_i32_62 v53
  let v115 : Index := Scalar.indexCast v107
  let c0_66 : Index := 0#32
  let c0_67 : Index := 0#32
  ![v115.toNat, 0, 0]
def k2_off5 : Fin 2 → Nat :=
  let c0_68 : Index := 0#32
  let c0_i32_29 : BitVec 32 := 0#32
  let c1_i32_63 : BitVec 32 := 1#32
  let v108 : BitVec 32 := Scalar.addi c0_i32_29 c1_i32_63
  let c1024_i32_64 : BitVec 32 := 1024#32
  let v109 : BitVec 32 := Scalar.muli v108 c1024_i32_64
  let v119 : Index := Scalar.indexCast v109
  ![0, v119.toNat]
def k2_off6 : Fin 3 → Nat :=
  let c1_i32_62 : BitVec 32 := 1#32
  let c0_i32_29 : BitVec 32 := 0#32
  let c2_i32 : BitVec 32 := 2#32
  let v53 : BitVec 32 := Scalar.remsi c0_i32_29 c2_i32
  let v107 : BitVec 32 := Scalar.subi c1_i32_62 v53
  let v121 : Index := Scalar.indexCast v107
  let c256_69 : Index := 256#32
  let c0_70 : Index := 0#32
  ![v121.toNat, 256, 0]
def k2_off7 : Fin 3 → Nat :=
  let c1_i32_62 : BitVec 32 := 1#32
  let c0_i32_29 : BitVec 32 := 0#32
  let c2_i32 : BitVec 32 := 2#32
  let v53 : BitVec 32 := Scalar.remsi c0_i32_29 c2_i32
  let v107 : BitVec 32 := Scalar.subi c1_i32_62 v53
  let v130 : Index := Scalar.indexCast v107
  let c512_73 : Index := 512#32
  let c0_74 : Index := 0#32
  ![v130.toNat, 512, 0]
def k2_off8 : Fin 3 → Nat :=
  let c0_i32_29 : BitVec 32 := 0#32
  let c2_i32 : BitVec 32 := 2#32
  let v53 : BitVec 32 := Scalar.remsi c0_i32_29 c2_i32
  let v61 : Index := Scalar.indexCast v53
  let c0_35 : Index := 0#32
  let c0_36 : Index := 0#32
  ![v61.toNat, 0, 0]
def k2_off9 : Fin 3 → Nat :=
  let c0_56 : Index := 0#32
  let c0_57 : Index := 0#32
  let c0_i32_29 : BitVec 32 := 0#32
  let c1024_i32_55 : BitVec 32 := 1024#32
  let v96 : BitVec 32 := Scalar.muli c0_i32_29 c1024_i32_55
  let v97 : Index := Scalar.indexCast v96
  ![0, 0, v97.toNat]
def k2_off10 : Fin 3 → Nat :=
  let c0_59 : Index := 0#32
  let c0_60 : Index := 0#32
  let c0_i32_29 : BitVec 32 := 0#32
  let c1024_i32_58 : BitVec 32 := 1024#32
  let v102 : BitVec 32 := Scalar.muli c0_i32_29 c1024_i32_58
  let v103 : Index := Scalar.indexCast v102
  ![0, 0, v103.toNat]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x256x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S24x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S24x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x3x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x12x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![2], ![false]⟩

def k3_off1 : Fin 3 → Nat :=
  let c0_7 : Index := 0#32
  let c0_8 : Index := 0#32
  let c0_i32_6 : BitVec 32 := 0#32
  let c256_i32 : BitVec 32 := 256#32
  let v21 : BitVec 32 := Scalar.muli c0_i32_6 c256_i32
  let v22 : Index := Scalar.indexCast v21
  ![0, 0, v22.toNat]
def k3_off2 : Fin 2 → Nat :=
  let c0_10 : Index := 0#32
  let c0_i32_6 : BitVec 32 := 0#32
  let c256_i32_9 : BitVec 32 := 256#32
  let v26 : BitVec 32 := Scalar.muli c0_i32_6 c256_i32_9
  let v27 : Index := Scalar.indexCast v26
  ![0, v27.toNat]
def k3_cond1 : BitVec 1 :=
  let c0_i32_29 : BitVec 32 := 0#32
  let c1_i32_30 : BitVec 32 := 1#32
  let v54 : BitVec 32 := Scalar.addi c0_i32_29 c1_i32_30
  let c1_i32_31 : BitVec 32 := 1#32
  let v55 : BitVec 1 := Scalar.cmpi .sge v54 c1_i32_31
  let c1_i32_32 : BitVec 32 := 1#32
  let v56 : BitVec 32 := Scalar.addi c0_i32_29 c1_i32_32
  let c0_i32_33 : BitVec 32 := 0#32
  let v57 : BitVec 1 := Scalar.cmpi .slt v56 c0_i32_33
  let v58 : BitVec 1 := Scalar.andi v55 v57
  let v59 : BitVec 32 := Scalar.extui v58
  let c0_i32_34 : BitVec 32 := 0#32
  let v60 : BitVec 1 := Scalar.cmpi .ne v59 c0_i32_34
  v60

def k3_off3 (c_m128_i32 : BitVec 32) : Fin 2 → Nat :=
  let c0_65 : Index := 0#32
  let c0_i32_29 : BitVec 32 := 0#32
  let c1_i32_63 : BitVec 32 := 1#32
  let v108 : BitVec 32 := Scalar.addi c0_i32_29 c1_i32_63
  let c256_i32_64 : BitVec 32 := 256#32
  let v109 : BitVec 32 := Scalar.muli v108 c256_i32_64
  let v110 : BitVec 32 := Scalar.addi v109 c_m128_i32
  let v111 : Index := Scalar.indexCast v110
  ![0, v111.toNat]
def k3_off4 : Fin 3 → Nat :=
  let c1_i32_62 : BitVec 32 := 1#32
  let c0_i32_29 : BitVec 32 := 0#32
  let c2_i32 : BitVec 32 := 2#32
  let v53 : BitVec 32 := Scalar.remsi c0_i32_29 c2_i32
  let v107 : BitVec 32 := Scalar.subi c1_i32_62 v53
  let v115 : Index := Scalar.indexCast v107
  let c0_66 : Index := 0#32
  let c0_67 : Index := 0#32
  ![v115.toNat, 0, 0]
def k3_off5 : Fin 2 → Nat :=
  let c0_68 : Index := 0#32
  let c0_i32_29 : BitVec 32 := 0#32
  let c1_i32_63 : BitVec 32 := 1#32
  let v108 : BitVec 32 := Scalar.addi c0_i32_29 c1_i32_63
  let c256_i32_64 : BitVec 32 := 256#32
  let v109 : BitVec 32 := Scalar.muli v108 c256_i32_64
  let v119 : Index := Scalar.indexCast v109
  ![0, v119.toNat]
def k3_off6 : Fin 3 → Nat :=
  let c1_i32_62 : BitVec 32 := 1#32
  let c0_i32_29 : BitVec 32 := 0#32
  let c2_i32 : BitVec 32 := 2#32
  let v53 : BitVec 32 := Scalar.remsi c0_i32_29 c2_i32
  let v107 : BitVec 32 := Scalar.subi c1_i32_62 v53
  let v121 : Index := Scalar.indexCast v107
  let c256_69 : Index := 256#32
  let c0_70 : Index := 0#32
  ![v121.toNat, 256, 0]
def k3_off7 : Fin 3 → Nat :=
  let c1_i32_62 : BitVec 32 := 1#32
  let c0_i32_29 : BitVec 32 := 0#32
  let c2_i32 : BitVec 32 := 2#32
  let v53 : BitVec 32 := Scalar.remsi c0_i32_29 c2_i32
  let v107 : BitVec 32 := Scalar.subi c1_i32_62 v53
  let v130 : Index := Scalar.indexCast v107
  let c512_73 : Index := 512#32
  let c0_74 : Index := 0#32
  ![v130.toNat, 512, 0]
def k3_off8 : Fin 3 → Nat :=
  let c0_i32_29 : BitVec 32 := 0#32
  let c2_i32 : BitVec 32 := 2#32
  let v53 : BitVec 32 := Scalar.remsi c0_i32_29 c2_i32
  let v61 : Index := Scalar.indexCast v53
  let c0_35 : Index := 0#32
  let c0_36 : Index := 0#32
  ![v61.toNat, 0, 0]
def k3_off9 : Fin 3 → Nat :=
  let c0_56 : Index := 0#32
  let c0_57 : Index := 0#32
  let c0_i32_29 : BitVec 32 := 0#32
  let c256_i32_55 : BitVec 32 := 256#32
  let v96 : BitVec 32 := Scalar.muli c0_i32_29 c256_i32_55
  let v97 : Index := Scalar.indexCast v96
  ![0, 0, v97.toNat]
def k3_off10 : Fin 3 → Nat :=
  let c0_59 : Index := 0#32
  let c0_60 : Index := 0#32
  let c0_i32_29 : BitVec 32 := 0#32
  let c256_i32_58 : BitVec 32 := 256#32
  let v102 : BitVec 32 := Scalar.muli c0_i32_29 c256_i32_58
  let v103 : Index := Scalar.indexCast v102
  ![0, 0, v103.toNat]
def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3x256x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S24x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S24x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x3x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x12x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![2], ![false]⟩

def k4_off1 : Fin 3 → Nat :=
  let c0_7 : Index := 0#32
  let c0_8 : Index := 0#32
  let c0_i32_6 : BitVec 32 := 0#32
  let c64_i32 : BitVec 32 := 64#32
  let v21 : BitVec 32 := Scalar.muli c0_i32_6 c64_i32
  let v22 : Index := Scalar.indexCast v21
  ![0, 0, v22.toNat]
def k4_off2 : Fin 2 → Nat :=
  let c0_10 : Index := 0#32
  let c0_i32_6 : BitVec 32 := 0#32
  let c64_i32_9 : BitVec 32 := 64#32
  let v26 : BitVec 32 := Scalar.muli c0_i32_6 c64_i32_9
  let v27 : Index := Scalar.indexCast v26
  ![0, v27.toNat]
def k4_cond1 : BitVec 1 :=
  let c0_i32_29 : BitVec 32 := 0#32
  let c1_i32_30 : BitVec 32 := 1#32
  let v54 : BitVec 32 := Scalar.addi c0_i32_29 c1_i32_30
  let c1_i32_31 : BitVec 32 := 1#32
  let v55 : BitVec 1 := Scalar.cmpi .sge v54 c1_i32_31
  let c1_i32_32 : BitVec 32 := 1#32
  let v56 : BitVec 32 := Scalar.addi c0_i32_29 c1_i32_32
  let c0_i32_33 : BitVec 32 := 0#32
  let v57 : BitVec 1 := Scalar.cmpi .slt v56 c0_i32_33
  let v58 : BitVec 1 := Scalar.andi v55 v57
  let v59 : BitVec 32 := Scalar.extui v58
  let c0_i32_34 : BitVec 32 := 0#32
  let v60 : BitVec 1 := Scalar.cmpi .ne v59 c0_i32_34
  v60

def k4_off3 (c_m128_i32 : BitVec 32) : Fin 2 → Nat :=
  let c0_65 : Index := 0#32
  let c0_i32_29 : BitVec 32 := 0#32
  let c1_i32_63 : BitVec 32 := 1#32
  let v108 : BitVec 32 := Scalar.addi c0_i32_29 c1_i32_63
  let c64_i32_64 : BitVec 32 := 64#32
  let v109 : BitVec 32 := Scalar.muli v108 c64_i32_64
  let v110 : BitVec 32 := Scalar.addi v109 c_m128_i32
  let v111 : Index := Scalar.indexCast v110
  ![0, v111.toNat]
def k4_off4 : Fin 3 → Nat :=
  let c1_i32_62 : BitVec 32 := 1#32
  let c0_i32_29 : BitVec 32 := 0#32
  let c2_i32 : BitVec 32 := 2#32
  let v53 : BitVec 32 := Scalar.remsi c0_i32_29 c2_i32
  let v107 : BitVec 32 := Scalar.subi c1_i32_62 v53
  let v115 : Index := Scalar.indexCast v107
  let c0_66 : Index := 0#32
  let c0_67 : Index := 0#32
  ![v115.toNat, 0, 0]
def k4_off5 : Fin 2 → Nat :=
  let c0_68 : Index := 0#32
  let c0_i32_29 : BitVec 32 := 0#32
  let c1_i32_63 : BitVec 32 := 1#32
  let v108 : BitVec 32 := Scalar.addi c0_i32_29 c1_i32_63
  let c64_i32_64 : BitVec 32 := 64#32
  let v109 : BitVec 32 := Scalar.muli v108 c64_i32_64
  let v119 : Index := Scalar.indexCast v109
  ![0, v119.toNat]
def k4_off6 : Fin 3 → Nat :=
  let c1_i32_62 : BitVec 32 := 1#32
  let c0_i32_29 : BitVec 32 := 0#32
  let c2_i32 : BitVec 32 := 2#32
  let v53 : BitVec 32 := Scalar.remsi c0_i32_29 c2_i32
  let v107 : BitVec 32 := Scalar.subi c1_i32_62 v53
  let v121 : Index := Scalar.indexCast v107
  let c256_69 : Index := 256#32
  let c0_70 : Index := 0#32
  ![v121.toNat, 256, 0]
def k4_off7 : Fin 3 → Nat :=
  let c1_i32_62 : BitVec 32 := 1#32
  let c0_i32_29 : BitVec 32 := 0#32
  let c2_i32 : BitVec 32 := 2#32
  let v53 : BitVec 32 := Scalar.remsi c0_i32_29 c2_i32
  let v107 : BitVec 32 := Scalar.subi c1_i32_62 v53
  let v130 : Index := Scalar.indexCast v107
  let c512_73 : Index := 512#32
  let c0_74 : Index := 0#32
  ![v130.toNat, 512, 0]
def k4_off8 : Fin 3 → Nat :=
  let c0_i32_29 : BitVec 32 := 0#32
  let c2_i32 : BitVec 32 := 2#32
  let v53 : BitVec 32 := Scalar.remsi c0_i32_29 c2_i32
  let v61 : Index := Scalar.indexCast v53
  let c0_35 : Index := 0#32
  let c0_36 : Index := 0#32
  ![v61.toNat, 0, 0]
def k4_off9 : Fin 3 → Nat :=
  let c0_56 : Index := 0#32
  let c0_57 : Index := 0#32
  let c0_i32_29 : BitVec 32 := 0#32
  let c64_i32_55 : BitVec 32 := 64#32
  let v96 : BitVec 32 := Scalar.muli c0_i32_29 c64_i32_55
  let v97 : Index := Scalar.indexCast v96
  ![0, 0, v97.toNat]
def k4_off10 : Fin 3 → Nat :=
  let c0_59 : Index := 0#32
  let c0_60 : Index := 0#32
  let c0_i32_29 : BitVec 32 := 0#32
  let c64_i32_58 : BitVec 32 := 64#32
  let v102 : BitVec 32 := Scalar.muli c0_i32_29 c64_i32_58
  let v103 : Index := Scalar.indexCast v102
  ![0, 0, v103.toNat]
def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x256x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3x256x768 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S24x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S24x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x3x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x12x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]
-- ==== ReferenceIdeal.lean ====
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S2x256x8x8 : Shape := ⟨4, ![2, 256, 8, 8]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩
abbrev S2x256x130x130 : Shape := ⟨4, ![2, 256, 130, 130]⟩
abbrev S1x256x1x1 : Shape := ⟨4, ![1, 256, 1, 1]⟩
abbrev S256x256x1x1 : Shape := ⟨4, ![256, 256, 1, 1]⟩
abbrev S256x256 : Shape := ⟨2, ![256, 256]⟩
abbrev S2x128x128x256 : Shape := ⟨4, ![2, 128, 128, 256]⟩
abbrev S3x256 : Shape := ⟨2, ![3, 256]⟩
abbrev S2x128x128x3 : Shape := ⟨4, ![2, 128, 128, 3]⟩
abbrev S2x3x128x128 : Shape := ⟨4, ![2, 3, 128, 128]⟩
abbrev S1x3x1x1 : Shape := ⟨4, ![1, 3, 1, 1]⟩
abbrev S12x256 : Shape := ⟨2, ![12, 256]⟩
abbrev S2x128x128x12 : Shape := ⟨4, ![2, 128, 128, 12]⟩
abbrev S2x12x128x128 : Shape := ⟨4, ![2, 12, 128, 128]⟩
abbrev S1x12x1x1 : Shape := ⟨4, ![1, 12, 1, 1]⟩
abbrev S2x256x66x66 : Shape := ⟨4, ![2, 256, 66, 66]⟩
abbrev S2x64x64x256 : Shape := ⟨4, ![2, 64, 64, 256]⟩
abbrev S2x64x64x3 : Shape := ⟨4, ![2, 64, 64, 3]⟩
abbrev S2x3x64x64 : Shape := ⟨4, ![2, 3, 64, 64]⟩
abbrev S2x64x64x12 : Shape := ⟨4, ![2, 64, 64, 12]⟩
abbrev S2x12x64x64 : Shape := ⟨4, ![2, 12, 64, 64]⟩
abbrev S2x256x34x34 : Shape := ⟨4, ![2, 256, 34, 34]⟩
abbrev S2x32x32x256 : Shape := ⟨4, ![2, 32, 32, 256]⟩
abbrev S2x32x32x3 : Shape := ⟨4, ![2, 32, 32, 3]⟩
abbrev S2x3x32x32 : Shape := ⟨4, ![2, 3, 32, 32]⟩
abbrev S2x32x32x12 : Shape := ⟨4, ![2, 32, 32, 12]⟩
abbrev S2x12x32x32 : Shape := ⟨4, ![2, 12, 32, 32]⟩
abbrev S2x256x18x18 : Shape := ⟨4, ![2, 256, 18, 18]⟩
abbrev S2x16x16x256 : Shape := ⟨4, ![2, 16, 16, 256]⟩
abbrev S2x16x16x3 : Shape := ⟨4, ![2, 16, 16, 3]⟩
abbrev S2x3x16x16 : Shape := ⟨4, ![2, 3, 16, 16]⟩
abbrev S2x16x16x12 : Shape := ⟨4, ![2, 16, 16, 12]⟩
abbrev S2x12x16x16 : Shape := ⟨4, ![2, 12, 16, 16]⟩
abbrev S2x256x10x10 : Shape := ⟨4, ![2, 256, 10, 10]⟩
abbrev S2x8x8x256 : Shape := ⟨4, ![2, 8, 8, 256]⟩
abbrev S2x8x8x3 : Shape := ⟨4, ![2, 8, 8, 3]⟩
abbrev S2x3x8x8 : Shape := ⟨4, ![2, 3, 8, 8]⟩
abbrev S2x8x8x12 : Shape := ⟨4, ![2, 8, 8, 12]⟩
abbrev S2x12x8x8 : Shape := ⟨4, ![2, 12, 8, 8]⟩

abbrev nBuf : Space → Nat
  | .hbm => 381
  | .vmem => 0
  | .smem => 0
  | _ => 0

abbrev hbmTy0_0 (i : Nat) : BufTy := match i % 128 with
  | 0 => ⟨S2x256x128x128, .f32⟩
  | 1 => ⟨S2x256x64x64, .f32⟩
  | 2 => ⟨S2x256x32x32, .f32⟩
  | 3 => ⟨S2x256x16x16, .f32⟩
  | 4 => ⟨S2x256x8x8, .f32⟩
  | 5 => ⟨S256x256x3x3, .f32⟩
  | 6 => ⟨S256, .f32⟩
  | 7 => ⟨S3x256x1x1, .f32⟩
  | 8 => ⟨S3, .f32⟩
  | 9 => ⟨S12x256x1x1, .f32⟩
  | 10 => ⟨S12, .f32⟩
  | 11 => ⟨S_, .i32⟩
  | 12 => ⟨S_, .f32⟩
  | 13 => ⟨S2x256x130x130, .f32⟩
  | 14 => ⟨S1x256x1x1, .f32⟩
  | 15 => ⟨S256x256x1x1, .f32⟩
  | 16 => ⟨S256x256, .f32⟩
  | 17 => ⟨S2x256x128x128, .f32⟩
  | 18 => ⟨S2x128x128x256, .f32⟩
  | 19 => ⟨S2x256x128x128, .f32⟩
  | 20 => ⟨S2x256x128x128, .f32⟩
  | 21 => ⟨S2x256x128x128, .f32⟩
  | 22 => ⟨S256x256x1x1, .f32⟩
  | 23 => ⟨S256x256, .f32⟩
  | 24 => ⟨S2x256x128x128, .f32⟩
  | 25 => ⟨S2x128x128x256, .f32⟩
  | 26 => ⟨S2x256x128x128, .f32⟩
  | 27 => ⟨S2x256x128x128, .f32⟩
  | 28 => ⟨S256x256x1x1, .f32⟩
  | 29 => ⟨S256x256, .f32⟩
  | 30 => ⟨S2x256x128x128, .f32⟩
  | 31 => ⟨S2x128x128x256, .f32⟩
  | 32 => ⟨S2x256x128x128, .f32⟩
  | 33 => ⟨S2x256x128x128, .f32⟩
  | 34 => ⟨S256x256x1x1, .f32⟩
  | 35 => ⟨S256x256, .f32⟩
  | 36 => ⟨S2x256x128x128, .f32⟩
  | 37 => ⟨S2x128x128x256, .f32⟩
  | 38 => ⟨S2x256x128x128, .f32⟩
  | 39 => ⟨S2x256x128x128, .f32⟩
  | 40 => ⟨S256x256x1x1, .f32⟩
  | 41 => ⟨S256x256, .f32⟩
  | 42 => ⟨S2x256x128x128, .f32⟩
  | 43 => ⟨S2x128x128x256, .f32⟩
  | 44 => ⟨S2x256x128x128, .f32⟩
  | 45 => ⟨S2x256x128x128, .f32⟩
  | 46 => ⟨S256x256x1x1, .f32⟩
  | 47 => ⟨S256x256, .f32⟩
  | 48 => ⟨S2x256x128x128, .f32⟩
  | 49 => ⟨S2x128x128x256, .f32⟩
  | 50 => ⟨S2x256x128x128, .f32⟩
  | 51 => ⟨S2x256x128x128, .f32⟩
  | 52 => ⟨S256x256x1x1, .f32⟩
  | 53 => ⟨S256x256, .f32⟩
  | 54 => ⟨S2x256x128x128, .f32⟩
  | 55 => ⟨S2x128x128x256, .f32⟩
  | 56 => ⟨S2x256x128x128, .f32⟩
  | 57 => ⟨S2x256x128x128, .f32⟩
  | 58 => ⟨S256x256x1x1, .f32⟩
  | 59 => ⟨S256x256, .f32⟩
  | 60 => ⟨S2x256x128x128, .f32⟩
  | 61 => ⟨S2x128x128x256, .f32⟩
  | 62 => ⟨S2x256x128x128, .f32⟩
  | 63 => ⟨S2x256x128x128, .f32⟩
  | 64 => ⟨S256x256x1x1, .f32⟩
  | 65 => ⟨S256x256, .f32⟩
  | 66 => ⟨S2x256x128x128, .f32⟩
  | 67 => ⟨S2x128x128x256, .f32⟩
  | 68 => ⟨S2x256x128x128, .f32⟩
  | 69 => ⟨S2x256x128x128, .f32⟩
  | 70 => ⟨S_, .f32⟩
  | 71 => ⟨S2x256x128x128, .f32⟩
  | 72 => ⟨S2x256x128x128, .f32⟩
  | 73 => ⟨S3x256, .f32⟩
  | 74 => ⟨S2x128x128x3, .f32⟩
  | 75 => ⟨S2x3x128x128, .f32⟩
  | 76 => ⟨S1x3x1x1, .f32⟩
  | 77 => ⟨S2x3x128x128, .f32⟩
  | 78 => ⟨S2x3x128x128, .f32⟩
  | 79 => ⟨S12x256, .f32⟩
  | 80 => ⟨S2x128x128x12, .f32⟩
  | 81 => ⟨S2x12x128x128, .f32⟩
  | 82 => ⟨S1x12x1x1, .f32⟩
  | 83 => ⟨S2x12x128x128, .f32⟩
  | 84 => ⟨S2x12x128x128, .f32⟩
  | 85 => ⟨S_, .i32⟩
  | 86 => ⟨S_, .f32⟩
  | 87 => ⟨S2x256x66x66, .f32⟩
  | 88 => ⟨S1x256x1x1, .f32⟩
  | 89 => ⟨S256x256x1x1, .f32⟩
  | 90 => ⟨S256x256, .f32⟩
  | 91 => ⟨S2x256x64x64, .f32⟩
  | 92 => ⟨S2x64x64x256, .f32⟩
  | 93 => ⟨S2x256x64x64, .f32⟩
  | 94 => ⟨S2x256x64x64, .f32⟩
  | 95 => ⟨S2x256x64x64, .f32⟩
  | 96 => ⟨S256x256x1x1, .f32⟩
  | 97 => ⟨S256x256, .f32⟩
  | 98 => ⟨S2x256x64x64, .f32⟩
  | 99 => ⟨S2x64x64x256, .f32⟩
  | 100 => ⟨S2x256x64x64, .f32⟩
  | 101 => ⟨S2x256x64x64, .f32⟩
  | 102 => ⟨S256x256x1x1, .f32⟩
  | 103 => ⟨S256x256, .f32⟩
  | 104 => ⟨S2x256x64x64, .f32⟩
  | 105 => ⟨S2x64x64x256, .f32⟩
  | 106 => ⟨S2x256x64x64, .f32⟩
  | 107 => ⟨S2x256x64x64, .f32⟩
  | 108 => ⟨S256x256x1x1, .f32⟩
  | 109 => ⟨S256x256, .f32⟩
  | 110 => ⟨S2x256x64x64, .f32⟩
  | 111 => ⟨S2x64x64x256, .f32⟩
  | 112 => ⟨S2x256x64x64, .f32⟩
  | 113 => ⟨S2x256x64x64, .f32⟩
  | 114 => ⟨S256x256x1x1, .f32⟩
  | 115 => ⟨S256x256, .f32⟩
  | 116 => ⟨S2x256x64x64, .f32⟩
  | 117 => ⟨S2x64x64x256, .f32⟩
  | 118 => ⟨S2x256x64x64, .f32⟩
  | 119 => ⟨S2x256x64x64, .f32⟩
  | 120 => ⟨S256x256x1x1, .f32⟩
  | 121 => ⟨S256x256, .f32⟩
  | 122 => ⟨S2x256x64x64, .f32⟩
  | 123 => ⟨S2x64x64x256, .f32⟩
  | 124 => ⟨S2x256x64x64, .f32⟩
  | 125 => ⟨S2x256x64x64, .f32⟩
  | 126 => ⟨S256x256x1x1, .f32⟩
  | 127 => ⟨S256x256, .f32⟩
  | _ => ⟨S2x256x128x128, .f32⟩

abbrev hbmTy0_1 (i : Nat) : BufTy := match i % 128 with
  | 0 => ⟨S2x256x64x64, .f32⟩
  | 1 => ⟨S2x64x64x256, .f32⟩
  | 2 => ⟨S2x256x64x64, .f32⟩
  | 3 => ⟨S2x256x64x64, .f32⟩
  | 4 => ⟨S256x256x1x1, .f32⟩
  | 5 => ⟨S256x256, .f32⟩
  | 6 => ⟨S2x256x64x64, .f32⟩
  | 7 => ⟨S2x64x64x256, .f32⟩
  | 8 => ⟨S2x256x64x64, .f32⟩
  | 9 => ⟨S2x256x64x64, .f32⟩
  | 10 => ⟨S256x256x1x1, .f32⟩
  | 11 => ⟨S256x256, .f32⟩
  | 12 => ⟨S2x256x64x64, .f32⟩
  | 13 => ⟨S2x64x64x256, .f32⟩
  | 14 => ⟨S2x256x64x64, .f32⟩
  | 15 => ⟨S2x256x64x64, .f32⟩
  | 16 => ⟨S_, .f32⟩
  | 17 => ⟨S2x256x64x64, .f32⟩
  | 18 => ⟨S2x256x64x64, .f32⟩
  | 19 => ⟨S3x256, .f32⟩
  | 20 => ⟨S2x64x64x3, .f32⟩
  | 21 => ⟨S2x3x64x64, .f32⟩
  | 22 => ⟨S1x3x1x1, .f32⟩
  | 23 => ⟨S2x3x64x64, .f32⟩
  | 24 => ⟨S2x3x64x64, .f32⟩
  | 25 => ⟨S12x256, .f32⟩
  | 26 => ⟨S2x64x64x12, .f32⟩
  | 27 => ⟨S2x12x64x64, .f32⟩
  | 28 => ⟨S1x12x1x1, .f32⟩
  | 29 => ⟨S2x12x64x64, .f32⟩
  | 30 => ⟨S2x12x64x64, .f32⟩
  | 31 => ⟨S_, .i32⟩
  | 32 => ⟨S_, .f32⟩
  | 33 => ⟨S2x256x34x34, .f32⟩
  | 34 => ⟨S1x256x1x1, .f32⟩
  | 35 => ⟨S256x256x1x1, .f32⟩
  | 36 => ⟨S256x256, .f32⟩
  | 37 => ⟨S2x256x32x32, .f32⟩
  | 38 => ⟨S2x32x32x256, .f32⟩
  | 39 => ⟨S2x256x32x32, .f32⟩
  | 40 => ⟨S2x256x32x32, .f32⟩
  | 41 => ⟨S2x256x32x32, .f32⟩
  | 42 => ⟨S256x256x1x1, .f32⟩
  | 43 => ⟨S256x256, .f32⟩
  | 44 => ⟨S2x256x32x32, .f32⟩
  | 45 => ⟨S2x32x32x256, .f32⟩
  | 46 => ⟨S2x256x32x32, .f32⟩
  | 47 => ⟨S2x256x32x32, .f32⟩
  | 48 => ⟨S256x256x1x1, .f32⟩
  | 49 => ⟨S256x256, .f32⟩
  | 50 => ⟨S2x256x32x32, .f32⟩
  | 51 => ⟨S2x32x32x256, .f32⟩
  | 52 => ⟨S2x256x32x32, .f32⟩
  | 53 => ⟨S2x256x32x32, .f32⟩
  | 54 => ⟨S256x256x1x1, .f32⟩
  | 55 => ⟨S256x256, .f32⟩
  | 56 => ⟨S2x256x32x32, .f32⟩
  | 57 => ⟨S2x32x32x256, .f32⟩
  | 58 => ⟨S2x256x32x32, .f32⟩
  | 59 => ⟨S2x256x32x32, .f32⟩
  | 60 => ⟨S256x256x1x1, .f32⟩
  | 61 => ⟨S256x256, .f32⟩
  | 62 => ⟨S2x256x32x32, .f32⟩
  | 63 => ⟨S2x32x32x256, .f32⟩
  | 64 => ⟨S2x256x32x32, .f32⟩
  | 65 => ⟨S2x256x32x32, .f32⟩
  | 66 => ⟨S256x256x1x1, .f32⟩
  | 67 => ⟨S256x256, .f32⟩
  | 68 => ⟨S2x256x32x32, .f32⟩
  | 69 => ⟨S2x32x32x256, .f32⟩
  | 70 => ⟨S2x256x32x32, .f32⟩
  | 71 => ⟨S2x256x32x32, .f32⟩
  | 72 => ⟨S256x256x1x1, .f32⟩
  | 73 => ⟨S256x256, .f32⟩
  | 74 => ⟨S2x256x32x32, .f32⟩
  | 75 => ⟨S2x32x32x256, .f32⟩
  | 76 => ⟨S2x256x32x32, .f32⟩
  | 77 => ⟨S2x256x32x32, .f32⟩
  | 78 => ⟨S256x256x1x1, .f32⟩
  | 79 => ⟨S256x256, .f32⟩
  | 80 => ⟨S2x256x32x32, .f32⟩
  | 81 => ⟨S2x32x32x256, .f32⟩
  | 82 => ⟨S2x256x32x32, .f32⟩
  | 83 => ⟨S2x256x32x32, .f32⟩
  | 84 => ⟨S256x256x1x1, .f32⟩
  | 85 => ⟨S256x256, .f32⟩
  | 86 => ⟨S2x256x32x32, .f32⟩
  | 87 => ⟨S2x32x32x256, .f32⟩
  | 88 => ⟨S2x256x32x32, .f32⟩
  | 89 => ⟨S2x256x32x32, .f32⟩
  | 90 => ⟨S_, .f32⟩
  | 91 => ⟨S2x256x32x32, .f32⟩
  | 92 => ⟨S2x256x32x32, .f32⟩
  | 93 => ⟨S3x256, .f32⟩
  | 94 => ⟨S2x32x32x3, .f32⟩
  | 95 => ⟨S2x3x32x32, .f32⟩
  | 96 => ⟨S1x3x1x1, .f32⟩
  | 97 => ⟨S2x3x32x32, .f32⟩
  | 98 => ⟨S2x3x32x32, .f32⟩
  | 99 => ⟨S12x256, .f32⟩
  | 100 => ⟨S2x32x32x12, .f32⟩
  | 101 => ⟨S2x12x32x32, .f32⟩
  | 102 => ⟨S1x12x1x1, .f32⟩
  | 103 => ⟨S2x12x32x32, .f32⟩
  | 104 => ⟨S2x12x32x32, .f32⟩
  | 105 => ⟨S_, .i32⟩
  | 106 => ⟨S_, .f32⟩
  | 107 => ⟨S2x256x18x18, .f32⟩
  | 108 => ⟨S1x256x1x1, .f32⟩
  | 109 => ⟨S256x256x1x1, .f32⟩
  | 110 => ⟨S256x256, .f32⟩
  | 111 => ⟨S2x256x16x16, .f32⟩
  | 112 => ⟨S2x16x16x256, .f32⟩
  | 113 => ⟨S2x256x16x16, .f32⟩
  | 114 => ⟨S2x256x16x16, .f32⟩
  | 115 => ⟨S2x256x16x16, .f32⟩
  | 116 => ⟨S256x256x1x1, .f32⟩
  | 117 => ⟨S256x256, .f32⟩
  | 118 => ⟨S2x256x16x16, .f32⟩
  | 119 => ⟨S2x16x16x256, .f32⟩
  | 120 => ⟨S2x256x16x16, .f32⟩
  | 121 => ⟨S2x256x16x16, .f32⟩
  | 122 => ⟨S256x256x1x1, .f32⟩
  | 123 => ⟨S256x256, .f32⟩
  | 124 => ⟨S2x256x16x16, .f32⟩
  | 125 => ⟨S2x16x16x256, .f32⟩
  | 126 => ⟨S2x256x16x16, .f32⟩
  | 127 => ⟨S2x256x16x16, .f32⟩
  | _ => ⟨S2x256x128x128, .f32⟩

abbrev hbmTy0_2 (i : Nat) : BufTy := match i % 128 with
  | 0 => ⟨S256x256x1x1, .f32⟩
  | 1 => ⟨S256x256, .f32⟩
  | 2 => ⟨S2x256x16x16, .f32⟩
  | 3 => ⟨S2x16x16x256, .f32⟩
  | 4 => ⟨S2x256x16x16, .f32⟩
  | 5 => ⟨S2x256x16x16, .f32⟩
  | 6 => ⟨S256x256x1x1, .f32⟩
  | 7 => ⟨S256x256, .f32⟩
  | 8 => ⟨S2x256x16x16, .f32⟩
  | 9 => ⟨S2x16x16x256, .f32⟩
  | 10 => ⟨S2x256x16x16, .f32⟩
  | 11 => ⟨S2x256x16x16, .f32⟩
  | 12 => ⟨S256x256x1x1, .f32⟩
  | 13 => ⟨S256x256, .f32⟩
  | 14 => ⟨S2x256x16x16, .f32⟩
  | 15 => ⟨S2x16x16x256, .f32⟩
  | 16 => ⟨S2x256x16x16, .f32⟩
  | 17 => ⟨S2x256x16x16, .f32⟩
  | 18 => ⟨S256x256x1x1, .f32⟩
  | 19 => ⟨S256x256, .f32⟩
  | 20 => ⟨S2x256x16x16, .f32⟩
  | 21 => ⟨S2x16x16x256, .f32⟩
  | 22 => ⟨S2x256x16x16, .f32⟩
  | 23 => ⟨S2x256x16x16, .f32⟩
  | 24 => ⟨S256x256x1x1, .f32⟩
  | 25 => ⟨S256x256, .f32⟩
  | 26 => ⟨S2x256x16x16, .f32⟩
  | 27 => ⟨S2x16x16x256, .f32⟩
  | 28 => ⟨S2x256x16x16, .f32⟩
  | 29 => ⟨S2x256x16x16, .f32⟩
  | 30 => ⟨S256x256x1x1, .f32⟩
  | 31 => ⟨S256x256, .f32⟩
  | 32 => ⟨S2x256x16x16, .f32⟩
  | 33 => ⟨S2x16x16x256, .f32⟩
  | 34 => ⟨S2x256x16x16, .f32⟩
  | 35 => ⟨S2x256x16x16, .f32⟩
  | 36 => ⟨S_, .f32⟩
  | 37 => ⟨S2x256x16x16, .f32⟩
  | 38 => ⟨S2x256x16x16, .f32⟩
  | 39 => ⟨S3x256, .f32⟩
  | 40 => ⟨S2x16x16x3, .f32⟩
  | 41 => ⟨S2x3x16x16, .f32⟩
  | 42 => ⟨S1x3x1x1, .f32⟩
  | 43 => ⟨S2x3x16x16, .f32⟩
  | 44 => ⟨S2x3x16x16, .f32⟩
  | 45 => ⟨S12x256, .f32⟩
  | 46 => ⟨S2x16x16x12, .f32⟩
  | 47 => ⟨S2x12x16x16, .f32⟩
  | 48 => ⟨S1x12x1x1, .f32⟩
  | 49 => ⟨S2x12x16x16, .f32⟩
  | 50 => ⟨S2x12x16x16, .f32⟩
  | 51 => ⟨S_, .i32⟩
  | 52 => ⟨S_, .f32⟩
  | 53 => ⟨S2x256x10x10, .f32⟩
  | 54 => ⟨S1x256x1x1, .f32⟩
  | 55 => ⟨S256x256x1x1, .f32⟩
  | 56 => ⟨S256x256, .f32⟩
  | 57 => ⟨S2x256x8x8, .f32⟩
  | 58 => ⟨S2x8x8x256, .f32⟩
  | 59 => ⟨S2x256x8x8, .f32⟩
  | 60 => ⟨S2x256x8x8, .f32⟩
  | 61 => ⟨S2x256x8x8, .f32⟩
  | 62 => ⟨S256x256x1x1, .f32⟩
  | 63 => ⟨S256x256, .f32⟩
  | 64 => ⟨S2x256x8x8, .f32⟩
  | 65 => ⟨S2x8x8x256, .f32⟩
  | 66 => ⟨S2x256x8x8, .f32⟩
  | 67 => ⟨S2x256x8x8, .f32⟩
  | 68 => ⟨S256x256x1x1, .f32⟩
  | 69 => ⟨S256x256, .f32⟩
  | 70 => ⟨S2x256x8x8, .f32⟩
  | 71 => ⟨S2x8x8x256, .f32⟩
  | 72 => ⟨S2x256x8x8, .f32⟩
  | 73 => ⟨S2x256x8x8, .f32⟩
  | 74 => ⟨S256x256x1x1, .f32⟩
  | 75 => ⟨S256x256, .f32⟩
  | 76 => ⟨S2x256x8x8, .f32⟩
  | 77 => ⟨S2x8x8x256, .f32⟩
  | 78 => ⟨S2x256x8x8, .f32⟩
  | 79 => ⟨S2x256x8x8, .f32⟩
  | 80 => ⟨S256x256x1x1, .f32⟩
  | 81 => ⟨S256x256, .f32⟩
  | 82 => ⟨S2x256x8x8, .f32⟩
  | 83 => ⟨S2x8x8x256, .f32⟩
  | 84 => ⟨S2x256x8x8, .f32⟩
  | 85 => ⟨S2x256x8x8, .f32⟩
  | 86 => ⟨S256x256x1x1, .f32⟩
  | 87 => ⟨S256x256, .f32⟩
  | 88 => ⟨S2x256x8x8, .f32⟩
  | 89 => ⟨S2x8x8x256, .f32⟩
  | 90 => ⟨S2x256x8x8, .f32⟩
  | 91 => ⟨S2x256x8x8, .f32⟩
  | 92 => ⟨S256x256x1x1, .f32⟩
  | 93 => ⟨S256x256, .f32⟩
  | 94 => ⟨S2x256x8x8, .f32⟩
  | 95 => ⟨S2x8x8x256, .f32⟩
  | 96 => ⟨S2x256x8x8, .f32⟩
  | 97 => ⟨S2x256x8x8, .f32⟩
  | 98 => ⟨S256x256x1x1, .f32⟩
  | 99 => ⟨S256x256, .f32⟩
  | 100 => ⟨S2x256x8x8, .f32⟩
  | 101 => ⟨S2x8x8x256, .f32⟩
  | 102 => ⟨S2x256x8x8, .f32⟩
  | 103 => ⟨S2x256x8x8, .f32⟩
  | 104 => ⟨S256x256x1x1, .f32⟩
  | 105 => ⟨S256x256, .f32⟩
  | 106 => ⟨S2x256x8x8, .f32⟩
  | 107 => ⟨S2x8x8x256, .f32⟩
  | 108 => ⟨S2x256x8x8, .f32⟩
  | 109 => ⟨S2x256x8x8, .f32⟩
  | 110 => ⟨S_, .f32⟩
  | 111 => ⟨S2x256x8x8, .f32⟩
  | 112 => ⟨S2x256x8x8, .f32⟩
  | 113 => ⟨S3x256, .f32⟩
  | 114 => ⟨S2x8x8x3, .f32⟩
  | 115 => ⟨S2x3x8x8, .f32⟩
  | 116 => ⟨S1x3x1x1, .f32⟩
  | 117 => ⟨S2x3x8x8, .f32⟩
  | 118 => ⟨S2x3x8x8, .f32⟩
  | 119 => ⟨S12x256, .f32⟩
  | 120 => ⟨S2x8x8x12, .f32⟩
  | 121 => ⟨S2x12x8x8, .f32⟩
  | 122 => ⟨S1x12x1x1, .f32⟩
  | 123 => ⟨S2x12x8x8, .f32⟩
  | 124 => ⟨S2x12x8x8, .f32⟩
  | _ => ⟨S2x256x128x128, .f32⟩

abbrev hbmTy (i : Nat) : BufTy := match i / 128 with
  | 0 => hbmTy0_0 i
  | 1 => hbmTy0_1 i
  | 2 => hbmTy0_2 i
  | _ => ⟨S2x256x128x128, .f32⟩

abbrev bufTy : (tb : Table) → Fin (tcTables nBuf tb) → BufTy
  | .hbm, ⟨i, _⟩ => hbmTy i
  | _, _ => ⟨S2x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_c_0 : Ref sig .tc := ⟨.hbm, 85, rfl⟩
abbrev main_call1_v0 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_cst_1 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_c_2 : Ref sig .tc := ⟨.hbm, 159, rfl⟩
abbrev main_call2_v0 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_cst_3 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_c_4 : Ref sig .tc := ⟨.hbm, 233, rfl⟩
abbrev main_call3_v0 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_cst_5 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_c_6 : Ref sig .tc := ⟨.hbm, 307, rfl⟩
abbrev main_call4_v0 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev main_v305 : Ref sig .tc := ⟨.hbm, 330, rfl⟩
abbrev main_v306 : Ref sig .tc := ⟨.hbm, 331, rfl⟩
abbrev main_v307 : Ref sig .tc := ⟨.hbm, 332, rfl⟩
abbrev main_v308 : Ref sig .tc := ⟨.hbm, 333, rfl⟩
abbrev main_v309 : Ref sig .tc := ⟨.hbm, 334, rfl⟩
abbrev main_v310 : Ref sig .tc := ⟨.hbm, 335, rfl⟩
abbrev main_v311 : Ref sig .tc := ⟨.hbm, 336, rfl⟩
abbrev main_v312 : Ref sig .tc := ⟨.hbm, 337, rfl⟩
abbrev main_v313 : Ref sig .tc := ⟨.hbm, 338, rfl⟩
abbrev main_v314 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_v321 : Ref sig .tc := ⟨.hbm, 346, rfl⟩
abbrev main_v322 : Ref sig .tc := ⟨.hbm, 347, rfl⟩
abbrev main_v323 : Ref sig .tc := ⟨.hbm, 348, rfl⟩
abbrev main_v324 : Ref sig .tc := ⟨.hbm, 349, rfl⟩
abbrev main_v325 : Ref sig .tc := ⟨.hbm, 350, rfl⟩
abbrev main_v326 : Ref sig .tc := ⟨.hbm, 351, rfl⟩
abbrev main_v327 : Ref sig .tc := ⟨.hbm, 352, rfl⟩
abbrev main_v328 : Ref sig .tc := ⟨.hbm, 353, rfl⟩
abbrev main_v329 : Ref sig .tc := ⟨.hbm, 354, rfl⟩
abbrev main_v330 : Ref sig .tc := ⟨.hbm, 355, rfl⟩
abbrev main_v331 : Ref sig .tc := ⟨.hbm, 356, rfl⟩
abbrev main_v332 : Ref sig .tc := ⟨.hbm, 357, rfl⟩
abbrev main_v333 : Ref sig .tc := ⟨.hbm, 358, rfl⟩
abbrev main_v334 : Ref sig .tc := ⟨.hbm, 359, rfl⟩
abbrev main_v335 : Ref sig .tc := ⟨.hbm, 360, rfl⟩
abbrev main_v336 : Ref sig .tc := ⟨.hbm, 361, rfl⟩
abbrev main_v337 : Ref sig .tc := ⟨.hbm, 362, rfl⟩
abbrev main_v338 : Ref sig .tc := ⟨.hbm, 363, rfl⟩
abbrev main_v339 : Ref sig .tc := ⟨.hbm, 364, rfl⟩
abbrev main_v340 : Ref sig .tc := ⟨.hbm, 365, rfl⟩
abbrev main_cst_7 : Ref sig .tc := ⟨.hbm, 366, rfl⟩
abbrev main_v341 : Ref sig .tc := ⟨.hbm, 367, rfl⟩
abbrev main_v342 : Ref sig .tc := ⟨.hbm, 368, rfl⟩
abbrev main_v343 : Ref sig .tc := ⟨.hbm, 369, rfl⟩
abbrev main_v344 : Ref sig .tc := ⟨.hbm, 370, rfl⟩
abbrev main_v345 : Ref sig .tc := ⟨.hbm, 371, rfl⟩
abbrev main_v346 : Ref sig .tc := ⟨.hbm, 372, rfl⟩
abbrev main_v347 : Ref sig .tc := ⟨.hbm, 373, rfl⟩
abbrev main_v348 : Ref sig .tc := ⟨.hbm, 374, rfl⟩
abbrev main_v349 : Ref sig .tc := ⟨.hbm, 375, rfl⟩
abbrev main_v350 : Ref sig .tc := ⟨.hbm, 376, rfl⟩
abbrev main_v351 : Ref sig .tc := ⟨.hbm, 377, rfl⟩
abbrev main_v352 : Ref sig .tc := ⟨.hbm, 378, rfl⟩
abbrev main_v353 : Ref sig .tc := ⟨.hbm, 379, rfl⟩
abbrev main_v354 : Ref sig .tc := ⟨.hbm, 380, rfl⟩

abbrev nD : Nat := 1
abbrev τ : Topo := Topo.v7x

variable {F : FTy → Type} [FloatOps F]
-- ==== Proof.Rows.lean ====
/-
  The rows every level of the kernel multiplies, as plain functions of a row and a lane.

  A level's image is `256` rows of `L` lanes, lane `l` the pixel of line `l / W` and column `l % W`. The kernel stacks
  three copies of it: the image shifted down by one line, the image itself and the image shifted up by one line, with
  zeros where the shift leaves the image.
-/
module

public import Idealize.ShloMosaic.Lib.Tactic
public import Idealize.ShloMosaic.Lib.Pipeline.Kit
public import Idealize.ShloMosaic.Lib.Pointwise
public import Idealize.ShloMosaic.Lib.WordCmp

@[expose] public section

noncomputable section

namespace Cert.Proof

open Idealize.ShloMosaic Idealize.ShloMosaic.TcCoe Idealize.SL.Sem

variable {F : FTy → Type} [FloatOps F]

/-- The zero the kernel writes where a shifted image has no pixel. -/
abbrev zeroRow : F .bf16 := Scalar.ofBits .bf16 0x0000#16

/-- A block of the image, read at row `c` and lane `l` and cast to the narrow format. -/
def castAt (L : ℕ) (x : Vec F ⟨3, ![1, 256, L]⟩ .f32) (c l : ℕ) : F .bf16 :=
  if h : c < 256 ∧ l < L then FloatOps.truncf (F := F) (φ := .f32) .bf16 (by decide) (x (ix3 0 ⟨c, h.1⟩ ⟨l, h.2⟩)) else zeroRow

/-- Row `q` of the stack of three at lane `l`. -/
def stackAt (L W : ℕ) (x : ℕ → ℕ → F .bf16) (q l : ℕ) : F .bf16 :=
  if q < 256 then (if l < W then zeroRow else x q (l - W))
  else if q < 512 then x (q - 256) l
  else if l + W < L then x (q - 512) (l + W) else zeroRow

/-- The stack on the lanes of segment `s`, as the block the kernel keeps. -/
def segAt (L W N : ℕ) (x : ℕ → ℕ → F .bf16) (s : ℕ) : Vec F ⟨3, ![1, 768, N]⟩ .bf16 :=
  fun i => stackAt L W x (i 1).val (s * N + (i 2).val)

/-- One of the three weight matrices, as the block a load of it gives. -/
def wtAt (w : Vec F ⟨3, ![3, 256, 768]⟩ .bf16) (d : Fin 3) : Vec F ⟨3, ![1, 256, 768]⟩ .bf16 :=
  fun i => w (ix3 d (i 1) (i 2))

/-- The stack's first third: the image shifted down by one line. -/
theorem stackAt_up (L W : ℕ) (x : ℕ → ℕ → F .bf16) (a : Fin 256) (l : ℕ) :
    stackAt L W x a l = if l < W then zeroRow else x a (l - W) := by
  have := a.isLt
  unfold stackAt; rw [if_pos (by omega)]

/-- The stack's second third: the image. -/
theorem stackAt_mid (L W : ℕ) (x : ℕ → ℕ → F .bf16) (a : Fin 256) (l : ℕ) : stackAt L W x (256 + a) l = x a l := by
  have := a.isLt
  unfold stackAt; rw [if_neg (by omega), if_pos (by omega), Nat.add_sub_cancel_left]

/-- The stack's last third: the image shifted up by one line. -/
theorem stackAt_down (L W : ℕ) (x : ℕ → ℕ → F .bf16) (a : Fin 256) (l : ℕ) :
    stackAt L W x (512 + a) l = if l + W < L then x a (l + W) else zeroRow := by
  have := a.isLt
  unfold stackAt; rw [if_neg (by omega), if_neg (by omega), Nat.add_sub_cancel_left]

/-- A load of a box at unit stride reads the buffer at the box's place. -/
theorem readAt_unit {sig : RefSig} {κ : Kind} {sp : Space} {s : Shape} {e : EltTy} (v : View sig κ sp s e)
    (f : v.ty.Contents (Elt F)) (off size : Fin s.rank → ℕ) (inb : ∀ a, off a + size a ≤ s.size a)
    (j : (⟨s.rank, size⟩ : Shape).Idx) (y : s.Idx) (h : ∀ a, (y a).val = off a + (j a).val) :
    v.readAt (Elt F) (Rect.unit off size inb).toLoadRect f j = v.read (Elt F) f y := by
  rw [View.readAt_apply]
  congr 1
  funext a
  apply Fin.ext
  rw [h a]
  simp [Rect.unit, Rect.toLoadRect]

/-- A load of the whole buffer reads it. -/
theorem readAt_full {sig : RefSig} {κ : Kind} {sp : Space} {s : Shape} {e : EltTy} (v : View sig κ sp s e)
    (f : v.ty.Contents (Elt F)) (off : Fin s.rank → ℕ) (inb : ∀ a, off a + s.size a ≤ s.size a) :
    v.readAt (Elt F) (Rect.unit off s.size inb).toLoadRect f = v.read (Elt F) f :=
  funext fun j => readAt_unit v f off s.size inb j j fun a => by have := inb a; omega

/-- A load of one of the three weight matrices. -/
theorem readAt_wt {sig : RefSig} {κ : Kind} {sp : Space} (v : View sig κ sp ⟨3, ![3, 256, 768]⟩ .bf16)
    (f : v.ty.Contents (Elt F)) (d : Fin 3) (n : ℕ) (hn : n = d) (inb : ∀ a, (![n, 0, 0] : Fin 3 → ℕ) a + (![1, 256, 768] : Fin 3 → ℕ) a ≤ (![3, 256, 768] : Fin 3 → ℕ) a) :
    v.readAt (Elt F) (Rect.unit (s := ⟨3, ![3, 256, 768]⟩) ![n, 0, 0] ![1, 256, 768] inb).toLoadRect f = wtAt (v.read (Elt F) f) d := by
  subst hn
  funext j
  refine readAt_unit (s := ⟨3, ![3, 256, 768]⟩) v f _ _ inb j (ix3 d (j 1) (j 2)) fun a => ?_
  have := (j 0).isLt
  change (j 0).val < 1 at this
  fin_cases a <;> simp
  omega

/-- A store over the whole buffer leaves its payload. -/
theorem read_store_full {sig : RefSig} {κ : Kind} {sp : Space} {s : Shape} {e : EltTy} (v : View sig κ sp s e)
    (f : v.ty.Contents (Elt F)) (off : Fin s.rank → ℕ) (inb : ∀ a, off a + s.size a ≤ s.size a) (w : s.Idx → Elt F e)
    (L : List (View.Piece (Elt F) s e)) : v.read (Elt F) (v.writes (Elt F) f (⟨Rect.unit off s.size inb, w⟩ :: L)) = w := by
  funext j
  refine View.read_writes_cons_hit_of_coords v f (Rect.unit off s.size inb) w L j j fun a => ?_
  have := inb a
  simp [Rect.unit]
  omega

/-- A load of slot `s` whose rows and lanes are the stack on segment `k` reads that segment. -/
theorem readAt_slot {sig : RefSig} {κ : Kind} {sp : Space} {N : ℕ} (v : View sig κ sp ⟨3, ![2, 768, N]⟩ .bf16)
    (f : v.ty.Contents (Elt F)) (L W : ℕ) (x : ℕ → ℕ → F .bf16) (k s : ℕ) (off : Fin 3 → ℕ) (h : off = ![s, 0, 0])
    (inb : ∀ a, off a + (![1, 768, N] : Fin 3 → ℕ) a ≤ (![2, 768, N] : Fin 3 → ℕ) a)
    (hr : ∀ y : (⟨3, ![2, 768, N]⟩ : Shape).Idx, (y 0).val = s → v.read (Elt F) f y = stackAt L W x (y 1).val (k * N + (y 2).val)) :
    v.readAt (Elt F) (Rect.unit (s := ⟨3, ![2, 768, N]⟩) off ![1, 768, N] inb).toLoadRect f = segAt L W N x k := by
  subst h
  funext j
  have hj := (j 0).isLt
  change (j 0).val < 1 at hj
  have hs := inb 0
  change s + 1 ≤ 2 at hs
  rw [readAt_unit (s := ⟨3, ![2, 768, N]⟩) v f _ _ inb j (ix3 ⟨s, hs⟩ (j 1) (j 2)) (by intro a; fin_cases a <;> simp; omega),
    hr _ rfl]
  rfl

/-- Three blocks of rows stored one under the other in slot `s` of a two-slot buffer: the slot read back at any row and
    lane is the function `g` the three blocks are cut from. -/
theorem read_stack {sig : RefSig} {κ : Kind} {sp : Space} {N : ℕ} (v : View sig κ sp ⟨3, ![2, 768, N]⟩ .bf16)
    (f : v.ty.Contents (Elt F)) (s : ℕ) (off0 off1 off2 : Fin 3 → ℕ) (h0 : off0 = ![s, 0, 0]) (h1 : off1 = ![s, 256, 0])
    (h2 : off2 = ![s, 512, 0]) (inb0 : ∀ a, off0 a + (![1, 256, N] : Fin 3 → ℕ) a ≤ (![2, 768, N] : Fin 3 → ℕ) a)
    (inb1 : ∀ a, off1 a + (![1, 256, N] : Fin 3 → ℕ) a ≤ (![2, 768, N] : Fin 3 → ℕ) a)
    (inb2 : ∀ a, off2 a + (![1, 256, N] : Fin 3 → ℕ) a ≤ (![2, 768, N] : Fin 3 → ℕ) a)
    (p0 p1 p2 : Vec F ⟨3, ![1, 256, N]⟩ .bf16) (g : ℕ → ℕ → F .bf16)
    (e0 : ∀ (a : Fin 256) (b : Fin N), p0 (ix3 0 a b) = g a b) (e1 : ∀ (a : Fin 256) (b : Fin N), p1 (ix3 0 a b) = g (256 + a) b)
    (e2 : ∀ (a : Fin 256) (b : Fin N), p2 (ix3 0 a b) = g (512 + a) b)
    (y : (⟨3, ![2, 768, N]⟩ : Shape).Idx) (hy : (y 0).val = s) :
    v.read (Elt F) (v.writes (Elt F) f [⟨Rect.unit (s := ⟨3, ![2, 768, N]⟩) off2 ![1, 256, N] inb2, p2⟩,
      ⟨Rect.unit (s := ⟨3, ![2, 768, N]⟩) off1 ![1, 256, N] inb1, p1⟩, ⟨Rect.unit (s := ⟨3, ![2, 768, N]⟩) off0 ![1, 256, N] inb0, p0⟩]) y
      = g (y 1).val (y 2).val := by
  subst h0 h1 h2
  have hb := (y 2).isLt
  have ha := (y 1).isLt
  change (y 2).val < N at hb
  change (y 1).val < 768 at ha
  by_cases hq2 : 512 ≤ (y 1).val
  · rw [View.read_writes_cons_hit_of_coords v _ _ _ _ (ix3 0 ⟨(y 1).val - 512, by omega⟩ ⟨(y 2).val, hb⟩) y
      (by intro a; fin_cases a <;> simp <;> omega)]
    rw [e2]; simp; congr 1; omega
  rw [View.read_writes_cons_miss_of_axis v _ _ _ _ 1 512 256 rfl rfl rfl (by omega)]
  by_cases hq1 : 256 ≤ (y 1).val
  · rw [View.read_writes_cons_hit_of_coords v _ _ _ _ (ix3 0 ⟨(y 1).val - 256, by omega⟩ ⟨(y 2).val, hb⟩) y
      (by intro a; fin_cases a <;> simp <;> omega)]
    rw [e1]; simp; congr 1; omega
  rw [View.read_writes_cons_miss_of_axis v _ _ _ _ 1 256 256 rfl rfl rfl (by omega)]
  rw [View.read_writes_cons_hit_of_coords v _ _ _ _ (ix3 0 ⟨(y 1).val, by omega⟩ ⟨(y 2).val, hb⟩) y
      (by intro a; fin_cases a <;> simp <;> omega)]
  rw [e0]

/-- Storing in slot `s` leaves the other slot as it was. -/
theorem read_stack_other {sig : RefSig} {κ : Kind} {sp : Space} {N : ℕ} (v : View sig κ sp ⟨3, ![2, 768, N]⟩ .bf16)
    (f : v.ty.Contents (Elt F)) (s : ℕ) (off0 off1 off2 : Fin 3 → ℕ) (h0 : off0 = ![s, 0, 0]) (h1 : off1 = ![s, 256, 0])
    (h2 : off2 = ![s, 512, 0]) (inb0 : ∀ a, off0 a + (![1, 256, N] : Fin 3 → ℕ) a ≤ (![2, 768, N] : Fin 3 → ℕ) a)
    (inb1 : ∀ a, off1 a + (![1, 256, N] : Fin 3 → ℕ) a ≤ (![2, 768, N] : Fin 3 → ℕ) a)
    (inb2 : ∀ a, off2 a + (![1, 256, N] : Fin 3 → ℕ) a ≤ (![2, 768, N] : Fin 3 → ℕ) a)
    (p0 p1 p2 : Vec F ⟨3, ![1, 256, N]⟩ .bf16)
    (y : (⟨3, ![2, 768, N]⟩ : Shape).Idx) (hy : (y 0).val ≠ s) :
    v.read (Elt F) (v.writes (Elt F) f [⟨Rect.unit (s := ⟨3, ![2, 768, N]⟩) off2 ![1, 256, N] inb2, p2⟩,
      ⟨Rect.unit (s := ⟨3, ![2, 768, N]⟩) off1 ![1, 256, N] inb1, p1⟩, ⟨Rect.unit (s := ⟨3, ![2, 768, N]⟩) off0 ![1, 256, N] inb0, p0⟩]) y
      = v.read (Elt F) f y := by
  subst h0 h1 h2
  rw [View.read_writes_cons_miss_of_axis v _ _ _ _ 0 s 1 rfl rfl rfl (by omega),
    View.read_writes_cons_miss_of_axis v _ _ _ _ 0 s 1 rfl rfl rfl (by omega),
    View.read_writes_cons_miss_of_axis v _ _ _ _ 0 s 1 rfl rfl rfl (by omega), View.writes_nil]

/-! ## What the looped levels keep from trip to trip -/

/-- The kept image holds the cast of `x` on the first `n` lanes. -/
def CastUpTo {sig : RefSig} {κ : Kind} {sp : Space} {L : ℕ} (v : View sig κ sp ⟨2, ![256, L]⟩ .bf16) (f : v.ty.Contents (Elt F))
    (x : ℕ → ℕ → F .bf16) (n : ℕ) : Prop :=
  ∀ (a : Fin 256) (b : Fin L), b.val < n → v.read (Elt F) f (ix2 a b) = x a b

/-- Slot `s` holds the stack on the lanes of segment `k`. -/
def SlotIs {sig : RefSig} {κ : Kind} {sp : Space} {N : ℕ} (v : View sig κ sp ⟨3, ![2, 768, N]⟩ .bf16) (f : v.ty.Contents (Elt F))
    (L W : ℕ) (x : ℕ → ℕ → F .bf16) (k s : ℕ) : Prop :=
  ∀ y : (⟨3, ![2, 768, N]⟩ : Shape).Idx, (y 0).val = s → v.read (Elt F) f y = stackAt L W x (y 1).val (k * N + (y 2).val)

/-- An output block holds `O` on the first `n` lanes. -/
def RowsUpTo {sig : RefSig} {κ : Kind} {sp : Space} {m L : ℕ} (v : View sig κ sp ⟨3, ![1, m, L]⟩ .f32) (f : v.ty.Contents (Elt F))
    (O : Fin m → Fin L → F .f32) (n : ℕ) : Prop :=
  ∀ (j : Fin m) (l : Fin L), l.val < n → v.read (Elt F) f (ix3 0 j l) = O j l

/-- Before the first trip nothing is asked of the kept image. -/
theorem CastUpTo.zero {sig : RefSig} {κ : Kind} {sp : Space} {L : ℕ} (v : View sig κ sp ⟨2, ![256, L]⟩ .bf16) (f : v.ty.Contents (Elt F))
    (x : ℕ → ℕ → F .bf16) (N : ℕ) : CastUpTo v f x (N * 0) := fun _ b h => absurd h (by simp)

/-- Before the first trip nothing is asked of an output block. -/
theorem RowsUpTo.zero {sig : RefSig} {κ : Kind} {sp : Space} {m L : ℕ} (v : View sig κ sp ⟨3, ![1, m, L]⟩ .f32) (f : v.ty.Contents (Elt F))
    (O : Fin m → Fin L → F .f32) (N : ℕ) : RowsUpTo v f O (N * 0) := fun _ b h => absurd h (by simp)

/-- Storing the next segment's cast extends the lanes the kept image holds. -/
theorem CastUpTo.step {sig : RefSig} {κ : Kind} {sp : Space} {L N k : ℕ} (v : View sig κ sp ⟨2, ![256, L]⟩ .bf16) (f : v.ty.Contents (Elt F))
    (x : ℕ → ℕ → F .bf16) (h : CastUpTo v f x (N * k)) (off : Fin 2 → ℕ) (ho : off = ![0, N * k])
    (inb : ∀ a, off a + (![256, N] : Fin 2 → ℕ) a ≤ (![256, L] : Fin 2 → ℕ) a) (p : Vec F ⟨2, ![256, N]⟩ .bf16)
    (hp : ∀ (a : Fin 256) (b : Fin N), p (ix2 a b) = x a (N * k + b)) :
    CastUpTo v (v.writes (Elt F) f [⟨Rect.unit (s := ⟨2, ![256, L]⟩) off ![256, N] inb, p⟩]) x (N * (k + 1)) := by
  subst ho
  intro a b hb
  rw [Nat.mul_succ] at hb
  by_cases hlt : b.val < N * k
  · rw [View.read_writes_cons_miss_of_axis v _ _ _ _ 1 (N * k) N rfl rfl rfl (by simp; omega), View.writes_nil, h a b hlt]
  · rw [View.read_writes_cons_hit_of_coords v _ _ _ _ (ix2 a ⟨b.val - N * k, by omega⟩) _ (by intro a; fin_cases a <;> simp <;> omega), hp]
    congr 1; simp; omega

/-- Storing the next segment of an output block extends the lanes it holds. -/
theorem RowsUpTo.step {sig : RefSig} {κ : Kind} {sp : Space} {m L N k : ℕ} (v : View sig κ sp ⟨3, ![1, m, L]⟩ .f32) (f : v.ty.Contents (Elt F))
    (O : Fin m → Fin L → F .f32) (h : RowsUpTo v f O (N * k)) (off : Fin 3 → ℕ) (ho : off = ![0, 0, N * k])
    (inb : ∀ a, off a + (![1, m, N] : Fin 3 → ℕ) a ≤ (![1, m, L] : Fin 3 → ℕ) a) (p : Vec F ⟨3, ![1, m, N]⟩ .f32)
    (hp : ∀ (j : Fin m) (l : Fin L) (r : Fin N), l.val = N * k + r.val → p (ix3 0 j r) = O j l) :
    RowsUpTo v (v.writes (Elt F) f [⟨Rect.unit (s := ⟨3, ![1, m, L]⟩) off ![1, m, N] inb, p⟩]) O (N * (k + 1)) := by
  subst ho
  intro j l hl
  rw [Nat.mul_succ] at hl
  by_cases hlt : l.val < N * k
  · rw [View.read_writes_cons_miss_of_axis v _ _ _ _ 2 (N * k) N rfl rfl rfl (by simp; omega), View.writes_nil, h j l hlt]
  · rw [View.read_writes_cons_hit_of_coords v _ _ _ _ (ix3 0 j ⟨l.val - N * k, by omega⟩) _ (by intro a; fin_cases a <;> simp <;> omega)]
    exact hp _ _ _ (by simp; omega)

/-- A load of some lanes of the kept image reads the cast. -/
theorem CastUpTo.load {sig : RefSig} {κ : Kind} {sp : Space} {L M o : ℕ} {v : View sig κ sp ⟨2, ![256, L]⟩ .bf16} {f : v.ty.Contents (Elt F)}
    {x : ℕ → ℕ → F .bf16} (h : CastUpTo v f x L) (off : Fin 2 → ℕ) (ho : off = ![0, o])
    (inb : ∀ a, off a + (![256, M] : Fin 2 → ℕ) a ≤ (![256, L] : Fin 2 → ℕ) a) (a : Fin 256) (b : Fin M) :
    v.readAt (Elt F) (Rect.unit (s := ⟨2, ![256, L]⟩) off ![256, M] inb).toLoadRect f (ix2 a b) = x a (o + b) := by
  subst ho
  have := inb 1
  change o + M ≤ L at this
  rw [readAt_unit (s := ⟨2, ![256, L]⟩) v f _ _ inb (ix2 a b) (ix2 a ⟨o + b, by omega⟩) (by intro a; fin_cases a <;> simp)]
  exact h _ _ (by simp; omega)

/-- A load of a segment of the image's block. -/
theorem readAt_seg {sig : RefSig} {κ : Kind} {sp : Space} {L N o : ℕ} (v : View sig κ sp ⟨3, ![1, 256, L]⟩ .f32) (f : v.ty.Contents (Elt F))
    (off : Fin 3 → ℕ) (ho : off = ![0, 0, o]) (inb : ∀ a, off a + (![1, 256, N] : Fin 3 → ℕ) a ≤ (![1, 256, L] : Fin 3 → ℕ) a)
    (a : Fin 256) (b : Fin N) :
    FloatOps.truncf (F := F) (φ := .f32) .bf16 (by decide)
        (v.readAt (Elt F) (Rect.unit (s := ⟨3, ![1, 256, L]⟩) off ![1, 256, N] inb).toLoadRect f (ix3 0 a b))
      = castAt L (v.read (Elt F) f) a (o + b) := by
  subst ho
  have := inb 2
  change o + N ≤ L at this
  unfold castAt
  rw [dif_pos ⟨a.isLt, by omega⟩,
    readAt_unit (s := ⟨3, ![1, 256, L]⟩) v f _ _ inb (ix3 0 a b) (ix3 0 a ⟨o + b, by omega⟩) (by intro a; fin_cases a <;> simp)]

end Cert.Proof

end
-- ==== Proof.Base.lean ====
module

public import proofs.«01_k».proof.Proof.Rows
public import proofs.«01_k».proof.Proof.Gen.KernelIdeal
public import proofs.«01_k».proof.Proof.Gen.KernelIdeal.Skeleton
public import proofs.«01_k».proof.Proof.Gen.KernelIdeal.Loops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of a run: its rounds. -/
abbrev UU (nD : Nat) (τ : Topo) : Type := UR sig nD τ
/-- No variants: nothing in the run needs one. -/
abbrev 𝒱₀ : Variants := Variants.none

local notation "𝕄" => MT nD τ sig Unit (Elt F) ℕ (UU nD τ) ℕ

/-- The contents type of memref `M`'s buffer on core `c`. -/
abbrev Bf (c : Dev nD) {sp : Space} {S : Shape} {e : EltTy} (M : Memref sig .tc sp S e) : Type := Buf (Elt F) (M.view.loc (c : Thread nD τ))
/-- Memref `M`'s buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

omit [FloatOps F] in
/-- A whole memref owned at what it reads is its buffer held at some contents that read so. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f : Bf (F := F) c M, ⌜M.view.read (Elt F) f = X⌝ ∗ pt c M f) := by
  unfold owns pt
  rw [h.set_eq_univ]

omit [FloatOps F] in
/-- A whole memref's buffer held at contents that read `X` is the memref owned at `X`. -/
theorem owns_of_pt (c : Dev nD) {sp : Space} {S : Shape} {e : EltTy} {M : Memref sig .tc sp S e} (h : M.IsWhole) {f : Bf (F := F) c M} {X : S.Idx → Elt F e}
    (hf : M.view.read (Elt F) f = X) : (pt c M f : sProp 𝕄) ⊢ owns (c : Thread nD τ) M fullShare X := by
  rw [owns_pt c h]
  iintro H
  iexists f
  isplitr; · ipureintro; exact hf
  iexact H

end Cert.Proof.KernelIdeal
end
-- ==== Proof.Level0.lean ====
module

public import proofs.«01_k».proof.Proof.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (i : grid0.Coords) (arg1 : Memref sig .tc .vmem S1x256x16384 .f32) (harg1 : arg1.IsWhole) (arg2 : Memref sig .tc .vmem S3x256x768 .bf16) (harg2 : arg2.IsWhole) (arg3 : Memref sig .tc .vmem S24x256 .bf16) (harg3 : arg3.IsWhole) (arg4 : Memref sig .tc .vmem S256x1 .f32) (harg4 : arg4.IsWhole) (arg5 : Memref sig .tc .vmem S24x1 .f32) (harg5 : arg5.IsWhole) (arg6 : Memref sig .tc .vmem S1x3x16384 .f32) (harg6 : arg6.IsWhole) (arg7 : Memref sig .tc .vmem S1x12x16384 .f32) (harg7 : arg7.IsWhole) (arg8 : Memref sig .tc .vmem S256x16384 .bf16) (harg8 : arg8.IsWhole) (arg9 : Memref sig .tc .vmem S2x768x1024 .bf16) (harg9 : arg9.IsWhole)

/-- What the kernel keeps of a segment of the image is its cast. -/
theorem k0_cast (w : Vec F S1x256x1024 .f32) (a : Fin 256) (b : Fin 1024) :
    k0_pay20 w (ix2 a b) = FloatOps.truncf (F := F) (φ := .f32) .bf16 (by decide) (w (ix3 0 a b)) := by
  pointwise [k0_pay20]

set_option warn.classDefReducibility false in
/-- The first loop keeps the cast of the image, a segment a trip. -/
@[sl_loop] def k0_inv1 (f1 : Bf (F := F) c arg1) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 where
  inv k _ := iprop(pt c arg1 f1 ∗ ∃ f, ⌜CastUpTo arg8.view f (castAt 16384 (arg1.view.read (Elt F) f1)) (1024 * k)⌝ ∗ pt c arg8 f)
  step k acc := by
    unfold k0_t1_body
    iintro ⟨H1, %f8, %h8, H8⟩
    sl_exec_parts
    sl_step
    isplitl [H1]; · iexact H1
    iexists _; isplitr; swap; (· iexact H8); ipureintro
    refine CastUpTo.step _ _ _ h8 _ (k0_off2_eq k) _ _ fun a b => ?_
    rw [k0_cast]
    exact readAt_seg _ _ _ (k0_off1_eq k) _ _ _

/-- The rows of segment 0 stored first. -/
theorem k0_up (v : Vec F S256x1024 .bf16) (x : ℕ → ℕ → F .bf16) (hv : ∀ (a : Fin 256) (b : Fin 1024), v (ix2 a b) = x a (0 + b))
    (a : Fin 256) (b : Fin 1024) : k0_pay21 v (ix3 0 a b) = stackAt 16384 128 x a (0 * 1024 + b) := by
  rw [stackAt_up]
  pointwise [k0_pay21, hv]
  word_cmp
  split
  · rfl
  · congr 1; omega

/-- The rows of segment 0 stored next. -/
theorem k0_mid (v : Vec F S256x1024 .bf16) (x : ℕ → ℕ → F .bf16) (hv : ∀ (a : Fin 256) (b : Fin 1024), v (ix2 a b) = x a (0 + b))
    (a : Fin 256) (b : Fin 1024) : k0_pay1 v (ix3 0 a b) = stackAt 16384 128 x (256 + a) (0 * 1024 + b) := by
  rw [stackAt_mid]
  pointwise [k0_pay1, hv]

/-- The rows of segment 0 stored last. -/
theorem k0_down (v : Vec F S256x1024 .bf16) (x : ℕ → ℕ → F .bf16) (hv : ∀ (a : Fin 256) (b : Fin 1024), v (ix2 a b) = x a (128 + b))
    (a : Fin 256) (b : Fin 1024) : k0_pay2 v (ix3 0 a b) = stackAt 16384 128 x (512 + a) (0 * 1024 + b) := by
  rw [stackAt_down, if_pos (by omega)]
  pointwise [k0_pay2, hv]
  congr 1; omega

/-- The rows of an inner segment stored first. -/
theorem k0_midUp (n : ℕ) (v : Vec F S256x1024 .bf16) (x : ℕ → ℕ → F .bf16)
    (hv : ∀ (a : Fin 256) (b : Fin 1024), v (ix2 a b) = x a (1024 * n + 896 + b)) (a : Fin 256) (b : Fin 1024) :
    k0_pay6 v (ix3 0 a b) = stackAt 16384 128 x a ((n + 1) * 1024 + b) := by
  rw [stackAt_up, if_neg (by omega)]
  pointwise [k0_pay6, hv]
  congr 1; omega

/-- The rows of an inner segment stored next. -/
theorem k0_midMid (n : ℕ) (v : Vec F S256x1024 .bf16) (x : ℕ → ℕ → F .bf16)
    (hv : ∀ (a : Fin 256) (b : Fin 1024), v (ix2 a b) = x a (1024 * n + 1024 + b)) (a : Fin 256) (b : Fin 1024) :
    k0_pay7 v (ix3 0 a b) = stackAt 16384 128 x (256 + a) ((n + 1) * 1024 + b) := by
  rw [stackAt_mid]
  pointwise [k0_pay7, hv]
  congr 1; omega

/-- The rows of an inner segment stored last. -/
theorem k0_midDown (n : ℕ) (hn : n + 1 < 15) (v : Vec F S256x1024 .bf16) (x : ℕ → ℕ → F .bf16)
    (hv : ∀ (a : Fin 256) (b : Fin 1024), v (ix2 a b) = x a (1024 * n + 1152 + b)) (a : Fin 256) (b : Fin 1024) :
    k0_pay8 v (ix3 0 a b) = stackAt 16384 128 x (512 + a) ((n + 1) * 1024 + b) := by
  rw [stackAt_down, if_pos (by omega)]
  pointwise [k0_pay8, hv]
  congr 1; omega

/-- The rows of the last segment stored first. -/
theorem k0_lastUp (v : Vec F S256x1024 .bf16) (x : ℕ → ℕ → F .bf16) (hv : ∀ (a : Fin 256) (b : Fin 1024), v (ix2 a b) = x a (15232 + b))
    (a : Fin 256) (b : Fin 1024) : k0_pay9 v (ix3 0 a b) = stackAt 16384 128 x a ((14 + 1) * 1024 + b) := by
  rw [stackAt_up, if_neg (by omega)]
  pointwise [k0_pay9, hv]
  congr 1; omega

/-- The rows of the last segment stored next. -/
theorem k0_lastMid (v : Vec F S256x1024 .bf16) (x : ℕ → ℕ → F .bf16) (hv : ∀ (a : Fin 256) (b : Fin 1024), v (ix2 a b) = x a (15360 + b))
    (a : Fin 256) (b : Fin 1024) : k0_pay10 v (ix3 0 a b) = stackAt 16384 128 x (256 + a) ((14 + 1) * 1024 + b) := by
  rw [stackAt_mid]
  pointwise [k0_pay10, hv]

/-- The rows of the last segment stored last. -/
theorem k0_lastDown (v : Vec F S256x1024 .bf16) (x : ℕ → ℕ → F .bf16) (hv : ∀ (a : Fin 256) (b : Fin 1024), v (ix2 a b) = x a (15360 + b))
    (a : Fin 256) (b : Fin 1024) :
    k0_pay11 (iota .tc S256x1024 32 [1] iota_S256x1024_d1_w32) v (ix3 0 a b) = stackAt 16384 128 x (512 + a) ((14 + 1) * 1024 + b) := by
  rw [stackAt_down]
  pointwise [k0_pay11, hv]
  word_cmp
  split
  · rw [if_neg (by omega)]
  · rw [if_pos (by omega)]; congr 1; omega

/-- The head's 24 rows on the segment whose stack is `S`. -/
def k0_seg (S : Vec F S1x768x1024 .bf16) (WT : Vec F S3x256x768 .bf16) (HW : Vec F S24x256 .bf16) (v1 : FVec F S256x1 .f32) (v3 : FVec F S24x1 .f32) :
    FVec F S24x1024 .f32 :=
  k0_pay3 v1 v3 k0_pay19 (k0_pay13 S (wtAt WT 1)) (k0_pay14 S (wtAt WT 2)) (k0_pay15 k0_pay19 S (wtAt WT 0)) k0_pay16 HW

/-- The second loop makes sixteen trips. -/
theorem k0_trips : k0_t2_loop.trips = 16 := by decide +kernel
/-- A trip before the last two builds an inner segment. -/
theorem k0_isMid : ∀ k : Fin k0_t2_loop.trips, k.val < 14 → k0_cond1 k = 1#1 ∧ ¬ (k0_cond2 k = 1#1) := by decide +kernel
/-- The last trip but one builds the last segment. -/
theorem k0_isLast : ∀ k : Fin k0_t2_loop.trips, k.val = 14 → ¬ (k0_cond1 k = 1#1) ∧ k0_cond2 k = 1#1 := by decide +kernel
/-- The last trip builds none. -/
theorem k0_isEnd : ∀ k : Fin k0_t2_loop.trips, 14 < k.val → ¬ (k0_cond1 k = 1#1) ∧ ¬ (k0_cond2 k = 1#1) := by decide +kernel
/-- Where an inner segment's first rows are read. -/
theorem k0_off3_lo : ∀ k : Fin k0_t2_loop.trips, k.val < 14 → k0_off3 k 4294967168#32 = ![0, 1024 * k.val + 896] := by decide +kernel
/-- Where an inner segment's last rows are read. -/
theorem k0_off3_hi : ∀ k : Fin k0_t2_loop.trips, k.val < 14 → k0_off3 k 128#32 = ![0, 1024 * k.val + 1152] := by decide +kernel

/-- The first output block of a trip is the head's first three rows on the segment in the slot. -/
theorem k0_rows6 (f9 : Bf (F := F) c arg9) (x : ℕ → ℕ → F .bf16) (k : Fin k0_t2_loop.trips) (hs : SlotIs arg9.view f9 16384 128 x k (k % 2))
    (WT : Vec F S3x256x768 .bf16) (HW : Vec F S24x256 .bf16) (v1 : FVec F S256x1 .f32) (v3 : FVec F S24x1 .f32) (j : Fin 3) (r : Fin 1024) :
    k0_pay4 v1 v3 k0_pay19
        (k0_pay13 (View.readAt (Elt F) arg9.view (Rect.unit (s := S2x768x1024) (k0_off11 k) S1x768x1024.size (k0_off11_inb k)).toLoadRect f9) (wtAt WT 1))
        (k0_pay14 (View.readAt (Elt F) arg9.view (Rect.unit (s := S2x768x1024) (k0_off11 k) S1x768x1024.size (k0_off11_inb k)).toLoadRect f9) (wtAt WT 2))
        (k0_pay15 k0_pay19 (View.readAt (Elt F) arg9.view (Rect.unit (s := S2x768x1024) (k0_off11 k) S1x768x1024.size (k0_off11_inb k)).toLoadRect f9) (wtAt WT 0))
        k0_pay16 HW (ix3 0 j r)
      = k0_seg (segAt 16384 128 1024 x k) WT HW v1 v3 (ix2 (⟨j, by omega⟩ : Fin 24) r) := by
  rw [readAt_slot _ _ 16384 128 x k (k % 2) _ (k0_off11_eq k) _ hs]
  pointwise [k0_pay4, k0_seg]

/-- The second output block of a trip is the head's rows 8 to 19 on the segment in the slot. -/
theorem k0_rows7 (f9 : Bf (F := F) c arg9) (x : ℕ → ℕ → F .bf16) (k : Fin k0_t2_loop.trips) (hs : SlotIs arg9.view f9 16384 128 x k (k % 2))
    (WT : Vec F S3x256x768 .bf16) (HW : Vec F S24x256 .bf16) (v1 : FVec F S256x1 .f32) (v3 : FVec F S24x1 .f32) (j : Fin 12) (r : Fin 1024) :
    k0_pay5 v1 v3 k0_pay19
        (k0_pay13 (View.readAt (Elt F) arg9.view (Rect.unit (s := S2x768x1024) (k0_off11 k) S1x768x1024.size (k0_off11_inb k)).toLoadRect f9) (wtAt WT 1))
        (k0_pay14 (View.readAt (Elt F) arg9.view (Rect.unit (s := S2x768x1024) (k0_off11 k) S1x768x1024.size (k0_off11_inb k)).toLoadRect f9) (wtAt WT 2))
        (k0_pay15 k0_pay19 (View.readAt (Elt F) arg9.view (Rect.unit (s := S2x768x1024) (k0_off11 k) S1x768x1024.size (k0_off11_inb k)).toLoadRect f9) (wtAt WT 0))
        k0_pay16 HW (ix3 0 j r)
      = k0_seg (segAt 16384 128 1024 x k) WT HW v1 v3 (ix2 (⟨8 + j, by omega⟩ : Fin 24) r) := by
  rw [readAt_slot _ _ 16384 128 x k (k % 2) _ (k0_off11_eq k) _ hs]
  pointwise [k0_pay5, k0_seg]

/-- The state of the second loop before trip `k`: the image's cast, the stack of segment `k` in its slot, and the outputs of
    the segments before. -/
def k0_state (f2 : Bf (F := F) c arg2) (f3 : Bf (F := F) c arg3) (x : ℕ → ℕ → F .bf16) (O : Fin 24 → Fin 16384 → F .f32) (k : ℕ) : sProp 𝕄 :=
  iprop(pt c arg2 f2 ∗ pt c arg3 f3 ∗ (∃ f, ⌜CastUpTo arg8.view f x 16384⌝ ∗ pt c arg8 f)
    ∗ (∃ f, ⌜k < 16 → SlotIs arg9.view f 16384 128 x k (k % 2)⌝ ∗ pt c arg9 f)
    ∗ (∃ f, ⌜RowsUpTo arg6.view f (fun j l => O ⟨j, by omega⟩ l) (1024 * k)⌝ ∗ pt c arg6 f)
    ∗ ∃ f, ⌜RowsUpTo arg7.view f (fun j l => O ⟨8 + j, by omega⟩ l) (1024 * k)⌝ ∗ pt c arg7 f)

/-- A trip of the second loop before the last two. -/
theorem k0_tripMid (f2 : Bf (F := F) c arg2) (f3 : Bf (F := F) c arg3) (x : ℕ → ℕ → F .bf16) (O : Fin 24 → Fin 16384 → F .f32)
    (v1 : FVec F S256x1 .f32) (v3 : FVec F S24x1 .f32)
    (hO : ∀ (k : ℕ) (j : Fin 24) (l : Fin 16384) (r : Fin 1024), l.val = 1024 * k + r.val →
      k0_seg (segAt 16384 128 1024 x k) (arg2.view.read (Elt F) f2) (arg3.view.read (Elt F) f3) v1 v3 (ix2 j r) = O j l)
    (k : Fin k0_t2_loop.trips) (acc : Unit) (hk : k.val < 14) :
    k0_state c arg2 arg3 arg6 arg7 arg8 arg9 f2 f3 x O k
    ⊢ wp frame (wpE (defs₀ (F := F)) 𝒱₀ c none) Set.univ
        (k0_t2_body i arg1 harg1 arg2 harg2 arg3 harg3 arg4 harg4 arg5 harg5 arg6 harg6 arg7 harg7 arg8 harg8 arg9 harg9 v1 v3 (iota .tc S256x1024 32 [1] iota_S256x1024_d1_w32) k0_pay19 k acc)
        fun _ => k0_state c arg2 arg3 arg6 arg7 arg8 arg9 f2 f3 x O (k + 1) := by
  unfold k0_state k0_t2_body
  iintro ⟨H2, H3, ⟨%f8, %h8, H8⟩, ⟨%f9, %h9, H9⟩, ⟨%f6, %h6, H6⟩, ⟨%f7, %h7, H7⟩⟩
  have e3 := readAt_full (F := F) arg3.view f3 _ inb_S24x256_S24x256_0_0
  have w0 := readAt_wt (F := F) arg2.view f2 0 0 rfl inb_S3x256x768_S1x256x768_0_0_0
  have w1 := readAt_wt (F := F) arg2.view f2 1 1 rfl inb_S3x256x768_S1x256x768_1_0_0
  have w2 := readAt_wt (F := F) arg2.view f2 2 2 rfl inb_S3x256x768_S1x256x768_2_0_0
  have hlt : k.val < 16 := lt_of_lt_of_eq k.isLt k0_trips
  obtain ⟨hc1, hc2⟩ := k0_isMid k hk
  sl_exec_parts
  sl_step
  isplitl [H2]; · iexact H2
  isplitl [H3]; · iexact H3
  isplitl [H8]; · iexists _; isplitr; swap; (· iexact H8); ipureintro; exact h8
  isplitl [H9]
  · iexists _; isplitr; swap; (· iexact H9); ipureintro
    intro _ y hy
    sl_unfold_run_names
    refine read_stack _ _ (1 - k.val % 2) _ _ _ (k0_off4_eq k) (k0_off6_eq k) (k0_off7_eq k) _ _ _ _ _ _
      (fun q b => stackAt 16384 128 x q ((k.val + 1) * 1024 + b)) ?_ ?_ ?_ y (by omega)
    · exact k0_midUp k _ _ (h8.load _ (k0_off3_lo k hk) _)
    · exact k0_midMid k _ _ (h8.load _ (k0_off5_eq k) _)
    · exact k0_midDown k (by omega) _ _ (h8.load _ (k0_off3_hi k hk) _)
  have hs : SlotIs arg9.view (arg9.view.writes (Elt F) f9 (k0_tripMid.sl.H9_3 arg8 k f8 hc1)) 16384 128 x k (k % 2) := by
    intro y hy
    sl_unfold_run_names
    exact (read_stack_other _ _ (1 - k.val % 2) _ _ _ (k0_off4_eq k) (k0_off6_eq k) (k0_off7_eq k) _ _ _ _ _ _ y (by omega)).trans
      (h9 (by omega) y hy)
  isplitl [H6]
  · iexists _; isplitr; swap; (· iexact H6); ipureintro
    refine RowsUpTo.step _ _ _ h6 _ (k0_off12_eq k) _ _ fun j l r hr => ?_
    rw [← hO k _ l r hr]
    delta k0_tripMid.sl.r k0_tripMid.sl.r_1 k0_tripMid.sl.r_2
    exact k0_rows6 c arg9 _ x k hs _ _ _ _ _ _
  · iexists _; isplitr; swap; (· iexact H7); ipureintro
    refine RowsUpTo.step _ _ _ h7 _ (k0_off13_eq k) _ _ fun j l r hr => ?_
    rw [← hO k _ l r hr]
    delta k0_tripMid.sl.r k0_tripMid.sl.r_1 k0_tripMid.sl.r_2
    exact k0_rows7 c arg9 _ x k hs _ _ _ _ _ _

/-- The last trip but one of the second loop. -/
theorem k0_tripLast (f2 : Bf (F := F) c arg2) (f3 : Bf (F := F) c arg3) (x : ℕ → ℕ → F .bf16) (O : Fin 24 → Fin 16384 → F .f32)
    (v1 : FVec F S256x1 .f32) (v3 : FVec F S24x1 .f32)
    (hO : ∀ (k : ℕ) (j : Fin 24) (l : Fin 16384) (r : Fin 1024), l.val = 1024 * k + r.val →
      k0_seg (segAt 16384 128 1024 x k) (arg2.view.read (Elt F) f2) (arg3.view.read (Elt F) f3) v1 v3 (ix2 j r) = O j l)
    (k : Fin k0_t2_loop.trips) (acc : Unit) (hk : k.val = 14) :
    k0_state c arg2 arg3 arg6 arg7 arg8 arg9 f2 f3 x O k
    ⊢ wp frame (wpE (defs₀ (F := F)) 𝒱₀ c none) Set.univ
        (k0_t2_body i arg1 harg1 arg2 harg2 arg3 harg3 arg4 harg4 arg5 harg5 arg6 harg6 arg7 harg7 arg8 harg8 arg9 harg9 v1 v3 (iota .tc S256x1024 32 [1] iota_S256x1024_d1_w32) k0_pay19 k acc)
        fun _ => k0_state c arg2 arg3 arg6 arg7 arg8 arg9 f2 f3 x O (k + 1) := by
  unfold k0_state k0_t2_body
  iintro ⟨H2, H3, ⟨%f8, %h8, H8⟩, ⟨%f9, %h9, H9⟩, ⟨%f6, %h6, H6⟩, ⟨%f7, %h7, H7⟩⟩
  have e3 := readAt_full (F := F) arg3.view f3 _ inb_S24x256_S24x256_0_0
  have w0 := readAt_wt (F := F) arg2.view f2 0 0 rfl inb_S3x256x768_S1x256x768_0_0_0
  have w1 := readAt_wt (F := F) arg2.view f2 1 1 rfl inb_S3x256x768_S1x256x768_1_0_0
  have w2 := readAt_wt (F := F) arg2.view f2 2 2 rfl inb_S3x256x768_S1x256x768_2_0_0
  have hlt : k.val < 16 := lt_of_lt_of_eq k.isLt k0_trips
  obtain ⟨hc1, hc2⟩ := k0_isLast k hk
  sl_exec_parts
  sl_step
  isplitl [H2]; · iexact H2
  isplitl [H3]; · iexact H3
  isplitl [H8]; · iexists _; isplitr; swap; (· iexact H8); ipureintro; exact h8
  isplitl [H9]
  · iexists _; isplitr; swap; (· iexact H9); ipureintro
    intro _ y hy
    sl_unfold_run_names
    rw [hk]
    refine read_stack _ _ (1 - k.val % 2) _ _ _ (k0_off8_eq k) (k0_off9_eq k) (k0_off10_eq k) _ _ _ _ _ _
      (fun q b => stackAt 16384 128 x q ((14 + 1) * 1024 + b)) ?_ ?_ ?_ y (by omega)
    · exact k0_lastUp _ _ (h8.load _ rfl _)
    · exact k0_lastMid _ _ (h8.load _ rfl _)
    · exact k0_lastDown _ _ (h8.load _ rfl _)
  have hs : SlotIs arg9.view (arg9.view.writes (Elt F) f9 (k0_tripLast.sl.H9_3 arg8 k f8 hc2)) 16384 128 x k (k % 2) := by
    intro y hy
    sl_unfold_run_names
    exact (read_stack_other _ _ (1 - k.val % 2) _ _ _ (k0_off8_eq k) (k0_off9_eq k) (k0_off10_eq k) _ _ _ _ _ _ y (by omega)).trans
      (h9 (by omega) y hy)
  isplitl [H6]
  · iexists _; isplitr; swap; (· iexact H6); ipureintro
    refine RowsUpTo.step _ _ _ h6 _ (k0_off12_eq k) _ _ fun j l r hr => ?_
    rw [← hO k _ l r hr]
    delta k0_tripLast.sl.r k0_tripLast.sl.r_1 k0_tripLast.sl.r_2
    exact k0_rows6 c arg9 _ x k hs _ _ _ _ _ _
  · iexists _; isplitr; swap; (· iexact H7); ipureintro
    refine RowsUpTo.step _ _ _ h7 _ (k0_off13_eq k) _ _ fun j l r hr => ?_
    rw [← hO k _ l r hr]
    delta k0_tripLast.sl.r k0_tripLast.sl.r_1 k0_tripLast.sl.r_2
    exact k0_rows7 c arg9 _ x k hs _ _ _ _ _ _

/-- The last trip of the second loop. -/
theorem k0_tripEnd (f2 : Bf (F := F) c arg2) (f3 : Bf (F := F) c arg3) (x : ℕ → ℕ → F .bf16) (O : Fin 24 → Fin 16384 → F .f32)
    (v1 : FVec F S256x1 .f32) (v3 : FVec F S24x1 .f32)
    (hO : ∀ (k : ℕ) (j : Fin 24) (l : Fin 16384) (r : Fin 1024), l.val = 1024 * k + r.val →
      k0_seg (segAt 16384 128 1024 x k) (arg2.view.read (Elt F) f2) (arg3.view.read (Elt F) f3) v1 v3 (ix2 j r) = O j l)
    (k : Fin k0_t2_loop.trips) (acc : Unit) (hk : 14 < k.val) :
    k0_state c arg2 arg3 arg6 arg7 arg8 arg9 f2 f3 x O k
    ⊢ wp frame (wpE (defs₀ (F := F)) 𝒱₀ c none) Set.univ
        (k0_t2_body i arg1 harg1 arg2 harg2 arg3 harg3 arg4 harg4 arg5 harg5 arg6 harg6 arg7 harg7 arg8 harg8 arg9 harg9 v1 v3 (iota .tc S256x1024 32 [1] iota_S256x1024_d1_w32) k0_pay19 k acc)
        fun _ => k0_state c arg2 arg3 arg6 arg7 arg8 arg9 f2 f3 x O (k + 1) := by
  unfold k0_state k0_t2_body
  iintro ⟨H2, H3, ⟨%f8, %h8, H8⟩, ⟨%f9, %h9, H9⟩, ⟨%f6, %h6, H6⟩, ⟨%f7, %h7, H7⟩⟩
  have e3 := readAt_full (F := F) arg3.view f3 _ inb_S24x256_S24x256_0_0
  have w0 := readAt_wt (F := F) arg2.view f2 0 0 rfl inb_S3x256x768_S1x256x768_0_0_0
  have w1 := readAt_wt (F := F) arg2.view f2 1 1 rfl inb_S3x256x768_S1x256x768_1_0_0
  have w2 := readAt_wt (F := F) arg2.view f2 2 2 rfl inb_S3x256x768_S1x256x768_2_0_0
  have hlt : k.val < 16 := lt_of_lt_of_eq k.isLt k0_trips
  obtain ⟨hc1, hc2⟩ := k0_isEnd k hk
  sl_exec_parts
  sl_step
  isplitl [H2]; · iexact H2
  isplitl [H3]; · iexact H3
  isplitl [H8]; · iexists _; isplitr; swap; (· iexact H8); ipureintro; exact h8
  isplitl [H9]
  · iexists _; isplitr; swap; (· iexact H9); ipureintro
    intro h; omega
  isplitl [H6]
  · iexists _; isplitr; swap; (· iexact H6); ipureintro
    refine RowsUpTo.step _ _ _ h6 _ (k0_off12_eq k) _ _ fun j l r hr => ?_
    rw [← hO k _ l r hr]
    delta k0_tripEnd.sl.r k0_tripEnd.sl.r_1 k0_tripEnd.sl.r_2
    exact k0_rows6 c arg9 _ x k (h9 hlt) _ _ _ _ _ _
  · iexists _; isplitr; swap; (· iexact H7); ipureintro
    refine RowsUpTo.step _ _ _ h7 _ (k0_off13_eq k) _ _ fun j l r hr => ?_
    rw [← hO k _ l r hr]
    delta k0_tripEnd.sl.r k0_tripEnd.sl.r_1 k0_tripEnd.sl.r_2
    exact k0_rows7 c arg9 _ x k (h9 hlt) _ _ _ _ _ _

/-- One trip of the second loop. -/
theorem k0_trip (f2 : Bf (F := F) c arg2) (f3 : Bf (F := F) c arg3) (x : ℕ → ℕ → F .bf16) (O : Fin 24 → Fin 16384 → F .f32)
    (v1 : FVec F S256x1 .f32) (v3 : FVec F S24x1 .f32)
    (hO : ∀ (k : ℕ) (j : Fin 24) (l : Fin 16384) (r : Fin 1024), l.val = 1024 * k + r.val →
      k0_seg (segAt 16384 128 1024 x k) (arg2.view.read (Elt F) f2) (arg3.view.read (Elt F) f3) v1 v3 (ix2 j r) = O j l)
    (k : Fin k0_t2_loop.trips) (acc : Unit) :
    k0_state c arg2 arg3 arg6 arg7 arg8 arg9 f2 f3 x O k
    ⊢ wp frame (wpE (defs₀ (F := F)) 𝒱₀ c none) Set.univ
        (k0_t2_body i arg1 harg1 arg2 harg2 arg3 harg3 arg4 harg4 arg5 harg5 arg6 harg6 arg7 harg7 arg8 harg8 arg9 harg9 v1 v3 (iota .tc S256x1024 32 [1] iota_S256x1024_d1_w32) k0_pay19 k acc)
        fun _ => k0_state c arg2 arg3 arg6 arg7 arg8 arg9 f2 f3 x O (k + 1) := by
  rcases Nat.lt_trichotomy k.val 14 with hk | hk | hk
  · exact k0_tripMid c i arg1 harg1 arg2 harg2 arg3 harg3 arg4 harg4 arg5 harg5 arg6 harg6 arg7 harg7 arg8 harg8 arg9 harg9 f2 f3 x O v1 v3 hO k acc hk
  · exact k0_tripLast c i arg1 harg1 arg2 harg2 arg3 harg3 arg4 harg4 arg5 harg5 arg6 harg6 arg7 harg7 arg8 harg8 arg9 harg9 f2 f3 x O v1 v3 hO k acc hk
  · exact k0_tripEnd c i arg1 harg1 arg2 harg2 arg3 harg3 arg4 harg4 arg5 harg5 arg6 harg6 arg7 harg7 arg8 harg8 arg9 harg9 f2 f3 x O v1 v3 hO k acc hk

/-- The shape of the head's rows at this level. -/
abbrev S24x16384 : Shape := ⟨2, ![24, 16384]⟩

/-- The head's 24 rows at this level, from a block of the image and the constants. -/
def k0_out (X : Vec F S1x256x16384 .f32) (WT : Vec F S3x256x768 .bf16) (HW : Vec F S24x256 .bf16) (CB : Vec F S256x1 .f32) (HB : Vec F S24x1 .f32) :
    FVec F S24x16384 .f32 :=
  fun y => k0_seg (segAt 16384 128 1024 (castAt 16384 X) ((y 1).val / 1024)) WT HW (k0_pay17 CB) (k0_pay18 HB)
    (ix2 (y 0) ⟨(y 1).val % 1024, Nat.mod_lt _ (by decide)⟩)

/-- The head's rows at an index. -/
theorem k0_out_at (X : Vec F S1x256x16384 .f32) (WT : Vec F S3x256x768 .bf16) (HW : Vec F S24x256 .bf16) (CB : Vec F S256x1 .f32)
    (HB : Vec F S24x1 .f32) (j : Fin 24) (l : Fin 16384) :
    k0_out X WT HW CB HB (ix2 j l) = k0_seg (segAt 16384 128 1024 (castAt 16384 X) (l.val / 1024)) WT HW (k0_pay17 CB) (k0_pay18 HB)
      (ix2 j ⟨l.val % 1024, Nat.mod_lt _ (by decide)⟩) := rfl

/-- One grid point of the level: from a block of the image and the constants held whole it leaves the head's first three
    rows in the one output block and rows 8 to 19 in the other, and everything it read as it was. -/
theorem k0_run
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (O : FVec F S24x16384 .f32) (hO : O = k0_out (arg1.view.read (Elt F) f1) (arg2.view.read (Elt F) f2) (arg3.view.read (Elt F) f3) (arg4.view.read (Elt F) f4) (arg5.view.read (Elt F) f5))
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
      ∗ (iprop(pt c arg1 f1 ∗ pt c arg2 f2 ∗ pt c arg3 f3 ∗ pt c arg4 f4 ∗ pt c arg5 f5
          ∗ (∃ f, ⌜∀ (j : Fin 3) (l : Fin 16384), arg6.view.read (Elt F) f (ix3 0 j l) = O (ix2 ⟨j, by omega⟩ l)⌝ ∗ pt c arg6 f)
          ∗ (∃ f, ⌜∀ (j : Fin 12) (l : Fin 16384), arg7.view.read (Elt F) f (ix3 0 j l) = O (ix2 ⟨8 + j, by omega⟩ l)⌝ ∗ pt c arg7 f)
          ∗ (∃ f, pt c arg8 f) ∗ ∃ f, pt c arg9 f) -∗ Q ⟨⟩))
    ⊢ wp frame (wpE (defs₀ (F := F)) 𝒱₀ c none) Set.univ (cc0__rpn_level_kernel i arg1 harg1 arg2 harg2 arg3 harg3 arg4 harg4 arg5 harg5 arg6 harg6 arg7 harg7 arg8 harg8 arg9 harg9) Q := by
  iintro ⟨H1, H2, H3, H4, H5, H6, H7, H8, H9, Hk⟩
  have e1 := readAt_full (F := F) arg4.view f4 _ inb_S256x1_S256x1_0_0
  have e2 := readAt_full (F := F) arg5.view f5 _ inb_S24x1_S24x1_0_0
  have h80 := CastUpTo.zero arg8.view f8 (castAt 16384 (arg1.view.read (Elt F) f1)) 1024
  sl_exec_parts
  have h8' : CastUpTo arg8.view fL0 (castAt 16384 (arg1.view.read (Elt F) f1)) 16384 := hL1
  delta k0_run.sl.r k0_run.sl.r_1 k0_run.sl.v4
  have hO' : ∀ (k : ℕ) (j : Fin 24) (l : Fin 16384) (r : Fin 1024), l.val = 1024 * k + r.val →
      k0_seg (segAt 16384 128 1024 (castAt 16384 (arg1.view.read (Elt F) f1)) k) (arg2.view.read (Elt F) f2) (arg3.view.read (Elt F) f3)
        (k0_pay17 (arg4.view.read (Elt F) f4)) (k0_pay18 (arg5.view.read (Elt F) f5)) (ix2 j r) = O (ix2 j l) := by
    intro k j l r h
    have h1 : l.val / 1024 = k := by omega
    have h2 : l.val % 1024 = r.val := by omega
    rw [hO, k0_out_at, h1, (Fin.ext h2 : (⟨l.val % 1024, Nat.mod_lt _ (by decide)⟩ : Fin 1024) = r)]
  sl_for (fun k _ => k0_state c arg2 arg3 arg6 arg7 arg8 arg9 f2 f3 (castAt 16384 (arg1.view.read (Elt F) f1)) (fun j l => O (ix2 j l)) k) $$ [H2 H3 H6 H7 H8 H9]
  · intro k acc
    exact k0_trip c i arg1 harg1 arg2 harg2 arg3 harg3 arg4 harg4 arg5 harg5 arg6 harg6 arg7 harg7 arg8 harg8 arg9 harg9 f2 f3 _ _ _ _ hO' k acc
  · unfold k0_state
    isplitl [H2]; · iexact H2
    isplitl [H3]; · iexact H3
    isplitl [H8]; · iexists _; isplitr; swap; (· iexact H8); ipureintro; exact h8'
    isplitl [H9]
    · iexists _; isplitr; swap; (· iexact H9); ipureintro
      intro _ y hy
      sl_unfold_run_names
      exact read_stack _ _ 0 _ _ _ rfl rfl rfl _ _ _ _ _ _ (fun q b => stackAt 16384 128 (castAt 16384 (arg1.view.read (Elt F) f1)) q (0 * 1024 + b))
        (k0_up _ _ (h8'.load _ rfl _)) (k0_mid _ _ (h8'.load _ rfl _)) (k0_down _ _ (h8'.load _ rfl _)) y hy
    isplitl [H6]; · iexists _; isplitr; swap; (· iexact H6); ipureintro; exact RowsUpTo.zero _ _ _ 1024
    iexists _; isplitr; swap; (· iexact H7); ipureintro; exact RowsUpTo.zero _ _ _ 1024
  unfold k0_state
  iintro %acc ⟨H2, H3, ⟨%g8, %_, H8⟩, ⟨%g9, %_, H9⟩, ⟨%g6, %h6, H6⟩, ⟨%g7, %h7, H7⟩⟩
  sl_step
  iapply Hk
  isplitl [H1]; · iexact H1
  isplitl [H2]; · iexact H2
  isplitl [H3]; · iexact H3
  isplitl [H4]; · iexact H4
  isplitl [H5]; · iexact H5
  isplitl [H6]; · iexists _; isplitr; swap; (· iexact H6); ipureintro; exact fun j l => h6 j l (lt_of_lt_of_eq l.isLt rfl)
  isplitl [H7]; · iexists _; isplitr; swap; (· iexact H7); ipureintro; exact fun j l => h7 j l (lt_of_lt_of_eq l.isLt rfl)
  isplitl [H8]; · iexists _; iexact H8
  iexists _; iexact H9

end Cert.Proof.KernelIdeal
end
-- ==== Proof.Region0.lean ====
module

public import proofs.«01_k».proof.Proof.Level0
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

variable (A : Dev nD → Valuation τ sig (Elt F))

/-- The block window `w` has at point `t`, read off the contents `A` of the arrays at entry. -/
abbrev r0_blk (c : Dev nD) (w : Fin cfg0.W) (t : Fin cfg0.N) : ((cfg0.win w).xblock (cfg0.grid.coords t)).Idx → Elt F (cfg0.win w).elt :=
  ((cfg0.win w).blk t).view.read (Elt F) (A c (Pipeline.arrRef spec0 w))

/-- The 24 rows the body computes at point `t`. -/
def r0_out (c : Dev nD) (t : Fin cfg0.N) : FVec F S24x16384 .f32 :=
  k0_out (r0_blk A c 0 t) (r0_blk A c 1 t) (r0_blk A c 2 t) (r0_blk A c 3 t) (r0_blk A c 4 t)
/-- The first output block: rows 0, 1, 2. -/
def r0_logits (c : Dev nD) (t : Fin cfg0.N) : FVec F S1x3x16384 .f32 := fun y => r0_out A c t (ix2 ⟨(y 1).val, by have := (y 1).isLt; dsimp at this; omega⟩ ⟨(y 2).val, (y 2).isLt⟩)
/-- The second output block: rows 8 to 19. -/
def r0_bbox (c : Dev nD) (t : Fin cfg0.N) : FVec F S1x12x16384 .f32 := fun y => r0_out A c t (ix2 ⟨8 + (y 1).val, by have := (y 1).isLt; dsimp at this; omega⟩ ⟨(y 2).val, (y 2).isLt⟩)

/-- Contents that hold rows 0, 1, 2 are the first output block. -/
theorem r0_logits_eq (c : Dev nD) (t : Fin cfg0.N) (g : FVec F S1x3x16384 .f32) (h : ∀ (j : Fin 3) (l : Fin 16384), g (ix3 0 j l) = r0_out A c t (ix2 ⟨j, by omega⟩ l)) :
    g = r0_logits A c t := by
  funext y
  exact (congrArg g ((eq_ix3 y).trans (congrArg (ix3 · (y 1) (y 2)) (Subsingleton.elim (α := Fin 1) _ _)))).trans (h _ _)
/-- Contents that hold rows 8 to 19 are the second output block. -/
theorem r0_bbox_eq (c : Dev nD) (t : Fin cfg0.N) (g : FVec F S1x12x16384 .f32) (h : ∀ (j : Fin 12) (l : Fin 16384), g (ix3 0 j l) = r0_out A c t (ix2 ⟨8 + j, by omega⟩ l)) :
    g = r0_bbox A c t := by
  funext y
  exact (congrArg g ((eq_ix3 y).trans (congrArg (ix3 · (y 1) (y 2)) (Subsingleton.elim (α := Fin 1) _ _)))).trans (h _ _)

/-- The proof data of the region on core `c`: the arrays at `A`, each input block left in place, the two output blocks at the
    body's rows. -/
def r0_dat (c : Dev nD) : Dat τ (Elt F) Unit ℕ (UU nD τ) ℕ cfg0 c where
  A w := A c (Pipeline.arrRef spec0 w)
  after w t := match w with
    | ⟨0, _⟩ => r0_blk A c 0 t
    | ⟨1, _⟩ => r0_blk A c 1 t
    | ⟨2, _⟩ => r0_blk A c 2 t
    | ⟨3, _⟩ => r0_blk A c 3 t
    | ⟨4, _⟩ => r0_blk A c 4 t
    | ⟨5, _⟩ => r0_logits A c t
    | ⟨6, _⟩ => r0_bbox A c t
  Φ _ := Pipeline.scopedRest spec0 c
  q _ := fullShare
  owed _ := 0

/-- The body finds the first input's block in its buffer. -/
theorem r0_before0 (c : Dev nD) (t : Fin cfg0.N) (d) : (r0_dat A c).before 0 t d = r0_blk A c 0 t :=
  (r0_dat A c).before_in_eq_fetched 0 rfl (fun _ => rfl) (fun _ _ _ => rfl) (fun _ => rfl) t d
/-- The body finds the second input's block in its buffer. -/
theorem r0_before1 (c : Dev nD) (t : Fin cfg0.N) (d) : (r0_dat A c).before 1 t d = r0_blk A c 1 t :=
  (r0_dat A c).before_in_eq_fetched 1 rfl (fun _ => rfl) (fun _ _ _ => rfl) (fun _ => rfl) t d
/-- The body finds the third input's block in its buffer. -/
theorem r0_before2 (c : Dev nD) (t : Fin cfg0.N) (d) : (r0_dat A c).before 2 t d = r0_blk A c 2 t :=
  (r0_dat A c).before_in_eq_fetched 2 rfl (fun _ => rfl) (fun _ _ _ => rfl) (fun _ => rfl) t d
/-- The body finds the fourth input's block in its buffer. -/
theorem r0_before3 (c : Dev nD) (t : Fin cfg0.N) (d) : (r0_dat A c).before 3 t d = r0_blk A c 3 t :=
  (r0_dat A c).before_in_eq_fetched 3 rfl (fun _ => rfl) (fun _ _ _ => rfl) (fun _ => rfl) t d
/-- The body finds the fifth input's block in its buffer. -/
theorem r0_before4 (c : Dev nD) (t : Fin cfg0.N) (d) : (r0_dat A c).before 4 t d = r0_blk A c 4 t :=
  (r0_dat A c).before_in_eq_fetched 4 rfl (fun _ => rfl) (fun _ _ _ => rfl) (fun _ => rfl) t d

/-- What the body is called with at point `t`. -/
def r0_pre (c : Dev nD) (t : Fin cfg0.N) : sProp 𝕄 :=
  iprop((r0_dat A c).Φ t.castSucc ∗ (r0_dat A c).owesAt () t.castSucc
    ∗ (∃ d, owns (c : Thread nD τ) (st0_0 t) fullShare ((r0_dat A c).before 0 t d))
    ∗ (∃ d, owns (c : Thread nD τ) (st0_1 t) fullShare ((r0_dat A c).before 1 t d))
    ∗ (∃ d, owns (c : Thread nD τ) (st0_2 t) fullShare ((r0_dat A c).before 2 t d))
    ∗ (∃ d, owns (c : Thread nD τ) (st0_3 t) fullShare ((r0_dat A c).before 3 t d))
    ∗ (∃ d, owns (c : Thread nD τ) (st0_4 t) fullShare ((r0_dat A c).before 4 t d))
    ∗ (∃ d, owns (c : Thread nD τ) (st0_5 t) fullShare ((r0_dat A c).before 5 t d))
    ∗ (∃ d, owns (c : Thread nD τ) (st0_6 t) fullShare ((r0_dat A c).before 6 t d)))

/-- What the body returns. -/
def r0_post (c : Dev nD) (t : Fin cfg0.N) : sProp 𝕄 :=
  iprop((r0_dat A c).Φ t.succ ∗ (r0_dat A c).owesAt () t.succ
    ∗ owns (c : Thread nD τ) (st0_0 t) fullShare ((r0_dat A c).after 0 t)
    ∗ owns (c : Thread nD τ) (st0_1 t) fullShare ((r0_dat A c).after 1 t)
    ∗ owns (c : Thread nD τ) (st0_2 t) fullShare ((r0_dat A c).after 2 t)
    ∗ owns (c : Thread nD τ) (st0_3 t) fullShare ((r0_dat A c).after 3 t)
    ∗ owns (c : Thread nD τ) (st0_4 t) fullShare ((r0_dat A c).after 4 t)
    ∗ owns (c : Thread nD τ) (st0_5 t) fullShare ((r0_dat A c).after 5 t)
    ∗ owns (c : Thread nD τ) (st0_6 t) fullShare ((r0_dat A c).after 6 t))

set_option maxHeartbeats 1000000 in
/-- The body at any point. -/
theorem r0_body (c : Dev nD) (t : Fin cfg0.N) :
    r0_pre A c t ⊢ wp frame (wpE (defs₀ (F := F)) 𝒱₀ c none) Set.univ (bodyAt0 t) (fun _ => r0_post A c t) := by
  unfold r0_pre r0_post bodyAt0
  simp only [r0_before0, r0_before1, r0_before2, r0_before3, r0_before4]
  rw [show (r0_dat A c).Φ t.succ = Pipeline.scopedRest spec0 c from rfl, show (r0_dat A c).Φ t.castSucc = Pipeline.scopedRest spec0 c from rfl,
    show (r0_dat A c).owesAt () t.succ = (r0_dat A c).owesAt () t.castSucc from rfl, scopedRest0_split,
    show (r0_dat A c).after 0 t = r0_blk A c 0 t from rfl, show (r0_dat A c).after 1 t = r0_blk A c 1 t from rfl,
    show (r0_dat A c).after 2 t = r0_blk A c 2 t from rfl, show (r0_dat A c).after 3 t = r0_blk A c 3 t from rfl,
    show (r0_dat A c).after 4 t = r0_blk A c 4 t from rfl, show (r0_dat A c).after 5 t = r0_logits A c t from rfl,
    show (r0_dat A c).after 6 t = r0_bbox A c t from rfl]
  have w0 : (st0_0 t).IsWhole := hstage0_0 ((cfg0.slots t 0).cast nbuf0_0)
  have w1 : (st0_1 t).IsWhole := hstage0_1 ((cfg0.slots t 1).cast nbuf0_1)
  have w2 : (st0_2 t).IsWhole := hstage0_2 ((cfg0.slots t 2).cast nbuf0_2)
  have w3 : (st0_3 t).IsWhole := hstage0_3 ((cfg0.slots t 3).cast nbuf0_3)
  have w4 : (st0_4 t).IsWhole := hstage0_4 ((cfg0.slots t 4).cast nbuf0_4)
  have w5 : (st0_5 t).IsWhole := hstage0_5 ((cfg0.slots t 5).cast nbuf0_5)
  have w6 : (st0_6 t).IsWhole := hstage0_6 ((cfg0.slots t 6).cast nbuf0_6)
  iintro ⟨⟨⟨⟨%f8, H8⟩, ⟨%f9, H9⟩⟩, HR⟩, Ho, ⟨%d0, H0⟩, ⟨%d1, H1⟩, ⟨%d2, H2⟩, ⟨%d3, H3⟩, ⟨%d4, H4⟩, ⟨%d5, H5⟩, ⟨%d6, H6⟩⟩
  ihave H0 := (Entails.of_eq (owns_pt c w0 _)) $$ H0
  ihave H1 := (Entails.of_eq (owns_pt c w1 _)) $$ H1
  ihave H2 := (Entails.of_eq (owns_pt c w2 _)) $$ H2
  ihave H3 := (Entails.of_eq (owns_pt c w3 _)) $$ H3
  ihave H4 := (Entails.of_eq (owns_pt c w4 _)) $$ H4
  ihave H5 := (Entails.of_eq (owns_pt c w5 _)) $$ H5
  ihave H6 := (Entails.of_eq (owns_pt c w6 _)) $$ H6
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases H5 with ⟨%f5, -, H5⟩
  icases H6 with ⟨%f6, -, H6⟩
  iapply (k0_run c (grid0.coords t) _ w0 _ w1 _ w2 _ w3 _ w4 _ w5 _ w6 (Memref.whole cc0_scratch0) (Memref.isWhole_whole _) (Memref.whole cc0_scratch1) (Memref.isWhole_whole _)
    f0 f1 f2 f3 f4 f5 f6 f8 f9 (r0_out A c t) (by unfold r0_out; rw [h0, h1, h2, h3, h4]))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iintro ⟨H0, H1, H2, H3, H4, ⟨%g5, %h5, H5⟩, ⟨%g6, %h6, H6⟩, ⟨%g8, H8⟩, ⟨%g9, H9⟩⟩
  isplitl [H8 H9 HR]
  · isplitl [H8 H9]
    · isplitl [H8]
      · iexists _; iexact H8
      · iexists _; iexact H9
    iexact HR
  isplitl [Ho]; · iexact Ho
  isplitl [H0]
  · iapply (owns_of_pt c w0 h0)
    iexact H0
  isplitl [H1]
  · iapply (owns_of_pt c w1 h1)
    iexact H1
  isplitl [H2]
  · iapply (owns_of_pt c w2 h2)
    iexact H2
  isplitl [H3]
  · iapply (owns_of_pt c w3 h3)
    iexact H3
  isplitl [H4]
  · iapply (owns_of_pt c w4 h4)
    iexact H4
  isplitl [H5]
  · iapply (owns_of_pt c w5 (r0_logits_eq A c t _ h5)); iexact H5
  · iapply (owns_of_pt c w6 (r0_bbox_eq A c t _ h6)); iexact H6

/-- The body table's row at point `t`'s slots is the body. -/
theorem r0_row (t : Fin cfg0.N) : defs₀ (F := F) .tc cfg0.body (cfg0.bodyArgs t (cfg0.slots t)) = bodyAt0 t := by
  unfold defs₀; rw [Defs.onTc_tc]

/-- The body obligation at every point. -/
theorem r0_obligation (c : Dev nD) : BodyObligation (r0_dat (F := F) A c) (defs₀ (F := F)) 𝒱₀ () Set.univ := fun t => by
  rw [bigSep_W0, bigSep_W0, r0_row]
  exact triple_restated (r0_body A c t) rfl .rfl fun _ => .rfl

end Cert.Proof.KernelIdeal
end
-- ==== Proof.Level1.lean ====
module

public import proofs.«01_k».proof.Proof.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (i : grid1.Coords) (arg1 : Memref sig .tc .vmem S1x256x4096 .f32) (harg1 : arg1.IsWhole) (arg2 : Memref sig .tc .vmem S3x256x768 .bf16) (harg2 : arg2.IsWhole) (arg3 : Memref sig .tc .vmem S24x256 .bf16) (harg3 : arg3.IsWhole) (arg4 : Memref sig .tc .vmem S256x1 .f32) (harg4 : arg4.IsWhole) (arg5 : Memref sig .tc .vmem S24x1 .f32) (harg5 : arg5.IsWhole) (arg6 : Memref sig .tc .vmem S1x3x4096 .f32) (harg6 : arg6.IsWhole) (arg7 : Memref sig .tc .vmem S1x12x4096 .f32) (harg7 : arg7.IsWhole) (arg8 : Memref sig .tc .vmem S256x4096 .bf16) (harg8 : arg8.IsWhole) (arg9 : Memref sig .tc .vmem S2x768x2048 .bf16) (harg9 : arg9.IsWhole)

/-- What the kernel keeps of a segment of the image is its cast. -/
theorem k1_cast (w : Vec F S1x256x2048 .f32) (a : Fin 256) (b : Fin 2048) :
    k1_pay20 w (ix2 a b) = FloatOps.truncf (F := F) (φ := .f32) .bf16 (by decide) (w (ix3 0 a b)) := by
  pointwise [k1_pay20]

set_option warn.classDefReducibility false in
/-- The first loop keeps the cast of the image, a segment a trip. -/
@[sl_loop] def k1_inv1 (f1 : Bf (F := F) c arg1) :
    LoopInvTy_k1_t1 (F := F) Unit ℕ (UU nD τ) ℕ 𝒱₀ c none Set.univ i arg1 harg1 arg2 harg2 arg3 harg3 arg4 harg4 arg5 harg5 arg6 harg6 arg7 harg7 arg8 harg8 arg9 harg9 where
  inv k _ := iprop(pt c arg1 f1 ∗ ∃ f, ⌜CastUpTo arg8.view f (castAt 4096 (arg1.view.read (Elt F) f1)) (2048 * k)⌝ ∗ pt c arg8 f)
  step k acc := by
    unfold k1_t1_body
    iintro ⟨H1, %f8, %h8, H8⟩
    sl_exec_parts
    sl_step
    isplitl [H1]; · iexact H1
    iexists _; isplitr; swap; (· iexact H8); ipureintro
    refine CastUpTo.step _ _ _ h8 _ (k1_off2_eq k) _ _ fun a b => ?_
    rw [k1_cast]
    exact readAt_seg _ _ _ (k1_off1_eq k) _ _ _

/-- The rows of segment 0 stored first. -/
theorem k1_up (v : Vec F S256x2048 .bf16) (x : ℕ → ℕ → F .bf16) (hv : ∀ (a : Fin 256) (b : Fin 2048), v (ix2 a b) = x a (0 + b))
    (a : Fin 256) (b : Fin 2048) : k1_pay21 v (ix3 0 a b) = stackAt 4096 64 x a (0 * 2048 + b) := by
  rw [stackAt_up]
  pointwise [k1_pay21, hv]
  word_cmp
  split
  · rfl
  · congr 1; omega

/-- The rows of segment 0 stored next. -/
theorem k1_mid (v : Vec F S256x2048 .bf16) (x : ℕ → ℕ → F .bf16) (hv : ∀ (a : Fin 256) (b : Fin 2048), v (ix2 a b) = x a (0 + b))
    (a : Fin 256) (b : Fin 2048) : k1_pay1 v (ix3 0 a b) = stackAt 4096 64 x (256 + a) (0 * 2048 + b) := by
  rw [stackAt_mid]
  pointwise [k1_pay1, hv]

/-- The rows of segment 0 stored last. -/
theorem k1_down (v : Vec F S256x2176 .bf16) (x : ℕ → ℕ → F .bf16) (hv : ∀ (a : Fin 256) (b : Fin 2176), v (ix2 a b) = x a (0 + b))
    (a : Fin 256) (b : Fin 2048) : k1_pay2 v (ix3 0 a b) = stackAt 4096 64 x (512 + a) (0 * 2048 + b) := by
  rw [stackAt_down, if_pos (by omega)]
  pointwise [k1_pay2, hv]
  congr 1; omega

/-- The rows of the last segment stored first. -/
theorem k1_lastUp (v : Vec F S256x2176 .bf16) (x : ℕ → ℕ → F .bf16) (hv : ∀ (a : Fin 256) (b : Fin 2176), v (ix2 a b) = x a (1920 + b))
    (a : Fin 256) (b : Fin 2048) : k1_pay9 v (ix3 0 a b) = stackAt 4096 64 x a (1 * 2048 + b) := by
  rw [stackAt_up, if_neg (by omega)]
  pointwise [k1_pay9, hv]
  congr 1; omega

/-- The rows of the last segment stored next. -/
theorem k1_lastMid (v : Vec F S256x2048 .bf16) (x : ℕ → ℕ → F .bf16) (hv : ∀ (a : Fin 256) (b : Fin 2048), v (ix2 a b) = x a (2048 + b))
    (a : Fin 256) (b : Fin 2048) : k1_pay10 v (ix3 0 a b) = stackAt 4096 64 x (256 + a) (1 * 2048 + b) := by
  rw [stackAt_mid]
  pointwise [k1_pay10, hv]

/-- The rows of the last segment stored last. -/
theorem k1_lastDown (v : Vec F S256x2048 .bf16) (x : ℕ → ℕ → F .bf16) (hv : ∀ (a : Fin 256) (b : Fin 2048), v (ix2 a b) = x a (2048 + b))
    (a : Fin 256) (b : Fin 2048) :
    k1_pay11 (iota .tc S256x2048 32 [1] iota_S256x2048_d1_w32) v (ix3 0 a b) = stackAt 4096 64 x (512 + a) (1 * 2048 + b) := by
  rw [stackAt_down]
  pointwise [k1_pay11, hv]
  word_cmp
  split
  · rw [if_neg (by omega)]
  · rw [if_pos (by omega)]; congr 1; omega

/-- The head's 24 rows on the segment whose stack is `S`. -/
def k1_seg (S : Vec F S1x768x2048 .bf16) (WT : Vec F S3x256x768 .bf16) (HW : Vec F S24x256 .bf16) (v1 : FVec F S256x1 .f32) (v3 : FVec F S24x1 .f32) :
    FVec F S24x2048 .f32 :=
  k1_pay3 v1 v3 k1_pay19 (k1_pay13 S (wtAt WT 1)) (k1_pay14 S (wtAt WT 2)) (k1_pay15 k1_pay19 S (wtAt WT 0)) k1_pay16 HW

/-- The second loop makes two trips. -/
theorem k1_trips : k1_t2_loop.trips = 2 := by decide +kernel
/-- No segment lies strictly between the first and the last. -/
theorem k1_noMid : ∀ k, ¬ (k1_cond1 k = 1#1) := by decide +kernel
/-- The first trip builds the last segment. -/
theorem k1_isLast : ∀ k : Fin k1_t2_loop.trips, k.val = 0 → k1_cond2 k = 1#1 := by decide +kernel
/-- The second trip builds none. -/
theorem k1_notLast : ∀ k : Fin k1_t2_loop.trips, k.val ≠ 0 → ¬ (k1_cond2 k = 1#1) := by decide +kernel

/-- The first output block of a trip is the head's first three rows on the segment in the slot. -/
theorem k1_rows6 (f9 : Bf (F := F) c arg9) (x : ℕ → ℕ → F .bf16) (k : Fin k1_t2_loop.trips) (hs : SlotIs arg9.view f9 4096 64 x k k)
    (WT : Vec F S3x256x768 .bf16) (HW : Vec F S24x256 .bf16) (v1 : FVec F S256x1 .f32) (v3 : FVec F S24x1 .f32) (j : Fin 3) (r : Fin 2048) :
    k1_pay4 v1 v3 k1_pay19
        (k1_pay13 (View.readAt (Elt F) arg9.view (Rect.unit (s := S2x768x2048) (k1_off11 k) S1x768x2048.size (k1_off11_inb k)).toLoadRect f9) (wtAt WT 1))
        (k1_pay14 (View.readAt (Elt F) arg9.view (Rect.unit (s := S2x768x2048) (k1_off11 k) S1x768x2048.size (k1_off11_inb k)).toLoadRect f9) (wtAt WT 2))
        (k1_pay15 k1_pay19 (View.readAt (Elt F) arg9.view (Rect.unit (s := S2x768x2048) (k1_off11 k) S1x768x2048.size (k1_off11_inb k)).toLoadRect f9) (wtAt WT 0))
        k1_pay16 HW (ix3 0 j r)
      = k1_seg (segAt 4096 64 2048 x k) WT HW v1 v3 (ix2 (⟨j, by omega⟩ : Fin 24) r) := by
  rw [readAt_slot _ _ 4096 64 x k k _ (k1_off11_eq k) _ hs]
  pointwise [k1_pay4, k1_seg]

/-- The second output block of a trip is the head's rows 8 to 19 on the segment in the slot. -/
theorem k1_rows7 (f9 : Bf (F := F) c arg9) (x : ℕ → ℕ → F .bf16) (k : Fin k1_t2_loop.trips) (hs : SlotIs arg9.view f9 4096 64 x k k)
    (WT : Vec F S3x256x768 .bf16) (HW : Vec F S24x256 .bf16) (v1 : FVec F S256x1 .f32) (v3 : FVec F S24x1 .f32) (j : Fin 12) (r : Fin 2048) :
    k1_pay5 v1 v3 k1_pay19
        (k1_pay13 (View.readAt (Elt F) arg9.view (Rect.unit (s := S2x768x2048) (k1_off11 k) S1x768x2048.size (k1_off11_inb k)).toLoadRect f9) (wtAt WT 1))
        (k1_pay14 (View.readAt (Elt F) arg9.view (Rect.unit (s := S2x768x2048) (k1_off11 k) S1x768x2048.size (k1_off11_inb k)).toLoadRect f9) (wtAt WT 2))
        (k1_pay15 k1_pay19 (View.readAt (Elt F) arg9.view (Rect.unit (s := S2x768x2048) (k1_off11 k) S1x768x2048.size (k1_off11_inb k)).toLoadRect f9) (wtAt WT 0))
        k1_pay16 HW (ix3 0 j r)
      = k1_seg (segAt 4096 64 2048 x k) WT HW v1 v3 (ix2 (⟨8 + j, by omega⟩ : Fin 24) r) := by
  rw [readAt_slot _ _ 4096 64 x k k _ (k1_off11_eq k) _ hs]
  pointwise [k1_pay5, k1_seg]

/-- The state of the second loop before trip `k`: the image's cast, the stack of segment `k` in its slot, and the outputs of
    the segments before. -/
def k1_state (f2 : Bf (F := F) c arg2) (f3 : Bf (F := F) c arg3) (x : ℕ → ℕ → F .bf16) (O : Fin 24 → Fin 4096 → F .f32) (k : ℕ) : sProp 𝕄 :=
  iprop(pt c arg2 f2 ∗ pt c arg3 f3 ∗ (∃ f, ⌜CastUpTo arg8.view f x 4096⌝ ∗ pt c arg8 f)
    ∗ (∃ f, ⌜k < 2 → SlotIs arg9.view f 4096 64 x k k⌝ ∗ pt c arg9 f)
    ∗ (∃ f, ⌜RowsUpTo arg6.view f (fun j l => O ⟨j, by omega⟩ l) (2048 * k)⌝ ∗ pt c arg6 f)
    ∗ ∃ f, ⌜RowsUpTo arg7.view f (fun j l => O ⟨8 + j, by omega⟩ l) (2048 * k)⌝ ∗ pt c arg7 f)

/-- One trip of the second loop. -/
theorem k1_trip (f2 : Bf (F := F) c arg2) (f3 : Bf (F := F) c arg3) (x : ℕ → ℕ → F .bf16) (O : Fin 24 → Fin 4096 → F .f32)
    (v1 : FVec F S256x1 .f32) (v3 : FVec F S24x1 .f32)
    (hO : ∀ (k : ℕ) (j : Fin 24) (l : Fin 4096) (r : Fin 2048), l.val = 2048 * k + r.val →
      k1_seg (segAt 4096 64 2048 x k) (arg2.view.read (Elt F) f2) (arg3.view.read (Elt F) f3) v1 v3 (ix2 j r) = O j l)
    (k : Fin k1_t2_loop.trips) (acc : Unit) :
    k1_state c arg2 arg3 arg6 arg7 arg8 arg9 f2 f3 x O k
    ⊢ wp frame (wpE (defs₀ (F := F)) 𝒱₀ c none) Set.univ
        (k1_t2_body i arg1 harg1 arg2 harg2 arg3 harg3 arg4 harg4 arg5 harg5 arg6 harg6 arg7 harg7 arg8 harg8 arg9 harg9 v1 v3 (iota .tc S256x2048 32 [1] iota_S256x2048_d1_w32) k1_pay19 k acc)
        fun _ => k1_state c arg2 arg3 arg6 arg7 arg8 arg9 f2 f3 x O (k + 1) := by
  unfold k1_state k1_t2_body
  iintro ⟨H2, H3, ⟨%f8, %h8, H8⟩, ⟨%f9, %h9, H9⟩, ⟨%f6, %h6, H6⟩, ⟨%f7, %h7, H7⟩⟩
  have hm := k1_noMid k
  have e3 := readAt_full (F := F) arg3.view f3 _ inb_S24x256_S24x256_0_0
  have w0 := readAt_wt (F := F) arg2.view f2 0 0 rfl inb_S3x256x768_S1x256x768_0_0_0
  have w1 := readAt_wt (F := F) arg2.view f2 1 1 rfl inb_S3x256x768_S1x256x768_1_0_0
  have w2 := readAt_wt (F := F) arg2.view f2 2 2 rfl inb_S3x256x768_S1x256x768_2_0_0
  by_cases hk : k.val = 0
  · have hl := k1_isLast k hk
    sl_exec_parts
    sl_step
    isplitl [H2]; · iexact H2
    isplitl [H3]; · iexact H3
    isplitl [H8]; · iexists _; isplitr; swap; (· iexact H8); ipureintro; exact h8
    isplitl [H9]
    · iexists _; isplitr; swap; (· iexact H9); ipureintro
      intro _ y hy
      sl_unfold_run_names
      rw [hk] at hy ⊢
      refine read_stack _ _ 1 _ _ _ ?_ ?_ ?_ _ _ _ _ _ _ (fun q b => stackAt 4096 64 x q (1 * 2048 + b)) ?_ ?_ ?_ y hy
      · rw [k1_off8_eq, hk]
      · rw [k1_off9_eq, hk]
      · rw [k1_off10_eq, hk]
      · exact k1_lastUp _ _ (h8.load _ rfl _)
      · exact k1_lastMid _ _ (h8.load _ rfl _)
      · exact k1_lastDown _ _ (h8.load _ rfl _)
    have hs : SlotIs arg9.view (arg9.view.writes (Elt F) f9 (k1_trip.sl.H9_3 arg8 k f8 hl)) 4096 64 x k k := by
      intro y hy
      sl_unfold_run_names
      refine (read_stack_other _ _ 1 _ _ _ ?_ ?_ ?_ _ _ _ _ _ _ y (by omega)).trans (h9 (by omega) y hy)
      · rw [k1_off8_eq, hk]
      · rw [k1_off9_eq, hk]
      · rw [k1_off10_eq, hk]
    isplitl [H6]
    · iexists _; isplitr; swap; (· iexact H6); ipureintro
      refine RowsUpTo.step _ _ _ h6 _ (k1_off12_eq k) _ _ fun j l r hr => ?_
      rw [← hO k _ l r hr]
      delta k1_trip.sl.r k1_trip.sl.r_1 k1_trip.sl.r_2
      exact k1_rows6 c arg9 _ x k hs _ _ _ _ _ _
    · iexists _; isplitr; swap; (· iexact H7); ipureintro
      refine RowsUpTo.step _ _ _ h7 _ (k1_off13_eq k) _ _ fun j l r hr => ?_
      rw [← hO k _ l r hr]
      delta k1_trip.sl.r k1_trip.sl.r_1 k1_trip.sl.r_2
      exact k1_rows7 c arg9 _ x k hs _ _ _ _ _ _
  · have hl := k1_notLast k hk
    sl_exec_parts
    sl_step
    have hlt : k.val < 2 := lt_of_lt_of_eq k.isLt k1_trips
    isplitl [H2]; · iexact H2
    isplitl [H3]; · iexact H3
    isplitl [H8]; · iexists _; isplitr; swap; (· iexact H8); ipureintro; exact h8
    isplitl [H9]
    · iexists _; isplitr; swap; (· iexact H9); ipureintro
      intro h; omega
    isplitl [H6]
    · iexists _; isplitr; swap; (· iexact H6); ipureintro
      refine RowsUpTo.step _ _ _ h6 _ (k1_off12_eq k) _ _ fun j l r hr => ?_
      rw [← hO k _ l r hr]
      delta k1_trip.sl.r_3 k1_trip.sl.r_4 k1_trip.sl.r_5
      exact k1_rows6 c arg9 _ x k (h9 hlt) _ _ _ _ _ _
    · iexists _; isplitr; swap; (· iexact H7); ipureintro
      refine RowsUpTo.step _ _ _ h7 _ (k1_off13_eq k) _ _ fun j l r hr => ?_
      rw [← hO k _ l r hr]
      delta k1_trip.sl.r_3 k1_trip.sl.r_4 k1_trip.sl.r_5
      exact k1_rows7 c arg9 _ x k (h9 hlt) _ _ _ _ _ _

/-- The shape of the head's rows at this level. -/
abbrev S24x4096 : Shape := ⟨2, ![24, 4096]⟩

/-- The head's 24 rows at this level, from a block of the image and the constants. -/
def k1_out (X : Vec F S1x256x4096 .f32) (WT : Vec F S3x256x768 .bf16) (HW : Vec F S24x256 .bf16) (CB : Vec F S256x1 .f32) (HB : Vec F S24x1 .f32) :
    FVec F S24x4096 .f32 :=
  fun y => k1_seg (segAt 4096 64 2048 (castAt 4096 X) ((y 1).val / 2048)) WT HW (k1_pay17 CB) (k1_pay18 HB)
    (ix2 (y 0) ⟨(y 1).val % 2048, Nat.mod_lt _ (by decide)⟩)

/-- The head's rows at an index. -/
theorem k1_out_at (X : Vec F S1x256x4096 .f32) (WT : Vec F S3x256x768 .bf16) (HW : Vec F S24x256 .bf16) (CB : Vec F S256x1 .f32)
    (HB : Vec F S24x1 .f32) (j : Fin 24) (l : Fin 4096) :
    k1_out X WT HW CB HB (ix2 j l) = k1_seg (segAt 4096 64 2048 (castAt 4096 X) (l.val / 2048)) WT HW (k1_pay17 CB) (k1_pay18 HB)
      (ix2 j ⟨l.val % 2048, Nat.mod_lt _ (by decide)⟩) := rfl

/-- One grid point of the level: from a block of the image and the constants held whole it leaves the head's first three
    rows in the one output block and rows 8 to 19 in the other, and everything it read as it was. -/
theorem k1_run
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (O : FVec F S24x4096 .f32) (hO : O = k1_out (arg1.view.read (Elt F) f1) (arg2.view.read (Elt F) f2) (arg3.view.read (Elt F) f3) (arg4.view.read (Elt F) f4) (arg5.view.read (Elt F) f5))
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
      ∗ (iprop(pt c arg1 f1 ∗ pt c arg2 f2 ∗ pt c arg3 f3 ∗ pt c arg4 f4 ∗ pt c arg5 f5
          ∗ (∃ f, ⌜∀ (j : Fin 3) (l : Fin 4096), arg6.view.read (Elt F) f (ix3 0 j l) = O (ix2 ⟨j, by omega⟩ l)⌝ ∗ pt c arg6 f)
          ∗ (∃ f, ⌜∀ (j : Fin 12) (l : Fin 4096), arg7.view.read (Elt F) f (ix3 0 j l) = O (ix2 ⟨8 + j, by omega⟩ l)⌝ ∗ pt c arg7 f)
          ∗ (∃ f, pt c arg8 f) ∗ ∃ f, pt c arg9 f) -∗ Q ⟨⟩))
    ⊢ wp frame (wpE (defs₀ (F := F)) 𝒱₀ c none) Set.univ (cc1__rpn_level_kernel i arg1 harg1 arg2 harg2 arg3 harg3 arg4 harg4 arg5 harg5 arg6 harg6 arg7 harg7 arg8 harg8 arg9 harg9) Q := by
  iintro ⟨H1, H2, H3, H4, H5, H6, H7, H8, H9, Hk⟩
  have e1 := readAt_full (F := F) arg4.view f4 _ inb_S256x1_S256x1_0_0
  have e2 := readAt_full (F := F) arg5.view f5 _ inb_S24x1_S24x1_0_0
  have h80 := CastUpTo.zero arg8.view f8 (castAt 4096 (arg1.view.read (Elt F) f1)) 2048
  sl_exec_parts
  have h8' : CastUpTo arg8.view fL0 (castAt 4096 (arg1.view.read (Elt F) f1)) 4096 := hL1
  delta k1_run.sl.r k1_run.sl.r_1 k1_run.sl.v4
  have hO' : ∀ (k : ℕ) (j : Fin 24) (l : Fin 4096) (r : Fin 2048), l.val = 2048 * k + r.val →
      k1_seg (segAt 4096 64 2048 (castAt 4096 (arg1.view.read (Elt F) f1)) k) (arg2.view.read (Elt F) f2) (arg3.view.read (Elt F) f3)
        (k1_pay17 (arg4.view.read (Elt F) f4)) (k1_pay18 (arg5.view.read (Elt F) f5)) (ix2 j r) = O (ix2 j l) := by
    intro k j l r h
    have h1 : l.val / 2048 = k := by omega
    have h2 : l.val % 2048 = r.val := by omega
    rw [hO, k1_out_at, h1, (Fin.ext h2 : (⟨l.val % 2048, Nat.mod_lt _ (by decide)⟩ : Fin 2048) = r)]
  sl_for (fun k _ => k1_state c arg2 arg3 arg6 arg7 arg8 arg9 f2 f3 (castAt 4096 (arg1.view.read (Elt F) f1)) (fun j l => O (ix2 j l)) k) $$ [H2 H3 H6 H7 H8 H9]
  · intro k acc
    exact k1_trip c i arg1 harg1 arg2 harg2 arg3 harg3 arg4 harg4 arg5 harg5 arg6 harg6 arg7 harg7 arg8 harg8 arg9 harg9 f2 f3 _ _ _ _ hO' k acc
  · unfold k1_state
    isplitl [H2]; · iexact H2
    isplitl [H3]; · iexact H3
    isplitl [H8]; · iexists _; isplitr; swap; (· iexact H8); ipureintro; exact h8'
    isplitl [H9]
    · iexists _; isplitr; swap; (· iexact H9); ipureintro
      intro _ y hy
      sl_unfold_run_names
      exact read_stack _ _ 0 _ _ _ rfl rfl rfl _ _ _ _ _ _ (fun q b => stackAt 4096 64 (castAt 4096 (arg1.view.read (Elt F) f1)) q (0 * 2048 + b))
        (k1_up _ _ (h8'.load _ rfl _)) (k1_mid _ _ (h8'.load _ rfl _)) (k1_down _ _ (h8'.load _ rfl _)) y hy
    isplitl [H6]; · iexists _; isplitr; swap; (· iexact H6); ipureintro; exact RowsUpTo.zero _ _ _ 2048
    iexists _; isplitr; swap; (· iexact H7); ipureintro; exact RowsUpTo.zero _ _ _ 2048
  unfold k1_state
  iintro %acc ⟨H2, H3, ⟨%g8, %_, H8⟩, ⟨%g9, %_, H9⟩, ⟨%g6, %h6, H6⟩, ⟨%g7, %h7, H7⟩⟩
  sl_step
  iapply Hk
  isplitl [H1]; · iexact H1
  isplitl [H2]; · iexact H2
  isplitl [H3]; · iexact H3
  isplitl [H4]; · iexact H4
  isplitl [H5]; · iexact H5
  isplitl [H6]; · iexists _; isplitr; swap; (· iexact H6); ipureintro; exact fun j l => h6 j l (lt_of_lt_of_eq l.isLt rfl)
  isplitl [H7]; · iexists _; isplitr; swap; (· iexact H7); ipureintro; exact fun j l => h7 j l (lt_of_lt_of_eq l.isLt rfl)
  isplitl [H8]; · iexists _; iexact H8
  iexists _; iexact H9

end Cert.Proof.KernelIdeal
end
-- ==== Proof.Region1.lean ====
module

public import proofs.«01_k».proof.Proof.Level1
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

variable (A : Dev nD → Valuation τ sig (Elt F))

/-- The block window `w` has at point `t`, read off the contents `A` of the arrays at entry. -/
abbrev r1_blk (c : Dev nD) (w : Fin cfg1.W) (t : Fin cfg1.N) : ((cfg1.win w).xblock (cfg1.grid.coords t)).Idx → Elt F (cfg1.win w).elt :=
  ((cfg1.win w).blk t).view.read (Elt F) (A c (Pipeline.arrRef spec1 w))

/-- The 24 rows the body computes at point `t`. -/
def r1_out (c : Dev nD) (t : Fin cfg1.N) : FVec F S24x4096 .f32 :=
  k1_out (r1_blk A c 0 t) (r1_blk A c 1 t) (r1_blk A c 2 t) (r1_blk A c 3 t) (r1_blk A c 4 t)
/-- The first output block: rows 0, 1, 2. -/
def r1_logits (c : Dev nD) (t : Fin cfg1.N) : FVec F S1x3x4096 .f32 := fun y => r1_out A c t (ix2 ⟨(y 1).val, by have := (y 1).isLt; dsimp at this; omega⟩ ⟨(y 2).val, (y 2).isLt⟩)
/-- The second output block: rows 8 to 19. -/
def r1_bbox (c : Dev nD) (t : Fin cfg1.N) : FVec F S1x12x4096 .f32 := fun y => r1_out A c t (ix2 ⟨8 + (y 1).val, by have := (y 1).isLt; dsimp at this; omega⟩ ⟨(y 2).val, (y 2).isLt⟩)

/-- Contents that hold rows 0, 1, 2 are the first output block. -/
theorem r1_logits_eq (c : Dev nD) (t : Fin cfg1.N) (g : FVec F S1x3x4096 .f32) (h : ∀ (j : Fin 3) (l : Fin 4096), g (ix3 0 j l) = r1_out A c t (ix2 ⟨j, by omega⟩ l)) :
    g = r1_logits A c t := by
  funext y
  exact (congrArg g ((eq_ix3 y).trans (congrArg (ix3 · (y 1) (y 2)) (Subsingleton.elim (α := Fin 1) _ _)))).trans (h _ _)
/-- Contents that hold rows 8 to 19 are the second output block. -/
theorem r1_bbox_eq (c : Dev nD) (t : Fin cfg1.N) (g : FVec F S1x12x4096 .f32) (h : ∀ (j : Fin 12) (l : Fin 4096), g (ix3 0 j l) = r1_out A c t (ix2 ⟨8 + j, by omega⟩ l)) :
    g = r1_bbox A c t := by
  funext y
  exact (congrArg g ((eq_ix3 y).trans (congrArg (ix3 · (y 1) (y 2)) (Subsingleton.elim (α := Fin 1) _ _)))).trans (h _ _)

/-- The proof data of the region on core `c`: the arrays at `A`, each input block left in place, the two output blocks at the
    body's rows. -/
def r1_dat (c : Dev nD) : Dat τ (Elt F) Unit ℕ (UU nD τ) ℕ cfg1 c where
  A w := A c (Pipeline.arrRef spec1 w)
  after w t := match w with
    | ⟨0, _⟩ => r1_blk A c 0 t
    | ⟨1, _⟩ => r1_blk A c 1 t
    | ⟨2, _⟩ => r1_blk A c 2 t
    | ⟨3, _⟩ => r1_blk A c 3 t
    | ⟨4, _⟩ => r1_blk A c 4 t
    | ⟨5, _⟩ => r1_logits A c t
    | ⟨6, _⟩ => r1_bbox A c t
  Φ _ := Pipeline.scopedRest spec1 c
  q _ := fullShare
  owed _ := 0

/-- The body finds the first input's block in its buffer. -/
theorem r1_before0 (c : Dev nD) (t : Fin cfg1.N) (d) : (r1_dat A c).before 0 t d = r1_blk A c 0 t :=
  (r1_dat A c).before_in_eq_fetched 0 rfl (fun _ => rfl) (fun _ _ _ => rfl) (fun _ => rfl) t d
/-- The body finds the second input's block in its buffer. -/
theorem r1_before1 (c : Dev nD) (t : Fin cfg1.N) (d) : (r1_dat A c).before 1 t d = r1_blk A c 1 t :=
  (r1_dat A c).before_in_eq_fetched 1 rfl (fun _ => rfl) (fun _ _ _ => rfl) (fun _ => rfl) t d
/-- The body finds the third input's block in its buffer. -/
theorem r1_before2 (c : Dev nD) (t : Fin cfg1.N) (d) : (r1_dat A c).before 2 t d = r1_blk A c 2 t :=
  (r1_dat A c).before_in_eq_fetched 2 rfl (fun _ => rfl) (fun _ _ _ => rfl) (fun _ => rfl) t d
/-- The body finds the fourth input's block in its buffer. -/
theorem r1_before3 (c : Dev nD) (t : Fin cfg1.N) (d) : (r1_dat A c).before 3 t d = r1_blk A c 3 t :=
  (r1_dat A c).before_in_eq_fetched 3 rfl (fun _ => rfl) (fun _ _ _ => rfl) (fun _ => rfl) t d
/-- The body finds the fifth input's block in its buffer. -/
theorem r1_before4 (c : Dev nD) (t : Fin cfg1.N) (d) : (r1_dat A c).before 4 t d = r1_blk A c 4 t :=
  (r1_dat A c).before_in_eq_fetched 4 rfl (fun _ => rfl) (fun _ _ _ => rfl) (fun _ => rfl) t d

/-- What the body is called with at point `t`. -/
def r1_pre (c : Dev nD) (t : Fin cfg1.N) : sProp 𝕄 :=
  iprop((r1_dat A c).Φ t.castSucc ∗ (r1_dat A c).owesAt () t.castSucc
    ∗ (∃ d, owns (c : Thread nD τ) (st1_0 t) fullShare ((r1_dat A c).before 0 t d))
    ∗ (∃ d, owns (c : Thread nD τ) (st1_1 t) fullShare ((r1_dat A c).before 1 t d))
    ∗ (∃ d, owns (c : Thread nD τ) (st1_2 t) fullShare ((r1_dat A c).before 2 t d))
    ∗ (∃ d, owns (c : Thread nD τ) (st1_3 t) fullShare ((r1_dat A c).before 3 t d))
    ∗ (∃ d, owns (c : Thread nD τ) (st1_4 t) fullShare ((r1_dat A c).before 4 t d))
    ∗ (∃ d, owns (c : Thread nD τ) (st1_5 t) fullShare ((r1_dat A c).before 5 t d))
    ∗ (∃ d, owns (c : Thread nD τ) (st1_6 t) fullShare ((r1_dat A c).before 6 t d)))

/-- What the body returns. -/
def r1_post (c : Dev nD) (t : Fin cfg1.N) : sProp 𝕄 :=
  iprop((r1_dat A c).Φ t.succ ∗ (r1_dat A c).owesAt () t.succ
    ∗ owns (c : Thread nD τ) (st1_0 t) fullShare ((r1_dat A c).after 0 t)
    ∗ owns (c : Thread nD τ) (st1_1 t) fullShare ((r1_dat A c).after 1 t)
    ∗ owns (c : Thread nD τ) (st1_2 t) fullShare ((r1_dat A c).after 2 t)
    ∗ owns (c : Thread nD τ) (st1_3 t) fullShare ((r1_dat A c).after 3 t)
    ∗ owns (c : Thread nD τ) (st1_4 t) fullShare ((r1_dat A c).after 4 t)
    ∗ owns (c : Thread nD τ) (st1_5 t) fullShare ((r1_dat A c).after 5 t)
    ∗ owns (c : Thread nD τ) (st1_6 t) fullShare ((r1_dat A c).after 6 t))

set_option maxHeartbeats 1000000 in
/-- The body at any point. -/
theorem r1_body (c : Dev nD) (t : Fin cfg1.N) :
    r1_pre A c t ⊢ wp frame (wpE (defs₀ (F := F)) 𝒱₀ c none) Set.univ (bodyAt1 t) (fun _ => r1_post A c t) := by
  unfold r1_pre r1_post bodyAt1
  simp only [r1_before0, r1_before1, r1_before2, r1_before3, r1_before4]
  rw [show (r1_dat A c).Φ t.succ = Pipeline.scopedRest spec1 c from rfl, show (r1_dat A c).Φ t.castSucc = Pipeline.scopedRest spec1 c from rfl,
    show (r1_dat A c).owesAt () t.succ = (r1_dat A c).owesAt () t.castSucc from rfl, scopedRest1_split,
    show (r1_dat A c).after 0 t = r1_blk A c 0 t from rfl, show (r1_dat A c).after 1 t = r1_blk A c 1 t from rfl,
    show (r1_dat A c).after 2 t = r1_blk A c 2 t from rfl, show (r1_dat A c).after 3 t = r1_blk A c 3 t from rfl,
    show (r1_dat A c).after 4 t = r1_blk A c 4 t from rfl, show (r1_dat A c).after 5 t = r1_logits A c t from rfl,
    show (r1_dat A c).after 6 t = r1_bbox A c t from rfl]
  have w0 : (st1_0 t).IsWhole := hstage1_0 ((cfg1.slots t 0).cast nbuf1_0)
  have w1 : (st1_1 t).IsWhole := hstage1_1 ((cfg1.slots t 1).cast nbuf1_1)
  have w2 : (st1_2 t).IsWhole := hstage1_2 ((cfg1.slots t 2).cast nbuf1_2)
  have w3 : (st1_3 t).IsWhole := hstage1_3 ((cfg1.slots t 3).cast nbuf1_3)
  have w4 : (st1_4 t).IsWhole := hstage1_4 ((cfg1.slots t 4).cast nbuf1_4)
  have w5 : (st1_5 t).IsWhole := hstage1_5 ((cfg1.slots t 5).cast nbuf1_5)
  have w6 : (st1_6 t).IsWhole := hstage1_6 ((cfg1.slots t 6).cast nbuf1_6)
  iintro ⟨⟨⟨⟨%f8, H8⟩, ⟨%f9, H9⟩⟩, HR⟩, Ho, ⟨%d0, H0⟩, ⟨%d1, H1⟩, ⟨%d2, H2⟩, ⟨%d3, H3⟩, ⟨%d4, H4⟩, ⟨%d5, H5⟩, ⟨%d6, H6⟩⟩
  ihave H0 := (Entails.of_eq (owns_pt c w0 _)) $$ H0
  ihave H1 := (Entails.of_eq (owns_pt c w1 _)) $$ H1
  ihave H2 := (Entails.of_eq (owns_pt c w2 _)) $$ H2
  ihave H3 := (Entails.of_eq (owns_pt c w3 _)) $$ H3
  ihave H4 := (Entails.of_eq (owns_pt c w4 _)) $$ H4
  ihave H5 := (Entails.of_eq (owns_pt c w5 _)) $$ H5
  ihave H6 := (Entails.of_eq (owns_pt c w6 _)) $$ H6
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases H5 with ⟨%f5, -, H5⟩
  icases H6 with ⟨%f6, -, H6⟩
  iapply (k1_run c (grid1.coords t) _ w0 _ w1 _ w2 _ w3 _ w4 _ w5 _ w6 (Memref.whole cc1_scratch0) (Memref.isWhole_whole _) (Memref.whole cc1_scratch1) (Memref.isWhole_whole _)
    f0 f1 f2 f3 f4 f5 f6 f8 f9 (r1_out A c t) (by unfold r1_out; rw [h0, h1, h2, h3, h4]))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iintro ⟨H0, H1, H2, H3, H4, ⟨%g5, %h5, H5⟩, ⟨%g6, %h6, H6⟩, ⟨%g8, H8⟩, ⟨%g9, H9⟩⟩
  isplitl [H8 H9 HR]
  · isplitl [H8 H9]
    · isplitl [H8]
      · iexists _; iexact H8
      · iexists _; iexact H9
    iexact HR
  isplitl [Ho]; · iexact Ho
  isplitl [H0]
  · iapply (owns_of_pt c w0 h0)
    iexact H0
  isplitl [H1]
  · iapply (owns_of_pt c w1 h1)
    iexact H1
  isplitl [H2]
  · iapply (owns_of_pt c w2 h2)
    iexact H2
  isplitl [H3]
  · iapply (owns_of_pt c w3 h3)
    iexact H3
  isplitl [H4]
  · iapply (owns_of_pt c w4 h4)
    iexact H4
  isplitl [H5]
  · iapply (owns_of_pt c w5 (r1_logits_eq A c t _ h5)); iexact H5
  · iapply (owns_of_pt c w6 (r1_bbox_eq A c t _ h6)); iexact H6

/-- The body table's row at point `t`'s slots is the body. -/
theorem r1_row (t : Fin cfg1.N) : defs₀ (F := F) .tc cfg1.body (cfg1.bodyArgs t (cfg1.slots t)) = bodyAt1 t := by
  unfold defs₀; rw [Defs.onTc_tc]

/-- The body obligation at every point. -/
theorem r1_obligation (c : Dev nD) : BodyObligation (r1_dat (F := F) A c) (defs₀ (F := F)) 𝒱₀ () Set.univ := fun t => by
  rw [bigSep_W1, bigSep_W1, r1_row]
  exact triple_restated (r1_body A c t) rfl .rfl fun _ => .rfl

end Cert.Proof.KernelIdeal
end
-- ==== Proof.Level2.lean ====
module

public import proofs.«01_k».proof.Proof.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- With one segment there is no next segment to build. -/
theorem k2_dead : ¬ (k2_cond1 = 1#1) := by decide

/-- What the kernel keeps of the image is its cast. -/
theorem k2_cast (x : Vec F S1x256x1024 .f32) (a : Fin 256) (b : Fin 1024) : k2_pay5 x (ix2 a b) = castAt 1024 x a b := by
  unfold castAt
  rw [dif_pos ⟨a.isLt, b.isLt⟩]
  pointwise [k2_pay5]

/-- The rows it stores first are the image shifted down by one line. -/
theorem k2_up (v : Vec F S256x1024 .bf16) (x : ℕ → ℕ → F .bf16) (hv : ∀ (a : Fin 256) (b : Fin 1024), v (ix2 a b) = x a b)
    (a : Fin 256) (b : Fin 1024) : k2_pay9 (k2_pay6 v) k2_pay7 k2_pay8 (ix3 0 a b) = stackAt 1024 32 x a b := by
  rw [stackAt_up]
  pointwise [k2_pay9, k2_pay6, k2_pay7, k2_pay8, hv]
  word_cmp
  split
  · rfl
  · congr 1; omega

/-- The rows it stores next are the image. -/
theorem k2_mid (v : Vec F S256x1024 .bf16) (x : ℕ → ℕ → F .bf16) (hv : ∀ (a : Fin 256) (b : Fin 1024), v (ix2 a b) = x a b)
    (a : Fin 256) (b : Fin 1024) : k2_pay10 v (ix3 0 a b) = stackAt 1024 32 x (256 + a) b := by
  rw [stackAt_mid]
  pointwise [k2_pay10, hv]

/-- The rows it stores last are the image shifted up by one line. -/
theorem k2_down (v : Vec F S256x1024 .bf16) (x : ℕ → ℕ → F .bf16) (hv : ∀ (a : Fin 256) (b : Fin 1024), v (ix2 a b) = x a b)
    (a : Fin 256) (b : Fin 1024) :
    k2_pay11 (iota .tc S256x1024 32 [1] iota_S256x1024_d1_w32) v (ix3 0 a b) = stackAt 1024 32 x (512 + a) b := by
  rw [stackAt_down]
  pointwise [k2_pay11, hv]
  word_cmp
  split
  · rw [if_neg (by omega)]
  · rw [if_pos (by omega)]; congr 1; omega

/-- The head's 24 rows at this level, from a block of the image and the constants. -/
def k2_out (X : Vec F S1x256x1024 .f32) (WT : Vec F S3x256x768 .bf16) (HW : Vec F S24x256 .bf16) (CB : Vec F S256x1 .f32) (HB : Vec F S24x1 .f32) :
    FVec F S24x1024 .f32 :=
  k2_pay16 (k2_pay2 CB) (k2_pay3 HB) k2_pay4 (k2_pay15 (segAt 1024 32 1024 (castAt 1024 X) 0)) (wtAt WT 0) (wtAt WT 1) (wtAt WT 2) HW

/-- One grid point of the level: from a block of the image and the constants held whole it leaves the head's first three
    rows in the one output block and rows 8 to 19 in the other, and everything it read as it was. -/
theorem k2_run (c : Dev nD) (i : grid2.Coords) (arg1 : Memref sig .tc .vmem S1x256x1024 .f32) (harg1 : arg1.IsWhole) (arg2 : Memref sig .tc .vmem S3x256x768 .bf16) (harg2 : arg2.IsWhole) (arg3 : Memref sig .tc .vmem S24x256 .bf16) (harg3 : arg3.IsWhole) (arg4 : Memref sig .tc .vmem S256x1 .f32) (harg4 : arg4.IsWhole) (arg5 : Memref sig .tc .vmem S24x1 .f32) (harg5 : arg5.IsWhole) (arg6 : Memref sig .tc .vmem S1x3x1024 .f32) (harg6 : arg6.IsWhole) (arg7 : Memref sig .tc .vmem S1x12x1024 .f32) (harg7 : arg7.IsWhole) (arg8 : Memref sig .tc .vmem S256x1024 .bf16) (harg8 : arg8.IsWhole) (arg9 : Memref sig .tc .vmem S2x768x1024 .bf16) (harg9 : arg9.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (O : FVec F S24x1024 .f32) (hO : O = k2_out (arg1.view.read (Elt F) f1) (arg2.view.read (Elt F) f2) (arg3.view.read (Elt F) f3) (arg4.view.read (Elt F) f4) (arg5.view.read (Elt F) f5))
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
      ∗ (iprop(pt c arg1 f1 ∗ pt c arg2 f2 ∗ pt c arg3 f3 ∗ pt c arg4 f4 ∗ pt c arg5 f5
          ∗ (∃ f, ⌜∀ (j : Fin 3) (l : Fin 1024), arg6.view.read (Elt F) f (ix3 0 j l) = O (ix2 ⟨j, by omega⟩ l)⌝ ∗ pt c arg6 f)
          ∗ (∃ f, ⌜∀ (j : Fin 12) (l : Fin 1024), arg7.view.read (Elt F) f (ix3 0 j l) = O (ix2 ⟨8 + j, by omega⟩ l)⌝ ∗ pt c arg7 f)
          ∗ (∃ f, pt c arg8 f) ∗ ∃ f, pt c arg9 f) -∗ Q ⟨⟩))
    ⊢ wp frame (wpE (defs₀ (F := F)) 𝒱₀ c none) Set.univ
        (cc2__rpn_level_kernel i arg1 harg1 arg2 harg2 arg3 harg3 arg4 harg4 arg5 harg5 arg6 harg6 arg7 harg7 arg8 harg8 arg9 harg9) Q := by
  iintro ⟨H1, H2, H3, H4, H5, H6, H7, H8, H9, Hk⟩
  have hd := k2_dead
  sl_exec_parts
  sl_step
  have e1 := readAt_full (F := F) arg4.view f4 _ inb_S256x1_S256x1_0_0
  have e2 := readAt_full (F := F) arg5.view f5 _ inb_S24x1_S24x1_0_0
  have e3 := readAt_full (F := F) arg3.view f3 _ inb_S24x256_S24x256_0_0
  have w0 := readAt_wt (F := F) arg2.view f2 0 0 rfl inb_S3x256x768_S1x256x768_0_0_0
  have w1 := readAt_wt (F := F) arg2.view f2 1 1 rfl inb_S3x256x768_S1x256x768_1_0_0
  have w2 := readAt_wt (F := F) arg2.view f2 2 2 rfl inb_S3x256x768_S1x256x768_2_0_0
  have e8 : ∀ (a : Fin 256) (b : Fin 1024), k2_run.sl.v31 c arg1 arg8 f1 (ix2 a b) = castAt 1024 (arg1.view.read (Elt F) f1) a b := by
    intro a b
    sl_unfold_run_names
    rw [View.readCov, readAt_full, read_store_full, readAt_full, k2_cast]
  have e9 : k2_run.sl.v62 c arg1 arg8 arg9 f1 = segAt 1024 32 1024 (castAt 1024 (arg1.view.read (Elt F) f1)) 0 := by
    delta k2_run.sl.v62
    rw [View.readCov]
    refine readAt_slot _ _ 1024 32 _ 0 0 _ k2_off8_eq _ fun y hy => ?_
    rw [Nat.zero_mul, Nat.zero_add]
    exact read_stack _ _ 0 _ _ _ rfl rfl rfl _ _ _ _ _ _ _ (k2_up _ _ e8) (k2_mid _ _ e8) (k2_down _ _ e8) _ hy
  iapply Hk
  isplitl [H1]; · iexact H1
  isplitl [H2]; · iexact H2
  isplitl [H3]; · iexact H3
  isplitl [H4]; · iexact H4
  isplitl [H5]; · iexact H5
  isplitl [H6]
  · iexists _; isplitr; swap; (· iexact H6); ipureintro
    intro j l
    rw [View.read_writes_cons_hit_of_coords _ _ _ _ _ (ix3 0 j l) _ (by intro a; fin_cases a <;> simp <;> rfl)]
    delta k2_run.sl.r_3 k2_run.sl.r k2_run.sl.r_1
    rw [e1, e2, w0, w1, w2, e3, e9, hO]
    pointwise [k2_pay17, k2_out]
  isplitl [H7]
  · iexists _; isplitr; swap; (· iexact H7); ipureintro
    intro j l
    rw [View.read_writes_cons_hit_of_coords _ _ _ _ _ (ix3 0 j l) _ (by intro a; fin_cases a <;> simp <;> rfl)]
    delta k2_run.sl.r_4 k2_run.sl.r_3 k2_run.sl.r k2_run.sl.r_1
    rw [e1, e2, w0, w1, w2, e3, e9, hO]
    pointwise [k2_pay1, k2_out]
  isplitl [H8]; · iexists _; iexact H8
  iexists _; iexact H9

end Cert.Proof.KernelIdeal
end
-- ==== Proof.Region2.lean ====
module

public import proofs.«01_k».proof.Proof.Level2
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

variable (A : Dev nD → Valuation τ sig (Elt F))

/-- The block window `w` has at point `t`, read off the contents `A` of the arrays at entry. -/
abbrev r2_blk (c : Dev nD) (w : Fin cfg2.W) (t : Fin cfg2.N) : ((cfg2.win w).xblock (cfg2.grid.coords t)).Idx → Elt F (cfg2.win w).elt :=
  ((cfg2.win w).blk t).view.read (Elt F) (A c (Pipeline.arrRef spec2 w))

/-- The 24 rows the body computes at point `t`. -/
def r2_out (c : Dev nD) (t : Fin cfg2.N) : FVec F S24x1024 .f32 :=
  k2_out (r2_blk A c 0 t) (r2_blk A c 1 t) (r2_blk A c 2 t) (r2_blk A c 3 t) (r2_blk A c 4 t)
/-- The first output block: rows 0, 1, 2. -/
def r2_logits (c : Dev nD) (t : Fin cfg2.N) : FVec F S1x3x1024 .f32 := fun y => r2_out A c t (ix2 ⟨(y 1).val, by have := (y 1).isLt; dsimp at this; omega⟩ ⟨(y 2).val, (y 2).isLt⟩)
/-- The second output block: rows 8 to 19. -/
def r2_bbox (c : Dev nD) (t : Fin cfg2.N) : FVec F S1x12x1024 .f32 := fun y => r2_out A c t (ix2 ⟨8 + (y 1).val, by have := (y 1).isLt; dsimp at this; omega⟩ ⟨(y 2).val, (y 2).isLt⟩)

/-- Contents that hold rows 0, 1, 2 are the first output block. -/
theorem r2_logits_eq (c : Dev nD) (t : Fin cfg2.N) (g : FVec F S1x3x1024 .f32) (h : ∀ (j : Fin 3) (l : Fin 1024), g (ix3 0 j l) = r2_out A c t (ix2 ⟨j, by omega⟩ l)) :
    g = r2_logits A c t := by
  funext y
  exact (congrArg g ((eq_ix3 y).trans (congrArg (ix3 · (y 1) (y 2)) (Subsingleton.elim (α := Fin 1) _ _)))).trans (h _ _)
/-- Contents that hold rows 8 to 19 are the second output block. -/
theorem r2_bbox_eq (c : Dev nD) (t : Fin cfg2.N) (g : FVec F S1x12x1024 .f32) (h : ∀ (j : Fin 12) (l : Fin 1024), g (ix3 0 j l) = r2_out A c t (ix2 ⟨8 + j, by omega⟩ l)) :
    g = r2_bbox A c t := by
  funext y
  exact (congrArg g ((eq_ix3 y).trans (congrArg (ix3 · (y 1) (y 2)) (Subsingleton.elim (α := Fin 1) _ _)))).trans (h _ _)

/-- The proof data of the region on core `c`: the arrays at `A`, each input block left in place, the two output blocks at the
    body's rows. -/
def r2_dat (c : Dev nD) : Dat τ (Elt F) Unit ℕ (UU nD τ) ℕ cfg2 c where
  A w := A c (Pipeline.arrRef spec2 w)
  after w t := match w with
    | ⟨0, _⟩ => r2_blk A c 0 t
    | ⟨1, _⟩ => r2_blk A c 1 t
    | ⟨2, _⟩ => r2_blk A c 2 t
    | ⟨3, _⟩ => r2_blk A c 3 t
    | ⟨4, _⟩ => r2_blk A c 4 t
    | ⟨5, _⟩ => r2_logits A c t
    | ⟨6, _⟩ => r2_bbox A c t
  Φ _ := Pipeline.scopedRest spec2 c
  q _ := fullShare
  owed _ := 0

/-- The body finds the first input's block in its buffer. -/
theorem r2_before0 (c : Dev nD) (t : Fin cfg2.N) (d) : (r2_dat A c).before 0 t d = r2_blk A c 0 t :=
  (r2_dat A c).before_in_eq_fetched 0 rfl (fun _ => rfl) (fun _ _ _ => rfl) (fun _ => rfl) t d
/-- The body finds the second input's block in its buffer. -/
theorem r2_before1 (c : Dev nD) (t : Fin cfg2.N) (d) : (r2_dat A c).before 1 t d = r2_blk A c 1 t :=
  (r2_dat A c).before_in_eq_fetched 1 rfl (fun _ => rfl) (fun _ _ _ => rfl) (fun _ => rfl) t d
/-- The body finds the third input's block in its buffer. -/
theorem r2_before2 (c : Dev nD) (t : Fin cfg2.N) (d) : (r2_dat A c).before 2 t d = r2_blk A c 2 t :=
  (r2_dat A c).before_in_eq_fetched 2 rfl (fun _ => rfl) (fun _ _ _ => rfl) (fun _ => rfl) t d
/-- The body finds the fourth input's block in its buffer. -/
theorem r2_before3 (c : Dev nD) (t : Fin cfg2.N) (d) : (r2_dat A c).before 3 t d = r2_blk A c 3 t :=
  (r2_dat A c).before_in_eq_fetched 3 rfl (fun _ => rfl) (fun _ _ _ => rfl) (fun _ => rfl) t d
/-- The body finds the fifth input's block in its buffer. -/
theorem r2_before4 (c : Dev nD) (t : Fin cfg2.N) (d) : (r2_dat A c).before 4 t d = r2_blk A c 4 t :=
  (r2_dat A c).before_in_eq_fetched 4 rfl (fun _ => rfl) (fun _ _ _ => rfl) (fun _ => rfl) t d

/-- What the body is called with at point `t`. -/
def r2_pre (c : Dev nD) (t : Fin cfg2.N) : sProp 𝕄 :=
  iprop((r2_dat A c).Φ t.castSucc ∗ (r2_dat A c).owesAt () t.castSucc
    ∗ (∃ d, owns (c : Thread nD τ) (st2_0 t) fullShare ((r2_dat A c).before 0 t d))
    ∗ (∃ d, owns (c : Thread nD τ) (st2_1 t) fullShare ((r2_dat A c).before 1 t d))
    ∗ (∃ d, owns (c : Thread nD τ) (st2_2 t) fullShare ((r2_dat A c).before 2 t d))
    ∗ (∃ d, owns (c : Thread nD τ) (st2_3 t) fullShare ((r2_dat A c).before 3 t d))
    ∗ (∃ d, owns (c : Thread nD τ) (st2_4 t) fullShare ((r2_dat A c).before 4 t d))
    ∗ (∃ d, owns (c : Thread nD τ) (st2_5 t) fullShare ((r2_dat A c).before 5 t d))
    ∗ (∃ d, owns (c : Thread nD τ) (st2_6 t) fullShare ((r2_dat A c).before 6 t d)))

/-- What the body returns. -/
def r2_post (c : Dev nD) (t : Fin cfg2.N) : sProp 𝕄 :=
  iprop((r2_dat A c).Φ t.succ ∗ (r2_dat A c).owesAt () t.succ
    ∗ owns (c : Thread nD τ) (st2_0 t) fullShare ((r2_dat A c).after 0 t)
    ∗ owns (c : Thread nD τ) (st2_1 t) fullShare ((r2_dat A c).after 1 t)
    ∗ owns (c : Thread nD τ) (st2_2 t) fullShare ((r2_dat A c).after 2 t)
    ∗ owns (c : Thread nD τ) (st2_3 t) fullShare ((r2_dat A c).after 3 t)
    ∗ owns (c : Thread nD τ) (st2_4 t) fullShare ((r2_dat A c).after 4 t)
    ∗ owns (c : Thread nD τ) (st2_5 t) fullShare ((r2_dat A c).after 5 t)
    ∗ owns (c : Thread nD τ) (st2_6 t) fullShare ((r2_dat A c).after 6 t))

set_option maxHeartbeats 1000000 in
/-- The body at any point. -/
theorem r2_body (c : Dev nD) (t : Fin cfg2.N) :
    r2_pre A c t ⊢ wp frame (wpE (defs₀ (F := F)) 𝒱₀ c none) Set.univ (bodyAt2 t) (fun _ => r2_post A c t) := by
  unfold r2_pre r2_post bodyAt2
  simp only [r2_before0, r2_before1, r2_before2, r2_before3, r2_before4]
  rw [show (r2_dat A c).Φ t.succ = Pipeline.scopedRest spec2 c from rfl, show (r2_dat A c).Φ t.castSucc = Pipeline.scopedRest spec2 c from rfl,
    show (r2_dat A c).owesAt () t.succ = (r2_dat A c).owesAt () t.castSucc from rfl, scopedRest2_split,
    show (r2_dat A c).after 0 t = r2_blk A c 0 t from rfl, show (r2_dat A c).after 1 t = r2_blk A c 1 t from rfl,
    show (r2_dat A c).after 2 t = r2_blk A c 2 t from rfl, show (r2_dat A c).after 3 t = r2_blk A c 3 t from rfl,
    show (r2_dat A c).after 4 t = r2_blk A c 4 t from rfl, show (r2_dat A c).after 5 t = r2_logits A c t from rfl,
    show (r2_dat A c).after 6 t = r2_bbox A c t from rfl]
  have w0 : (st2_0 t).IsWhole := hstage2_0 ((cfg2.slots t 0).cast nbuf2_0)
  have w1 : (st2_1 t).IsWhole := hstage2_1 ((cfg2.slots t 1).cast nbuf2_1)
  have w2 : (st2_2 t).IsWhole := hstage2_2 ((cfg2.slots t 2).cast nbuf2_2)
  have w3 : (st2_3 t).IsWhole := hstage2_3 ((cfg2.slots t 3).cast nbuf2_3)
  have w4 : (st2_4 t).IsWhole := hstage2_4 ((cfg2.slots t 4).cast nbuf2_4)
  have w5 : (st2_5 t).IsWhole := hstage2_5 ((cfg2.slots t 5).cast nbuf2_5)
  have w6 : (st2_6 t).IsWhole := hstage2_6 ((cfg2.slots t 6).cast nbuf2_6)
  iintro ⟨⟨⟨⟨%f8, H8⟩, ⟨%f9, H9⟩⟩, HR⟩, Ho, ⟨%d0, H0⟩, ⟨%d1, H1⟩, ⟨%d2, H2⟩, ⟨%d3, H3⟩, ⟨%d4, H4⟩, ⟨%d5, H5⟩, ⟨%d6, H6⟩⟩
  ihave H0 := (Entails.of_eq (owns_pt c w0 _)) $$ H0
  ihave H1 := (Entails.of_eq (owns_pt c w1 _)) $$ H1
  ihave H2 := (Entails.of_eq (owns_pt c w2 _)) $$ H2
  ihave H3 := (Entails.of_eq (owns_pt c w3 _)) $$ H3
  ihave H4 := (Entails.of_eq (owns_pt c w4 _)) $$ H4
  ihave H5 := (Entails.of_eq (owns_pt c w5 _)) $$ H5
  ihave H6 := (Entails.of_eq (owns_pt c w6 _)) $$ H6
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases H5 with ⟨%f5, -, H5⟩
  icases H6 with ⟨%f6, -, H6⟩
  iapply (k2_run c (grid2.coords t) _ w0 _ w1 _ w2 _ w3 _ w4 _ w5 _ w6 (Memref.whole cc2_scratch0) (Memref.isWhole_whole _) (Memref.whole cc2_scratch1) (Memref.isWhole_whole _)
    f0 f1 f2 f3 f4 f5 f6 f8 f9 (r2_out A c t) (by unfold r2_out; rw [h0, h1, h2, h3, h4]))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iintro ⟨H0, H1, H2, H3, H4, ⟨%g5, %h5, H5⟩, ⟨%g6, %h6, H6⟩, ⟨%g8, H8⟩, ⟨%g9, H9⟩⟩
  isplitl [H8 H9 HR]
  · isplitl [H8 H9]
    · isplitl [H8]
      · iexists _; iexact H8
      · iexists _; iexact H9
    iexact HR
  isplitl [Ho]; · iexact Ho
  isplitl [H0]
  · iapply (owns_of_pt c w0 h0)
    iexact H0
  isplitl [H1]
  · iapply (owns_of_pt c w1 h1)
    iexact H1
  isplitl [H2]
  · iapply (owns_of_pt c w2 h2)
    iexact H2
  isplitl [H3]
  · iapply (owns_of_pt c w3 h3)
    iexact H3
  isplitl [H4]
  · iapply (owns_of_pt c w4 h4)
    iexact H4
  isplitl [H5]
  · iapply (owns_of_pt c w5 (r2_logits_eq A c t _ h5)); iexact H5
  · iapply (owns_of_pt c w6 (r2_bbox_eq A c t _ h6)); iexact H6

/-- The body table's row at point `t`'s slots is the body. -/
theorem r2_row (t : Fin cfg2.N) : defs₀ (F := F) .tc cfg2.body (cfg2.bodyArgs t (cfg2.slots t)) = bodyAt2 t := by
  unfold defs₀; rw [Defs.onTc_tc]

/-- The body obligation at every point. -/
theorem r2_obligation (c : Dev nD) : BodyObligation (r2_dat (F := F) A c) (defs₀ (F := F)) 𝒱₀ () Set.univ := fun t => by
  rw [bigSep_W2, bigSep_W2, r2_row]
  exact triple_restated (r2_body A c t) rfl .rfl fun _ => .rfl

end Cert.Proof.KernelIdeal
end
-- ==== Proof.Level3.lean ====
module

public import proofs.«01_k».proof.Proof.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- With one segment there is no next segment to build. -/
theorem k3_dead : ¬ (k3_cond1 = 1#1) := by decide

/-- What the kernel keeps of the image is its cast. -/
theorem k3_cast (x : Vec F S1x256x256 .f32) (a : Fin 256) (b : Fin 256) : k3_pay5 x (ix2 a b) = castAt 256 x a b := by
  unfold castAt
  rw [dif_pos ⟨a.isLt, b.isLt⟩]
  pointwise [k3_pay5]

/-- The rows it stores first are the image shifted down by one line. -/
theorem k3_up (v : Vec F S256x256 .bf16) (x : ℕ → ℕ → F .bf16) (hv : ∀ (a : Fin 256) (b : Fin 256), v (ix2 a b) = x a b)
    (a : Fin 256) (b : Fin 256) : k3_pay9 (k3_pay6 v) k3_pay7 k3_pay8 (ix3 0 a b) = stackAt 256 16 x a b := by
  rw [stackAt_up]
  pointwise [k3_pay9, k3_pay6, k3_pay7, k3_pay8, hv]
  word_cmp
  split
  · rfl
  · congr 1; omega

/-- The rows it stores next are the image. -/
theorem k3_mid (v : Vec F S256x256 .bf16) (x : ℕ → ℕ → F .bf16) (hv : ∀ (a : Fin 256) (b : Fin 256), v (ix2 a b) = x a b)
    (a : Fin 256) (b : Fin 256) : k3_pay10 v (ix3 0 a b) = stackAt 256 16 x (256 + a) b := by
  rw [stackAt_mid]
  pointwise [k3_pay10, hv]

/-- The rows it stores last are the image shifted up by one line. -/
theorem k3_down (v : Vec F S256x256 .bf16) (x : ℕ → ℕ → F .bf16) (hv : ∀ (a : Fin 256) (b : Fin 256), v (ix2 a b) = x a b)
    (a : Fin 256) (b : Fin 256) :
    k3_pay11 (iota .tc S256x256 32 [1] iota_S256x256_d1_w32) v (ix3 0 a b) = stackAt 256 16 x (512 + a) b := by
  rw [stackAt_down]
  pointwise [k3_pay11, hv]
  word_cmp
  split
  · rw [if_neg (by omega)]
  · rw [if_pos (by omega)]; congr 1; omega

/-- The head's 24 rows at this level, from a block of the image and the constants. -/
def k3_out (X : Vec F S1x256x256 .f32) (WT : Vec F S3x256x768 .bf16) (HW : Vec F S24x256 .bf16) (CB : Vec F S256x1 .f32) (HB : Vec F S24x1 .f32) :
    FVec F S24x256 .f32 :=
  k3_pay16 (k3_pay2 CB) (k3_pay3 HB) k3_pay4 (k3_pay15 (segAt 256 16 256 (castAt 256 X) 0)) (wtAt WT 0) (wtAt WT 1) (wtAt WT 2) HW

/-- One grid point of the level: from a block of the image and the constants held whole it leaves the head's first three
    rows in the one output block and rows 8 to 19 in the other, and everything it read as it was. -/
theorem k3_run (c : Dev nD) (i : grid3.Coords) (arg1 : Memref sig .tc .vmem S1x256x256 .f32) (harg1 : arg1.IsWhole) (arg2 : Memref sig .tc .vmem S3x256x768 .bf16) (harg2 : arg2.IsWhole) (arg3 : Memref sig .tc .vmem S24x256 .bf16) (harg3 : arg3.IsWhole) (arg4 : Memref sig .tc .vmem S256x1 .f32) (harg4 : arg4.IsWhole) (arg5 : Memref sig .tc .vmem S24x1 .f32) (harg5 : arg5.IsWhole) (arg6 : Memref sig .tc .vmem S1x3x256 .f32) (harg6 : arg6.IsWhole) (arg7 : Memref sig .tc .vmem S1x12x256 .f32) (harg7 : arg7.IsWhole) (arg8 : Memref sig .tc .vmem S256x256 .bf16) (harg8 : arg8.IsWhole) (arg9 : Memref sig .tc .vmem S2x768x256 .bf16) (harg9 : arg9.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (O : FVec F S24x256 .f32) (hO : O = k3_out (arg1.view.read (Elt F) f1) (arg2.view.read (Elt F) f2) (arg3.view.read (Elt F) f3) (arg4.view.read (Elt F) f4) (arg5.view.read (Elt F) f5))
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
      ∗ (iprop(pt c arg1 f1 ∗ pt c arg2 f2 ∗ pt c arg3 f3 ∗ pt c arg4 f4 ∗ pt c arg5 f5
          ∗ (∃ f, ⌜∀ (j : Fin 3) (l : Fin 256), arg6.view.read (Elt F) f (ix3 0 j l) = O (ix2 ⟨j, by omega⟩ l)⌝ ∗ pt c arg6 f)
          ∗ (∃ f, ⌜∀ (j : Fin 12) (l : Fin 256), arg7.view.read (Elt F) f (ix3 0 j l) = O (ix2 ⟨8 + j, by omega⟩ l)⌝ ∗ pt c arg7 f)
          ∗ (∃ f, pt c arg8 f) ∗ ∃ f, pt c arg9 f) -∗ Q ⟨⟩))
    ⊢ wp frame (wpE (defs₀ (F := F)) 𝒱₀ c none) Set.univ
        (cc3__rpn_level_kernel i arg1 harg1 arg2 harg2 arg3 harg3 arg4 harg4 arg5 harg5 arg6 harg6 arg7 harg7 arg8 harg8 arg9 harg9) Q := by
  iintro ⟨H1, H2, H3, H4, H5, H6, H7, H8, H9, Hk⟩
  have hd := k3_dead
  sl_exec_parts
  sl_step
  have e1 := readAt_full (F := F) arg4.view f4 _ inb_S256x1_S256x1_0_0
  have e2 := readAt_full (F := F) arg5.view f5 _ inb_S24x1_S24x1_0_0
  have e3 := readAt_full (F := F) arg3.view f3 _ inb_S24x256_S24x256_0_0
  have w0 := readAt_wt (F := F) arg2.view f2 0 0 rfl inb_S3x256x768_S1x256x768_0_0_0
  have w1 := readAt_wt (F := F) arg2.view f2 1 1 rfl inb_S3x256x768_S1x256x768_1_0_0
  have w2 := readAt_wt (F := F) arg2.view f2 2 2 rfl inb_S3x256x768_S1x256x768_2_0_0
  have e8 : ∀ (a : Fin 256) (b : Fin 256), k3_run.sl.v31 c arg1 arg8 f1 (ix2 a b) = castAt 256 (arg1.view.read (Elt F) f1) a b := by
    intro a b
    sl_unfold_run_names
    rw [View.readCov, readAt_full, read_store_full, readAt_full, k3_cast]
  have e9 : k3_run.sl.v62 c arg1 arg8 arg9 f1 = segAt 256 16 256 (castAt 256 (arg1.view.read (Elt F) f1)) 0 := by
    delta k3_run.sl.v62
    rw [View.readCov]
    refine readAt_slot _ _ 256 16 _ 0 0 _ k3_off8_eq _ fun y hy => ?_
    rw [Nat.zero_mul, Nat.zero_add]
    exact read_stack _ _ 0 _ _ _ rfl rfl rfl _ _ _ _ _ _ _ (k3_up _ _ e8) (k3_mid _ _ e8) (k3_down _ _ e8) _ hy
  iapply Hk
  isplitl [H1]; · iexact H1
  isplitl [H2]; · iexact H2
  isplitl [H3]; · iexact H3
  isplitl [H4]; · iexact H4
  isplitl [H5]; · iexact H5
  isplitl [H6]
  · iexists _; isplitr; swap; (· iexact H6); ipureintro
    intro j l
    rw [View.read_writes_cons_hit_of_coords _ _ _ _ _ (ix3 0 j l) _ (by intro a; fin_cases a <;> simp <;> rfl)]
    delta k3_run.sl.r_3 k3_run.sl.r k3_run.sl.r_1
    rw [e1, e2, w0, w1, w2, e3, e9, hO]
    pointwise [k3_pay17, k3_out]
  isplitl [H7]
  · iexists _; isplitr; swap; (· iexact H7); ipureintro
    intro j l
    rw [View.read_writes_cons_hit_of_coords _ _ _ _ _ (ix3 0 j l) _ (by intro a; fin_cases a <;> simp <;> rfl)]
    delta k3_run.sl.r_4 k3_run.sl.r_3 k3_run.sl.r k3_run.sl.r_1
    rw [e1, e2, w0, w1, w2, e3, e9, hO]
    pointwise [k3_pay1, k3_out]
  isplitl [H8]; · iexists _; iexact H8
  iexists _; iexact H9

end Cert.Proof.KernelIdeal
end
-- ==== Proof.Region3.lean ====
module

public import proofs.«01_k».proof.Proof.Level3
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

variable (A : Dev nD → Valuation τ sig (Elt F))

/-- The block window `w` has at point `t`, read off the contents `A` of the arrays at entry. -/
abbrev r3_blk (c : Dev nD) (w : Fin cfg3.W) (t : Fin cfg3.N) : ((cfg3.win w).xblock (cfg3.grid.coords t)).Idx → Elt F (cfg3.win w).elt :=
  ((cfg3.win w).blk t).view.read (Elt F) (A c (Pipeline.arrRef spec3 w))

/-- The 24 rows the body computes at point `t`. -/
def r3_out (c : Dev nD) (t : Fin cfg3.N) : FVec F S24x256 .f32 :=
  k3_out (r3_blk A c 0 t) (r3_blk A c 1 t) (r3_blk A c 2 t) (r3_blk A c 3 t) (r3_blk A c 4 t)
/-- The first output block: rows 0, 1, 2. -/
def r3_logits (c : Dev nD) (t : Fin cfg3.N) : FVec F S1x3x256 .f32 := fun y => r3_out A c t (ix2 ⟨(y 1).val, by have := (y 1).isLt; dsimp at this; omega⟩ ⟨(y 2).val, (y 2).isLt⟩)
/-- The second output block: rows 8 to 19. -/
def r3_bbox (c : Dev nD) (t : Fin cfg3.N) : FVec F S1x12x256 .f32 := fun y => r3_out A c t (ix2 ⟨8 + (y 1).val, by have := (y 1).isLt; dsimp at this; omega⟩ ⟨(y 2).val, (y 2).isLt⟩)

/-- Contents that hold rows 0, 1, 2 are the first output block. -/
theorem r3_logits_eq (c : Dev nD) (t : Fin cfg3.N) (g : FVec F S1x3x256 .f32) (h : ∀ (j : Fin 3) (l : Fin 256), g (ix3 0 j l) = r3_out A c t (ix2 ⟨j, by omega⟩ l)) :
    g = r3_logits A c t := by
  funext y
  exact (congrArg g ((eq_ix3 y).trans (congrArg (ix3 · (y 1) (y 2)) (Subsingleton.elim (α := Fin 1) _ _)))).trans (h _ _)
/-- Contents that hold rows 8 to 19 are the second output block. -/
theorem r3_bbox_eq (c : Dev nD) (t : Fin cfg3.N) (g : FVec F S1x12x256 .f32) (h : ∀ (j : Fin 12) (l : Fin 256), g (ix3 0 j l) = r3_out A c t (ix2 ⟨8 + j, by omega⟩ l)) :
    g = r3_bbox A c t := by
  funext y
  exact (congrArg g ((eq_ix3 y).trans (congrArg (ix3 · (y 1) (y 2)) (Subsingleton.elim (α := Fin 1) _ _)))).trans (h _ _)

/-- The proof data of the region on core `c`: the arrays at `A`, each input block left in place, the two output blocks at the
    body's rows. -/
def r3_dat (c : Dev nD) : Dat τ (Elt F) Unit ℕ (UU nD τ) ℕ cfg3 c where
  A w := A c (Pipeline.arrRef spec3 w)
  after w t := match w with
    | ⟨0, _⟩ => r3_blk A c 0 t
    | ⟨1, _⟩ => r3_blk A c 1 t
    | ⟨2, _⟩ => r3_blk A c 2 t
    | ⟨3, _⟩ => r3_blk A c 3 t
    | ⟨4, _⟩ => r3_blk A c 4 t
    | ⟨5, _⟩ => r3_logits A c t
    | ⟨6, _⟩ => r3_bbox A c t
  Φ _ := Pipeline.scopedRest spec3 c
  q _ := fullShare
  owed _ := 0

/-- The body finds the first input's block in its buffer. -/
theorem r3_before0 (c : Dev nD) (t : Fin cfg3.N) (d) : (r3_dat A c).before 0 t d = r3_blk A c 0 t :=
  (r3_dat A c).before_in_eq_fetched 0 rfl (fun _ => rfl) (fun _ _ _ => rfl) (fun _ => rfl) t d
/-- The body finds the second input's block in its buffer. -/
theorem r3_before1 (c : Dev nD) (t : Fin cfg3.N) (d) : (r3_dat A c).before 1 t d = r3_blk A c 1 t :=
  (r3_dat A c).before_in_eq_fetched 1 rfl (fun _ => rfl) (fun _ _ _ => rfl) (fun _ => rfl) t d
/-- The body finds the third input's block in its buffer. -/
theorem r3_before2 (c : Dev nD) (t : Fin cfg3.N) (d) : (r3_dat A c).before 2 t d = r3_blk A c 2 t :=
  (r3_dat A c).before_in_eq_fetched 2 rfl (fun _ => rfl) (fun _ _ _ => rfl) (fun _ => rfl) t d
/-- The body finds the fourth input's block in its buffer. -/
theorem r3_before3 (c : Dev nD) (t : Fin cfg3.N) (d) : (r3_dat A c).before 3 t d = r3_blk A c 3 t :=
  (r3_dat A c).before_in_eq_fetched 3 rfl (fun _ => rfl) (fun _ _ _ => rfl) (fun _ => rfl) t d
/-- The body finds the fifth input's block in its buffer. -/
theorem r3_before4 (c : Dev nD) (t : Fin cfg3.N) (d) : (r3_dat A c).before 4 t d = r3_blk A c 4 t :=
  (r3_dat A c).before_in_eq_fetched 4 rfl (fun _ => rfl) (fun _ _ _ => rfl) (fun _ => rfl) t d

/-- What the body is called with at point `t`. -/
def r3_pre (c : Dev nD) (t : Fin cfg3.N) : sProp 𝕄 :=
  iprop((r3_dat A c).Φ t.castSucc ∗ (r3_dat A c).owesAt () t.castSucc
    ∗ (∃ d, owns (c : Thread nD τ) (st3_0 t) fullShare ((r3_dat A c).before 0 t d))
    ∗ (∃ d, owns (c : Thread nD τ) (st3_1 t) fullShare ((r3_dat A c).before 1 t d))
    ∗ (∃ d, owns (c : Thread nD τ) (st3_2 t) fullShare ((r3_dat A c).before 2 t d))
    ∗ (∃ d, owns (c : Thread nD τ) (st3_3 t) fullShare ((r3_dat A c).before 3 t d))
    ∗ (∃ d, owns (c : Thread nD τ) (st3_4 t) fullShare ((r3_dat A c).before 4 t d))
    ∗ (∃ d, owns (c : Thread nD τ) (st3_5 t) fullShare ((r3_dat A c).before 5 t d))
    ∗ (∃ d, owns (c : Thread nD τ) (st3_6 t) fullShare ((r3_dat A c).before 6 t d)))

/-- What the body returns. -/
def r3_post (c : Dev nD) (t : Fin cfg3.N) : sProp 𝕄 :=
  iprop((r3_dat A c).Φ t.succ ∗ (r3_dat A c).owesAt () t.succ
    ∗ owns (c : Thread nD τ) (st3_0 t) fullShare ((r3_dat A c).after 0 t)
    ∗ owns (c : Thread nD τ) (st3_1 t) fullShare ((r3_dat A c).after 1 t)
    ∗ owns (c : Thread nD τ) (st3_2 t) fullShare ((r3_dat A c).after 2 t)
    ∗ owns (c : Thread nD τ) (st3_3 t) fullShare ((r3_dat A c).after 3 t)
    ∗ owns (c : Thread nD τ) (st3_4 t) fullShare ((r3_dat A c).after 4 t)
    ∗ owns (c : Thread nD τ) (st3_5 t) fullShare ((r3_dat A c).after 5 t)
    ∗ owns (c : Thread nD τ) (st3_6 t) fullShare ((r3_dat A c).after 6 t))

set_option maxHeartbeats 1000000 in
/-- The body at any point. -/
theorem r3_body (c : Dev nD) (t : Fin cfg3.N) :
    r3_pre A c t ⊢ wp frame (wpE (defs₀ (F := F)) 𝒱₀ c none) Set.univ (bodyAt3 t) (fun _ => r3_post A c t) := by
  unfold r3_pre r3_post bodyAt3
  simp only [r3_before0, r3_before1, r3_before2, r3_before3, r3_before4]
  rw [show (r3_dat A c).Φ t.succ = Pipeline.scopedRest spec3 c from rfl, show (r3_dat A c).Φ t.castSucc = Pipeline.scopedRest spec3 c from rfl,
    show (r3_dat A c).owesAt () t.succ = (r3_dat A c).owesAt () t.castSucc from rfl, scopedRest3_split,
    show (r3_dat A c).after 0 t = r3_blk A c 0 t from rfl, show (r3_dat A c).after 1 t = r3_blk A c 1 t from rfl,
    show (r3_dat A c).after 2 t = r3_blk A c 2 t from rfl, show (r3_dat A c).after 3 t = r3_blk A c 3 t from rfl,
    show (r3_dat A c).after 4 t = r3_blk A c 4 t from rfl, show (r3_dat A c).after 5 t = r3_logits A c t from rfl,
    show (r3_dat A c).after 6 t = r3_bbox A c t from rfl]
  have w0 : (st3_0 t).IsWhole := hstage3_0 ((cfg3.slots t 0).cast nbuf3_0)
  have w1 : (st3_1 t).IsWhole := hstage3_1 ((cfg3.slots t 1).cast nbuf3_1)
  have w2 : (st3_2 t).IsWhole := hstage3_2 ((cfg3.slots t 2).cast nbuf3_2)
  have w3 : (st3_3 t).IsWhole := hstage3_3 ((cfg3.slots t 3).cast nbuf3_3)
  have w4 : (st3_4 t).IsWhole := hstage3_4 ((cfg3.slots t 4).cast nbuf3_4)
  have w5 : (st3_5 t).IsWhole := hstage3_5 ((cfg3.slots t 5).cast nbuf3_5)
  have w6 : (st3_6 t).IsWhole := hstage3_6 ((cfg3.slots t 6).cast nbuf3_6)
  iintro ⟨⟨⟨⟨%f8, H8⟩, ⟨%f9, H9⟩⟩, HR⟩, Ho, ⟨%d0, H0⟩, ⟨%d1, H1⟩, ⟨%d2, H2⟩, ⟨%d3, H3⟩, ⟨%d4, H4⟩, ⟨%d5, H5⟩, ⟨%d6, H6⟩⟩
  ihave H0 := (Entails.of_eq (owns_pt c w0 _)) $$ H0
  ihave H1 := (Entails.of_eq (owns_pt c w1 _)) $$ H1
  ihave H2 := (Entails.of_eq (owns_pt c w2 _)) $$ H2
  ihave H3 := (Entails.of_eq (owns_pt c w3 _)) $$ H3
  ihave H4 := (Entails.of_eq (owns_pt c w4 _)) $$ H4
  ihave H5 := (Entails.of_eq (owns_pt c w5 _)) $$ H5
  ihave H6 := (Entails.of_eq (owns_pt c w6 _)) $$ H6
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases H5 with ⟨%f5, -, H5⟩
  icases H6 with ⟨%f6, -, H6⟩
  iapply (k3_run c (grid3.coords t) _ w0 _ w1 _ w2 _ w3 _ w4 _ w5 _ w6 (Memref.whole cc3_scratch0) (Memref.isWhole_whole _) (Memref.whole cc3_scratch1) (Memref.isWhole_whole _)
    f0 f1 f2 f3 f4 f5 f6 f8 f9 (r3_out A c t) (by unfold r3_out; rw [h0, h1, h2, h3, h4]))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iintro ⟨H0, H1, H2, H3, H4, ⟨%g5, %h5, H5⟩, ⟨%g6, %h6, H6⟩, ⟨%g8, H8⟩, ⟨%g9, H9⟩⟩
  isplitl [H8 H9 HR]
  · isplitl [H8 H9]
    · isplitl [H8]
      · iexists _; iexact H8
      · iexists _; iexact H9
    iexact HR
  isplitl [Ho]; · iexact Ho
  isplitl [H0]
  · iapply (owns_of_pt c w0 h0)
    iexact H0
  isplitl [H1]
  · iapply (owns_of_pt c w1 h1)
    iexact H1
  isplitl [H2]
  · iapply (owns_of_pt c w2 h2)
    iexact H2
  isplitl [H3]
  · iapply (owns_of_pt c w3 h3)
    iexact H3
  isplitl [H4]
  · iapply (owns_of_pt c w4 h4)
    iexact H4
  isplitl [H5]
  · iapply (owns_of_pt c w5 (r3_logits_eq A c t _ h5)); iexact H5
  · iapply (owns_of_pt c w6 (r3_bbox_eq A c t _ h6)); iexact H6

/-- The body table's row at point `t`'s slots is the body. -/
theorem r3_row (t : Fin cfg3.N) : defs₀ (F := F) .tc cfg3.body (cfg3.bodyArgs t (cfg3.slots t)) = bodyAt3 t := by
  unfold defs₀; rw [Defs.onTc_tc]

/-- The body obligation at every point. -/
theorem r3_obligation (c : Dev nD) : BodyObligation (r3_dat (F := F) A c) (defs₀ (F := F)) 𝒱₀ () Set.univ := fun t => by
  rw [bigSep_W3, bigSep_W3, r3_row]
  exact triple_restated (r3_body A c t) rfl .rfl fun _ => .rfl

end Cert.Proof.KernelIdeal
end
-- ==== Proof.Level4.lean ====
module

public import proofs.«01_k».proof.Proof.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- With one segment there is no next segment to build. -/
theorem k4_dead : ¬ (k4_cond1 = 1#1) := by decide

/-- What the kernel keeps of the image is its cast. -/
theorem k4_cast (x : Vec F S1x256x64 .f32) (a : Fin 256) (b : Fin 64) : k4_pay5 x (ix2 a b) = castAt 64 x a b := by
  unfold castAt
  rw [dif_pos ⟨a.isLt, b.isLt⟩]
  pointwise [k4_pay5]

/-- The rows it stores first are the image shifted down by one line. -/
theorem k4_up (v : Vec F S256x64 .bf16) (x : ℕ → ℕ → F .bf16) (hv : ∀ (a : Fin 256) (b : Fin 64), v (ix2 a b) = x a b)
    (a : Fin 256) (b : Fin 64) : k4_pay9 (k4_pay6 v) k4_pay7 k4_pay8 (ix3 0 a b) = stackAt 64 8 x a b := by
  rw [stackAt_up]
  pointwise [k4_pay9, k4_pay6, k4_pay7, k4_pay8, hv]
  word_cmp
  split
  · rfl
  · congr 1; omega

/-- The rows it stores next are the image. -/
theorem k4_mid (v : Vec F S256x64 .bf16) (x : ℕ → ℕ → F .bf16) (hv : ∀ (a : Fin 256) (b : Fin 64), v (ix2 a b) = x a b)
    (a : Fin 256) (b : Fin 64) : k4_pay10 v (ix3 0 a b) = stackAt 64 8 x (256 + a) b := by
  rw [stackAt_mid]
  pointwise [k4_pay10, hv]

/-- The rows it stores last are the image shifted up by one line. -/
theorem k4_down (v : Vec F S256x64 .bf16) (x : ℕ → ℕ → F .bf16) (hv : ∀ (a : Fin 256) (b : Fin 64), v (ix2 a b) = x a b)
    (a : Fin 256) (b : Fin 64) :
    k4_pay11 (iota .tc S256x64 32 [1] iota_S256x64_d1_w32) v (ix3 0 a b) = stackAt 64 8 x (512 + a) b := by
  rw [stackAt_down]
  pointwise [k4_pay11, hv]
  word_cmp
  split
  · rw [if_neg (by omega)]
  · rw [if_pos (by omega)]; congr 1; omega

/-- The head's 24 rows at this level, from a block of the image and the constants. -/
def k4_out (X : Vec F S1x256x64 .f32) (WT : Vec F S3x256x768 .bf16) (HW : Vec F S24x256 .bf16) (CB : Vec F S256x1 .f32) (HB : Vec F S24x1 .f32) :
    FVec F S24x64 .f32 :=
  k4_pay16 (k4_pay2 CB) (k4_pay3 HB) k4_pay4 (k4_pay15 (segAt 64 8 64 (castAt 64 X) 0)) (wtAt WT 0) (wtAt WT 1) (wtAt WT 2) HW

/-- One grid point of the level: from a block of the image and the constants held whole it leaves the head's first three
    rows in the one output block and rows 8 to 19 in the other, and everything it read as it was. -/
theorem k4_run (c : Dev nD) (i : grid4.Coords) (arg1 : Memref sig .tc .vmem S1x256x64 .f32) (harg1 : arg1.IsWhole) (arg2 : Memref sig .tc .vmem S3x256x768 .bf16) (harg2 : arg2.IsWhole) (arg3 : Memref sig .tc .vmem S24x256 .bf16) (harg3 : arg3.IsWhole) (arg4 : Memref sig .tc .vmem S256x1 .f32) (harg4 : arg4.IsWhole) (arg5 : Memref sig .tc .vmem S24x1 .f32) (harg5 : arg5.IsWhole) (arg6 : Memref sig .tc .vmem S1x3x64 .f32) (harg6 : arg6.IsWhole) (arg7 : Memref sig .tc .vmem S1x12x64 .f32) (harg7 : arg7.IsWhole) (arg8 : Memref sig .tc .vmem S256x64 .bf16) (harg8 : arg8.IsWhole) (arg9 : Memref sig .tc .vmem S2x768x64 .bf16) (harg9 : arg9.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (O : FVec F S24x64 .f32) (hO : O = k4_out (arg1.view.read (Elt F) f1) (arg2.view.read (Elt F) f2) (arg3.view.read (Elt F) f3) (arg4.view.read (Elt F) f4) (arg5.view.read (Elt F) f5))
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
      ∗ (iprop(pt c arg1 f1 ∗ pt c arg2 f2 ∗ pt c arg3 f3 ∗ pt c arg4 f4 ∗ pt c arg5 f5
          ∗ (∃ f, ⌜∀ (j : Fin 3) (l : Fin 64), arg6.view.read (Elt F) f (ix3 0 j l) = O (ix2 ⟨j, by omega⟩ l)⌝ ∗ pt c arg6 f)
          ∗ (∃ f, ⌜∀ (j : Fin 12) (l : Fin 64), arg7.view.read (Elt F) f (ix3 0 j l) = O (ix2 ⟨8 + j, by omega⟩ l)⌝ ∗ pt c arg7 f)
          ∗ (∃ f, pt c arg8 f) ∗ ∃ f, pt c arg9 f) -∗ Q ⟨⟩))
    ⊢ wp frame (wpE (defs₀ (F := F)) 𝒱₀ c none) Set.univ
        (cc4__rpn_level_kernel i arg1 harg1 arg2 harg2 arg3 harg3 arg4 harg4 arg5 harg5 arg6 harg6 arg7 harg7 arg8 harg8 arg9 harg9) Q := by
  iintro ⟨H1, H2, H3, H4, H5, H6, H7, H8, H9, Hk⟩
  have hd := k4_dead
  sl_exec_parts
  sl_step
  have e1 := readAt_full (F := F) arg4.view f4 _ inb_S256x1_S256x1_0_0
  have e2 := readAt_full (F := F) arg5.view f5 _ inb_S24x1_S24x1_0_0
  have e3 := readAt_full (F := F) arg3.view f3 _ inb_S24x256_S24x256_0_0
  have w0 := readAt_wt (F := F) arg2.view f2 0 0 rfl inb_S3x256x768_S1x256x768_0_0_0
  have w1 := readAt_wt (F := F) arg2.view f2 1 1 rfl inb_S3x256x768_S1x256x768_1_0_0
  have w2 := readAt_wt (F := F) arg2.view f2 2 2 rfl inb_S3x256x768_S1x256x768_2_0_0
  have e8 : ∀ (a : Fin 256) (b : Fin 64), k4_run.sl.v31 c arg1 arg8 f1 (ix2 a b) = castAt 64 (arg1.view.read (Elt F) f1) a b := by
    intro a b
    sl_unfold_run_names
    rw [View.readCov, readAt_full, read_store_full, readAt_full, k4_cast]
  have e9 : k4_run.sl.v62 c arg1 arg8 arg9 f1 = segAt 64 8 64 (castAt 64 (arg1.view.read (Elt F) f1)) 0 := by
    delta k4_run.sl.v62
    rw [View.readCov]
    refine readAt_slot _ _ 64 8 _ 0 0 _ k4_off8_eq _ fun y hy => ?_
    rw [Nat.zero_mul, Nat.zero_add]
    exact read_stack _ _ 0 _ _ _ rfl rfl rfl _ _ _ _ _ _ _ (k4_up _ _ e8) (k4_mid _ _ e8) (k4_down _ _ e8) _ hy
  iapply Hk
  isplitl [H1]; · iexact H1
  isplitl [H2]; · iexact H2
  isplitl [H3]; · iexact H3
  isplitl [H4]; · iexact H4
  isplitl [H5]; · iexact H5
  isplitl [H6]
  · iexists _; isplitr; swap; (· iexact H6); ipureintro
    intro j l
    rw [View.read_writes_cons_hit_of_coords _ _ _ _ _ (ix3 0 j l) _ (by intro a; fin_cases a <;> simp <;> rfl)]
    delta k4_run.sl.r_3 k4_run.sl.r k4_run.sl.r_1
    rw [e1, e2, w0, w1, w2, e3, e9, hO]
    pointwise [k4_pay17, k4_out]
  isplitl [H7]
  · iexists _; isplitr; swap; (· iexact H7); ipureintro
    intro j l
    rw [View.read_writes_cons_hit_of_coords _ _ _ _ _ (ix3 0 j l) _ (by intro a; fin_cases a <;> simp <;> rfl)]
    delta k4_run.sl.r_4 k4_run.sl.r_3 k4_run.sl.r k4_run.sl.r_1
    rw [e1, e2, w0, w1, w2, e3, e9, hO]
    pointwise [k4_pay1, k4_out]
  isplitl [H8]; · iexists _; iexact H8
  iexists _; iexact H9

end Cert.Proof.KernelIdeal
end
-- ==== Proof.Region4.lean ====
module

public import proofs.«01_k».proof.Proof.Level4
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

variable (A : Dev nD → Valuation τ sig (Elt F))

/-- The block window `w` has at point `t`, read off the contents `A` of the arrays at entry. -/
abbrev r4_blk (c : Dev nD) (w : Fin cfg4.W) (t : Fin cfg4.N) : ((cfg4.win w).xblock (cfg4.grid.coords t)).Idx → Elt F (cfg4.win w).elt :=
  ((cfg4.win w).blk t).view.read (Elt F) (A c (Pipeline.arrRef spec4 w))

/-- The 24 rows the body computes at point `t`. -/
def r4_out (c : Dev nD) (t : Fin cfg4.N) : FVec F S24x64 .f32 :=
  k4_out (r4_blk A c 0 t) (r4_blk A c 1 t) (r4_blk A c 2 t) (r4_blk A c 3 t) (r4_blk A c 4 t)
/-- The first output block: rows 0, 1, 2. -/
def r4_logits (c : Dev nD) (t : Fin cfg4.N) : FVec F S1x3x64 .f32 := fun y => r4_out A c t (ix2 ⟨(y 1).val, by have := (y 1).isLt; dsimp at this; omega⟩ ⟨(y 2).val, (y 2).isLt⟩)
/-- The second output block: rows 8 to 19. -/
def r4_bbox (c : Dev nD) (t : Fin cfg4.N) : FVec F S1x12x64 .f32 := fun y => r4_out A c t (ix2 ⟨8 + (y 1).val, by have := (y 1).isLt; dsimp at this; omega⟩ ⟨(y 2).val, (y 2).isLt⟩)

/-- Contents that hold rows 0, 1, 2 are the first output block. -/
theorem r4_logits_eq (c : Dev nD) (t : Fin cfg4.N) (g : FVec F S1x3x64 .f32) (h : ∀ (j : Fin 3) (l : Fin 64), g (ix3 0 j l) = r4_out A c t (ix2 ⟨j, by omega⟩ l)) :
    g = r4_logits A c t := by
  funext y
  exact (congrArg g ((eq_ix3 y).trans (congrArg (ix3 · (y 1) (y 2)) (Subsingleton.elim (α := Fin 1) _ _)))).trans (h _ _)
/-- Contents that hold rows 8 to 19 are the second output block. -/
theorem r4_bbox_eq (c : Dev nD) (t : Fin cfg4.N) (g : FVec F S1x12x64 .f32) (h : ∀ (j : Fin 12) (l : Fin 64), g (ix3 0 j l) = r4_out A c t (ix2 ⟨8 + j, by omega⟩ l)) :
    g = r4_bbox A c t := by
  funext y
  exact (congrArg g ((eq_ix3 y).trans (congrArg (ix3 · (y 1) (y 2)) (Subsingleton.elim (α := Fin 1) _ _)))).trans (h _ _)

/-- The proof data of the region on core `c`: the arrays at `A`, each input block left in place, the two output blocks at the
    body's rows. -/
def r4_dat (c : Dev nD) : Dat τ (Elt F) Unit ℕ (UU nD τ) ℕ cfg4 c where
  A w := A c (Pipeline.arrRef spec4 w)
  after w t := match w with
    | ⟨0, _⟩ => r4_blk A c 0 t
    | ⟨1, _⟩ => r4_blk A c 1 t
    | ⟨2, _⟩ => r4_blk A c 2 t
    | ⟨3, _⟩ => r4_blk A c 3 t
    | ⟨4, _⟩ => r4_blk A c 4 t
    | ⟨5, _⟩ => r4_logits A c t
    | ⟨6, _⟩ => r4_bbox A c t
  Φ _ := Pipeline.scopedRest spec4 c
  q _ := fullShare
  owed _ := 0

/-- The body finds the first input's block in its buffer. -/
theorem r4_before0 (c : Dev nD) (t : Fin cfg4.N) (d) : (r4_dat A c).before 0 t d = r4_blk A c 0 t :=
  (r4_dat A c).before_in_eq_fetched 0 rfl (fun _ => rfl) (fun _ _ _ => rfl) (fun _ => rfl) t d
/-- The body finds the second input's block in its buffer. -/
theorem r4_before1 (c : Dev nD) (t : Fin cfg4.N) (d) : (r4_dat A c).before 1 t d = r4_blk A c 1 t :=
  (r4_dat A c).before_in_eq_fetched 1 rfl (fun _ => rfl) (fun _ _ _ => rfl) (fun _ => rfl) t d
/-- The body finds the third input's block in its buffer. -/
theorem r4_before2 (c : Dev nD) (t : Fin cfg4.N) (d) : (r4_dat A c).before 2 t d = r4_blk A c 2 t :=
  (r4_dat A c).before_in_eq_fetched 2 rfl (fun _ => rfl) (fun _ _ _ => rfl) (fun _ => rfl) t d
/-- The body finds the fourth input's block in its buffer. -/
theorem r4_before3 (c : Dev nD) (t : Fin cfg4.N) (d) : (r4_dat A c).before 3 t d = r4_blk A c 3 t :=
  (r4_dat A c).before_in_eq_fetched 3 rfl (fun _ => rfl) (fun _ _ _ => rfl) (fun _ => rfl) t d
/-- The body finds the fifth input's block in its buffer. -/
theorem r4_before4 (c : Dev nD) (t : Fin cfg4.N) (d) : (r4_dat A c).before 4 t d = r4_blk A c 4 t :=
  (r4_dat A c).before_in_eq_fetched 4 rfl (fun _ => rfl) (fun _ _ _ => rfl) (fun _ => rfl) t d

/-- What the body is called with at point `t`. -/
def r4_pre (c : Dev nD) (t : Fin cfg4.N) : sProp 𝕄 :=
  iprop((r4_dat A c).Φ t.castSucc ∗ (r4_dat A c).owesAt () t.castSucc
    ∗ (∃ d, owns (c : Thread nD τ) (st4_0 t) fullShare ((r4_dat A c).before 0 t d))
    ∗ (∃ d, owns (c : Thread nD τ) (st4_1 t) fullShare ((r4_dat A c).before 1 t d))
    ∗ (∃ d, owns (c : Thread nD τ) (st4_2 t) fullShare ((r4_dat A c).before 2 t d))
    ∗ (∃ d, owns (c : Thread nD τ) (st4_3 t) fullShare ((r4_dat A c).before 3 t d))
    ∗ (∃ d, owns (c : Thread nD τ) (st4_4 t) fullShare ((r4_dat A c).before 4 t d))
    ∗ (∃ d, owns (c : Thread nD τ) (st4_5 t) fullShare ((r4_dat A c).before 5 t d))
    ∗ (∃ d, owns (c : Thread nD τ) (st4_6 t) fullShare ((r4_dat A c).before 6 t d)))

/-- What the body returns. -/
def r4_post (c : Dev nD) (t : Fin cfg4.N) : sProp 𝕄 :=
  iprop((r4_dat A c).Φ t.succ ∗ (r4_dat A c).owesAt () t.succ
    ∗ owns (c : Thread nD τ) (st4_0 t) fullShare ((r4_dat A c).after 0 t)
    ∗ owns (c : Thread nD τ) (st4_1 t) fullShare ((r4_dat A c).after 1 t)
    ∗ owns (c : Thread nD τ) (st4_2 t) fullShare ((r4_dat A c).after 2 t)
    ∗ owns (c : Thread nD τ) (st4_3 t) fullShare ((r4_dat A c).after 3 t)
    ∗ owns (c : Thread nD τ) (st4_4 t) fullShare ((r4_dat A c).after 4 t)
    ∗ owns (c : Thread nD τ) (st4_5 t) fullShare ((r4_dat A c).after 5 t)
    ∗ owns (c : Thread nD τ) (st4_6 t) fullShare ((r4_dat A c).after 6 t))

set_option maxHeartbeats 1000000 in
/-- The body at any point. -/
theorem r4_body (c : Dev nD) (t : Fin cfg4.N) :
    r4_pre A c t ⊢ wp frame (wpE (defs₀ (F := F)) 𝒱₀ c none) Set.univ (bodyAt4 t) (fun _ => r4_post A c t) := by
  unfold r4_pre r4_post bodyAt4
  simp only [r4_before0, r4_before1, r4_before2, r4_before3, r4_before4]
  rw [show (r4_dat A c).Φ t.succ = Pipeline.scopedRest spec4 c from rfl, show (r4_dat A c).Φ t.castSucc = Pipeline.scopedRest spec4 c from rfl,
    show (r4_dat A c).owesAt () t.succ = (r4_dat A c).owesAt () t.castSucc from rfl, scopedRest4_split,
    show (r4_dat A c).after 0 t = r4_blk A c 0 t from rfl, show (r4_dat A c).after 1 t = r4_blk A c 1 t from rfl,
    show (r4_dat A c).after 2 t = r4_blk A c 2 t from rfl, show (r4_dat A c).after 3 t = r4_blk A c 3 t from rfl,
    show (r4_dat A c).after 4 t = r4_blk A c 4 t from rfl, show (r4_dat A c).after 5 t = r4_logits A c t from rfl,
    show (r4_dat A c).after 6 t = r4_bbox A c t from rfl]
  have w0 : (st4_0 t).IsWhole := hstage4_0 ((cfg4.slots t 0).cast nbuf4_0)
  have w1 : (st4_1 t).IsWhole := hstage4_1 ((cfg4.slots t 1).cast nbuf4_1)
  have w2 : (st4_2 t).IsWhole := hstage4_2 ((cfg4.slots t 2).cast nbuf4_2)
  have w3 : (st4_3 t).IsWhole := hstage4_3 ((cfg4.slots t 3).cast nbuf4_3)
  have w4 : (st4_4 t).IsWhole := hstage4_4 ((cfg4.slots t 4).cast nbuf4_4)
  have w5 : (st4_5 t).IsWhole := hstage4_5 ((cfg4.slots t 5).cast nbuf4_5)
  have w6 : (st4_6 t).IsWhole := hstage4_6 ((cfg4.slots t 6).cast nbuf4_6)
  iintro ⟨⟨⟨⟨%f8, H8⟩, ⟨%f9, H9⟩⟩, HR⟩, Ho, ⟨%d0, H0⟩, ⟨%d1, H1⟩, ⟨%d2, H2⟩, ⟨%d3, H3⟩, ⟨%d4, H4⟩, ⟨%d5, H5⟩, ⟨%d6, H6⟩⟩
  ihave H0 := (Entails.of_eq (owns_pt c w0 _)) $$ H0
  ihave H1 := (Entails.of_eq (owns_pt c w1 _)) $$ H1
  ihave H2 := (Entails.of_eq (owns_pt c w2 _)) $$ H2
  ihave H3 := (Entails.of_eq (owns_pt c w3 _)) $$ H3
  ihave H4 := (Entails.of_eq (owns_pt c w4 _)) $$ H4
  ihave H5 := (Entails.of_eq (owns_pt c w5 _)) $$ H5
  ihave H6 := (Entails.of_eq (owns_pt c w6 _)) $$ H6
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases H5 with ⟨%f5, -, H5⟩
  icases H6 with ⟨%f6, -, H6⟩
  iapply (k4_run c (grid4.coords t) _ w0 _ w1 _ w2 _ w3 _ w4 _ w5 _ w6 (Memref.whole cc4_scratch0) (Memref.isWhole_whole _) (Memref.whole cc4_scratch1) (Memref.isWhole_whole _)
    f0 f1 f2 f3 f4 f5 f6 f8 f9 (r4_out A c t) (by unfold r4_out; rw [h0, h1, h2, h3, h4]))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iintro ⟨H0, H1, H2, H3, H4, ⟨%g5, %h5, H5⟩, ⟨%g6, %h6, H6⟩, ⟨%g8, H8⟩, ⟨%g9, H9⟩⟩
  isplitl [H8 H9 HR]
  · isplitl [H8 H9]
    · isplitl [H8]
      · iexists _; iexact H8
      · iexists _; iexact H9
    iexact HR
  isplitl [Ho]; · iexact Ho
  isplitl [H0]
  · iapply (owns_of_pt c w0 h0)
    iexact H0
  isplitl [H1]
  · iapply (owns_of_pt c w1 h1)
    iexact H1
  isplitl [H2]
  · iapply (owns_of_pt c w2 h2)
    iexact H2
  isplitl [H3]
  · iapply (owns_of_pt c w3 h3)
    iexact H3
  isplitl [H4]
  · iapply (owns_of_pt c w4 h4)
    iexact H4
  isplitl [H5]
  · iapply (owns_of_pt c w5 (r4_logits_eq A c t _ h5)); iexact H5
  · iapply (owns_of_pt c w6 (r4_bbox_eq A c t _ h6)); iexact H6

/-- The body table's row at point `t`'s slots is the body. -/
theorem r4_row (t : Fin cfg4.N) : defs₀ (F := F) .tc cfg4.body (cfg4.bodyArgs t (cfg4.slots t)) = bodyAt4 t := by
  unfold defs₀; rw [Defs.onTc_tc]

/-- The body obligation at every point. -/
theorem r4_obligation (c : Dev nD) : BodyObligation (r4_dat (F := F) A c) (defs₀ (F := F)) 𝒱₀ () Set.univ := fun t => by
  rw [bigSep_W4, bigSep_W4, r4_row]
  exact triple_restated (r4_body A c t) rfl .rfl fun _ => .rfl

end Cert.Proof.KernelIdeal
end
-- ==== Proof.Run.lean ====
module

public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Gen.KernelIdeal.Regions
public import Idealize.ShloMosaic.Lib.Pipeline.RegionArrays

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg HostSeg Seg)

variable {F : FTy → Type} [FloatOps F]

local notation "𝕄" => MT nD τ sig Unit (Elt F) ℕ (UU nD τ) ℕ

/-! ## What each region leaves -/

section Exit

variable (A : Dev nD → Valuation τ sig (Elt F)) (c : Dev nD)

/-- A valuation with two references changed. -/
def upd2 (V : Valuation τ sig (Elt F)) (r s : Ref sig .tc) (x : (Proc.devRef (τ := τ) .tc r).ty.Contents (Elt F)) (y : (Proc.devRef (τ := τ) .tc s).ty.Contents (Elt F)) : Valuation τ sig (Elt F) :=
  Function.update (Function.update V (Proc.devRef .tc r) x) (Proc.devRef .tc s) y

omit [FloatOps F] in
/-- The second one changed. -/
theorem upd2_snd (V : Valuation τ sig (Elt F)) (r s : Ref sig .tc) (x y) : upd2 V r s x y (Proc.devRef .tc s) = y := Function.update_self ..
omit [FloatOps F] in
/-- The first one changed. -/
theorem upd2_fst (V : Valuation τ sig (Elt F)) (r s : Ref sig .tc) (h : r ≠ s) (x y) : upd2 V r s x y (Proc.devRef .tc r) = x :=
  (Function.update_of_ne (StableHlo.devRef_ne_of_ne h) ..).trans (Function.update_self ..)
omit [FloatOps F] in
/-- Any other. -/
theorem upd2_of (V : Valuation τ sig (Elt F)) (r s : Ref sig .tc) (x y) (b : DevRef τ sig) (hr : b ≠ Proc.devRef .tc r) (hs : b ≠ Proc.devRef .tc s) : upd2 V r s x y b = V b :=
  (Function.update_of_ne hs ..).trans (Function.update_of_ne hr ..)

/-- The buffers after region 0. -/
def after0 : Valuation τ sig (Elt F) := upd2 (A c) main_v15_0 main_v15_1 ((r0_dat A c).arrAt 5 cfg0.N) ((r0_dat A c).arrAt 6 cfg0.N)
/-- The buffers after region 1. -/
def after1 : Valuation τ sig (Elt F) := upd2 (A c) main_v19_0 main_v19_1 ((r1_dat A c).arrAt 5 cfg1.N) ((r1_dat A c).arrAt 6 cfg1.N)
/-- The buffers after region 2. -/
def after2 : Valuation τ sig (Elt F) := upd2 (A c) main_v23_0 main_v23_1 ((r2_dat A c).arrAt 5 cfg2.N) ((r2_dat A c).arrAt 6 cfg2.N)
/-- The buffers after region 3. -/
def after3 : Valuation τ sig (Elt F) := upd2 (A c) main_v27_0 main_v27_1 ((r3_dat A c).arrAt 5 cfg3.N) ((r3_dat A c).arrAt 6 cfg3.N)
/-- The buffers after region 4. -/
def after4 : Valuation τ sig (Elt F) := upd2 (A c) main_v31_0 main_v31_1 ((r4_dat A c).arrAt 5 cfg4.N) ((r4_dat A c).arrAt 6 cfg4.N)

/-- Region 0 leaves its arrays so. -/
theorem exit0 (w : Fin cfg0.W) : (r0_dat A c).arrAt w cfg0.N = after0 A c (Proc.devRef .tc (Pipeline.arrRef spec0 w)) := by
  unfold after0
  match w with
  | 0 | 1 | 2 | 3 | 4 => exact ((r0_dat A c).arrAt_in _ rfl _).trans (upd2_of _ _ _ _ _ _ (StableHlo.devRef_ne_of_ne (by decide)) (StableHlo.devRef_ne_of_ne (by decide))).symm
  | 5 => exact (upd2_fst _ main_v15_0 main_v15_1 (by decide) _ _).symm
  | 6 => exact (upd2_snd _ main_v15_0 main_v15_1 _ _).symm

/-- Region 1 leaves its arrays so. -/
theorem exit1 (w : Fin cfg1.W) : (r1_dat A c).arrAt w cfg1.N = after1 A c (Proc.devRef .tc (Pipeline.arrRef spec1 w)) := by
  unfold after1
  match w with
  | 0 | 1 | 2 | 3 | 4 => exact ((r1_dat A c).arrAt_in _ rfl _).trans (upd2_of _ _ _ _ _ _ (StableHlo.devRef_ne_of_ne (by decide)) (StableHlo.devRef_ne_of_ne (by decide))).symm
  | 5 => exact (upd2_fst _ main_v19_0 main_v19_1 (by decide) _ _).symm
  | 6 => exact (upd2_snd _ main_v19_0 main_v19_1 _ _).symm

/-- Region 2 leaves its arrays so. -/
theorem exit2 (w : Fin cfg2.W) : (r2_dat A c).arrAt w cfg2.N = after2 A c (Proc.devRef .tc (Pipeline.arrRef spec2 w)) := by
  unfold after2
  match w with
  | 0 | 1 | 2 | 3 | 4 => exact ((r2_dat A c).arrAt_in _ rfl _).trans (upd2_of _ _ _ _ _ _ (StableHlo.devRef_ne_of_ne (by decide)) (StableHlo.devRef_ne_of_ne (by decide))).symm
  | 5 => exact (upd2_fst _ main_v23_0 main_v23_1 (by decide) _ _).symm
  | 6 => exact (upd2_snd _ main_v23_0 main_v23_1 _ _).symm

/-- Region 3 leaves its arrays so. -/
theorem exit3 (w : Fin cfg3.W) : (r3_dat A c).arrAt w cfg3.N = after3 A c (Proc.devRef .tc (Pipeline.arrRef spec3 w)) := by
  unfold after3
  match w with
  | 0 | 1 | 2 | 3 | 4 => exact ((r3_dat A c).arrAt_in _ rfl _).trans (upd2_of _ _ _ _ _ _ (StableHlo.devRef_ne_of_ne (by decide)) (StableHlo.devRef_ne_of_ne (by decide))).symm
  | 5 => exact (upd2_fst _ main_v27_0 main_v27_1 (by decide) _ _).symm
  | 6 => exact (upd2_snd _ main_v27_0 main_v27_1 _ _).symm

/-- Region 4 leaves its arrays so. -/
theorem exit4 (w : Fin cfg4.W) : (r4_dat A c).arrAt w cfg4.N = after4 A c (Proc.devRef .tc (Pipeline.arrRef spec4 w)) := by
  unfold after4
  match w with
  | 0 | 1 | 2 | 3 | 4 => exact ((r4_dat A c).arrAt_in _ rfl _).trans (upd2_of _ _ _ _ _ _ (StableHlo.devRef_ne_of_ne (by decide)) (StableHlo.devRef_ne_of_ne (by decide))).symm
  | 5 => exact (upd2_fst _ main_v31_0 main_v31_1 (by decide) _ _).symm
  | 6 => exact (upd2_snd _ main_v31_0 main_v31_1 _ _).symm

end Exit

/-! ## The buffers between the items of the program -/

section Launch

variable (m : (ℓ : Loc nD τ sig) → Buf (Elt F) ℓ)

/-- The buffers at launch. -/
def U0 (c : Dev nD) : Valuation τ sig (Elt F) := fun b => m (c, b)
/-- The buffers when region 0 is entered. -/
def U1 (c : Dev nD) : Valuation τ sig (Elt F) := StableHlo.after hostOps0 (U0 m c)
/-- The buffers when region 0 is left. -/
def U2 (c : Dev nD) : Valuation τ sig (Elt F) := after0 (U1 m) c
/-- The buffers when region 1 is entered. -/
def U3 (c : Dev nD) : Valuation τ sig (Elt F) := StableHlo.after hostOps1 (U2 m c)
/-- The buffers when region 1 is left. -/
def U4 (c : Dev nD) : Valuation τ sig (Elt F) := after1 (U3 m) c
/-- The buffers when region 2 is entered. -/
def U5 (c : Dev nD) : Valuation τ sig (Elt F) := StableHlo.after hostOps2 (U4 m c)
/-- The buffers when region 2 is left. -/
def U6 (c : Dev nD) : Valuation τ sig (Elt F) := after2 (U5 m) c
/-- The buffers when region 3 is entered. -/
def U7 (c : Dev nD) : Valuation τ sig (Elt F) := StableHlo.after hostOps3 (U6 m c)
/-- The buffers when region 3 is left. -/
def U8 (c : Dev nD) : Valuation τ sig (Elt F) := after3 (U7 m) c
/-- The buffers when region 4 is entered. -/
def U9 (c : Dev nD) : Valuation τ sig (Elt F) := StableHlo.after hostOps4 (U8 m c)
/-- The buffers when region 4 is left. -/
def U10 (c : Dev nD) : Valuation τ sig (Elt F) := after4 (U9 m) c
/-- The buffers at the end. -/
def U11 (c : Dev nD) : Valuation τ sig (Elt F) := StableHlo.after hostOps5 (U10 m c)

/-- The buffers at each region's entry. -/
def Uin : Fin 5 → Dev nD → Valuation τ sig (Elt F) := fun | 0 => U1 m | 1 => U3 m | 2 => U5 m | 3 => U7 m | 4 => U9 m
/-- The buffers at each region's exit. -/
def Uout : Fin 5 → Dev nD → Valuation τ sig (Elt F) := fun | 0 => U2 m | 1 => U4 m | 2 => U6 m | 3 => U8 m | 4 => U10 m

/-- The regions' proof data. -/
def pdats : (p : Fin 5) → (c : Dev nD) → Dat τ (Elt F) Unit ℕ (UU nD τ) ℕ (cfgs p) c := fun
  | 0 => r0_dat (U1 m) | 1 => r1_dat (U3 m) | 2 => r2_dat (U5 m) | 3 => r3_dat (U7 m) | 4 => r4_dat (U9 m)

/-- The levels: one for every counter of a core. -/
def Lev : GSem nD τ sig → Finset Unit := fun g => if g.1.2 = .tc then {()} else ∅
/-- They are all zero. -/
abbrev lev : GSem nD τ sig → Unit → ℕ := fun _ _ => 0

/-- What rides beside the buffers: the core owes nothing. -/
abbrev Eo (c : Dev nD) : sProp 𝕄 := iprop(∃ W, owes (c : Thread nD τ) (0 : CellTallies nD τ sig Unit) W)

/-- The layout of each region. -/
theorem kits : ∀ p : Fin 5, Pipeline.PLaunchFacts (nD := nD) (τ := τ) (pcfgs (F := F)) p := fun
  | 0 => launch0.toP | 1 => launch1.toP | 2 => launch2.toP | 3 => launch3.toP | 4 => launch4.toP

/-- The body obligation of each region. -/
theorem bodies : ∀ (p : Fin 5) (c : Dev nD), Pipeline.BodyObligationLoose (pdats m p c) (defs₀ (F := F)) 𝒱₀ () Set.univ := fun
  | 0 => fun c => (r0_obligation (U1 m) c).loose | 1 => fun c => (r1_obligation (U3 m) c).loose | 2 => fun c => (r2_obligation (U5 m) c).loose
  | 3 => fun c => (r3_obligation (U7 m) c).loose | 4 => fun c => (r4_obligation (U9 m) c).loose

/-- Each region finds its arrays at the entry contents. -/
theorem enters : ∀ (p : Fin 5) (c : Dev nD) (w : Fin (cfgs p).W), (pdats m p c).arrAt w 0 = Uin m p c (Proc.devRef .tc (Pipeline.arrRef (cfgs p).spec w)) := fun
  | 0 => fun _ _ => rfl | 1 => fun _ _ => rfl | 2 => fun _ _ => rfl | 3 => fun _ _ => rfl | 4 => fun _ _ => rfl
/-- Each region leaves its arrays at the exit contents. -/
theorem leaves : ∀ (p : Fin 5) (c : Dev nD) (w : Fin (cfgs p).W), (pdats m p c).arrAt w (cfgs p).N = Uout m p c (Proc.devRef .tc (Pipeline.arrRef (cfgs p).spec w)) := fun
  | 0 => exit0 (U1 m) | 1 => exit1 (U3 m) | 2 => exit2 (U5 m) | 3 => exit3 (U7 m) | 4 => exit4 (U9 m)

/-- No region prefetches a table. -/
theorem noTable : ∀ p : Fin 5, (pcfgs (F := F) p).pre.K = 0 := fun
  | 0 => rfl | 1 => rfl | 2 => rfl | 3 => rfl | 4 => rfl
/-- No region owes anything. -/
theorem noDue : ∀ (p : Fin 5) (c : Dev nD) (t), (pdats m p c).owed t = 0 := fun
  | 0 => fun _ _ => rfl | 1 => fun _ _ => rfl | 2 => fun _ _ => rfl | 3 => fun _ _ => rfl | 4 => fun _ _ => rfl
/-- No region bounds what was waited for before it. -/
theorem noBound : ∀ (p : Fin 5) (c : Dev nD), (pdats m p c).recorded 0 = Set.univ := fun
  | 0 => fun _ => rfl | 1 => fun _ => rfl | 2 => fun _ => rfl | 3 => fun _ => rfl | 4 => fun _ => rfl
/-- Every array is held whole. -/
theorem shares : ∀ (p : Fin 5) (c : Dev nD) (w), (pdats m p c).share w = fullShare := fun
  | 0 => fun c => (r0_dat (U1 m) c).share_full fun _ => rfl
  | 1 => fun c => (r1_dat (U3 m) c).share_full fun _ => rfl
  | 2 => fun c => (r2_dat (U5 m) c).share_full fun _ => rfl
  | 3 => fun c => (r3_dat (U7 m) c).share_full fun _ => rfl
  | 4 => fun c => (r4_dat (U9 m) c).share_full fun _ => rfl
/-- What a region keeps between its points: its own scratch and the other scoped buffers. -/
theorem keeps : ∀ (p : Fin 5) (c : Dev nD) (t), (pdats m p c).Φ t = Pipeline.scopedRest (cfgs p).spec c := fun
  | 0 => fun _ _ => rfl | 1 => fun _ _ => rfl | 2 => fun _ _ => rfl | 3 => fun _ _ => rfl | 4 => fun _ _ => rfl

set_option backward.isDefEq.respectTransparency.types false in
/-- A region as a segment: its arrays pass from the entry contents to the exit contents, the other buffers ride along. -/
def reg (p : Fin 5) : RegionSeg (pcfgs (F := F)) adm (pdats m) () defs₀ 𝒱₀ Lev lev p :=
  RegionSeg.ofHeld (pcfgs (F := F)) adm (pdats m) () defs₀ 𝒱₀ Lev lev p (fun _ => 0) (fun _ => iprop(emp)) (fun _ => iprop(emp)) (kits p)
    (noTable p) (bodies m p) (noDue m p) (noBound m p) (shares m p)
    (fun c => (show iprop(Pipeline.scopedRest (cfgs p).spec c ∗ emp) ⊢ Pipeline.scopedRest (cfgs p).spec c from by iintro ⟨H, -⟩; iexact H).trans (Entails.of_eq (keeps m p c _).symm))
    (fun c => (Entails.of_eq (keeps m p c _)).trans
      (show Pipeline.scopedRest (cfgs p).spec c ⊢ iprop(Pipeline.scopedRest (cfgs p).spec c ∗ emp) from by iintro H; isplitl [H]; (· iexact H); iempintro))
    (fun _ => 0) ⟨fun _ _ _ => by simp [Lev], fun _ _ _ => le_rfl, fun _ _ _ h => absurd h (by simp)⟩
    (fun c => StableHlo.held (c : Thread nD τ) (Pipeline.ucRefs τ sig \ Pipeline.arrRefs (cfgs p).spec) (Uin m p c))
    (Uin m p) (Uout m p) (enters m p) (leaves m p)

/-- A region's arrays are no scoped buffers. -/
theorem arrays_unscoped : ∀ p : Fin 5, Pipeline.arrRefs (τ := τ) (cfgs p).spec ⊆ Pipeline.ucRefs τ sig := fun
  | 0 => Pipeline.arrRefs_sub_ucRefs spec0 (by decide)
  | 1 => Pipeline.arrRefs_sub_ucRefs spec1 (by decide)
  | 2 => Pipeline.arrRefs_sub_ucRefs spec2 (by decide)
  | 3 => Pipeline.arrRefs_sub_ucRefs spec3 (by decide)
  | 4 => Pipeline.arrRefs_sub_ucRefs spec4 (by decide)

/-- A region changes no buffer but its two outputs. -/
theorem Uout_of : ∀ (p : Fin 5) (c : Dev nD) (b : DevRef τ sig),
    (∀ w, b ≠ Proc.devRef .tc (Pipeline.arrRef (cfgs p).spec w)) → Uout m p c b = Uin m p c b := fun
  | 0 => fun _ _ h => upd2_of _ _ _ _ _ _ (h 5) (h 6)
  | 1 => fun _ _ h => upd2_of _ _ _ _ _ _ (h 5) (h 6)
  | 2 => fun _ _ h => upd2_of _ _ _ _ _ _ (h 5) (h 6)
  | 3 => fun _ _ h => upd2_of _ _ _ _ _ _ (h 5) (h 6)
  | 4 => fun _ _ h => upd2_of _ _ _ _ _ _ (h 5) (h 6)

/-- The buffers beside a region's arrays are the same before and after. -/
theorem offArrays (p : Fin 5) (c : Dev nD) : ∀ b ∈ Pipeline.ucRefs τ sig \ Pipeline.arrRefs (cfgs p).spec, Uin m p c b = Uout m p c b :=
  fun b hb => (Uout_of m p c b fun w h => (Finset.mem_sdiff.mp hb).2
    (Finset.mem_map.mpr ⟨_, Finset.mem_image.mpr ⟨w, Finset.mem_univ _, rfl⟩, h.symm⟩)).symm

/-- A region is entered from every unscoped buffer at the entry contents. -/
theorem reg_pre (p : Fin 5) (c : Dev nD) :
    iprop(StableHlo.held (c : Thread nD τ) (Pipeline.ucRefs τ sig) (Uin m p c) ∗ Eo c) ⊢ (reg m p).pre c := by
  show _ ⊢ iprop(StableHlo.held (c.tc : Thread nD τ) (Pipeline.arrRefs (cfgs p).spec) (Uin m p c) ∗ emp
    ∗ StableHlo.held (c : Thread nD τ) (Pipeline.ucRefs τ sig \ Pipeline.arrRefs (cfgs p).spec) (Uin m p c) ∗ Eo c)
  rw [StableHlo.held_sub_split _ (arrays_unscoped p)]
  iintro ⟨⟨H, H'⟩, HE⟩
  isplitl [H]; · iexact H
  isplitr; · iempintro
  isplitl [H'] <;> iassumption

/-- A region is left with every unscoped buffer at the exit contents. -/
theorem reg_post (p : Fin 5) (c : Dev nD) :
    (reg m p).post c ⊢ iprop(StableHlo.held (c : Thread nD τ) (Pipeline.ucRefs τ sig) (Uout m p c) ∗ Eo c) := by
  show iprop(StableHlo.held (c.tc : Thread nD τ) (Pipeline.arrRefs (cfgs p).spec) (Uout m p c) ∗ emp
    ∗ StableHlo.held (c : Thread nD τ) (Pipeline.ucRefs τ sig \ Pipeline.arrRefs (cfgs p).spec) (Uin m p c) ∗ Eo c) ⊢ _
  rw [StableHlo.held_sub_split _ (arrays_unscoped p) (Uout m p c), StableHlo.held_congr _ (offArrays m p c)]
  iintro ⟨H, -, H', HE⟩
  isplitr [HE]
  · isplitl [H] <;> iassumption
  iexact HE

/-- The launch element: the pipelines' cells and transfers. -/
def u₀ : UU nD τ := initOf (Pipeline.cells cfgs cellOf_inj) (Pipeline.launchToks cfgs cellOf_inj)

/-- A host stretch as a segment from the contents `V`. -/
abbrev host (ops : List (HloOp τ sig (Elt F))) (hs : ops.Forall fun op => op.bufs ⊆ StableHlo.tcRefs τ sig) (hf : ops.Forall fun op => op.fresh = ∅)
    (V : Dev nD → Valuation τ sig (Elt F)) : HostSeg (Ix := Unit) (Name := ℕ) (U := UU nD τ) (Lvl := ℕ) (pcfgs (F := F)) defs₀ 𝒱₀ Lev lev :=
  HostSeg.ofOps _ _ _ _ _ (Pipeline.ucRefs τ sig) ops
    (fun op h => Pipeline.sub_ucRefs op ((List.forall_iff_forall_mem.mp hs) op h))
    (fun op h => (List.forall_iff_forall_mem.mp hf) op h) V Eo

/-- The program's items as segments. -/
abbrev items : List (Seg (pcfgs (F := F)) adm (pdats m) () defs₀ 𝒱₀ Lev lev) :=
  [.host (host hostOps0 hostOps0_sub hostOps0_fresh (U0 m)), .region (reg m 0), .host (host hostOps1 hostOps1_sub hostOps1_fresh (U2 m)), .region (reg m 1), .host (host hostOps2 hostOps2_sub hostOps2_fresh (U4 m)), .region (reg m 2), .host (host hostOps3 hostOps3_sub hostOps3_fresh (U6 m)), .region (reg m 3), .host (host hostOps4 hostOps4_sub hostOps4_fresh (U8 m)), .region (reg m 4), .host (host hostOps5 hostOps5_sub hostOps5_fresh (U10 m))]

set_option backward.isDefEq.respectTransparency.types false in
/-- From any memory with zero counters every weakly fair execution of the program ends, with every unscoped buffer at `U11` and
    every counter at zero. -/
theorem run_all (ρ : Dev nD → PrngReg) : θ_run defs (onTc (τ := τ) (main (F := F))) ⟨m, fun _ => 0, ρ⟩
    (fun r => (∀ c : Dev nD, ∀ b ∈ Pipeline.ucRefs τ sig, r.2.mem (c, b) = U11 m c b) ∧ r.2.sem = fun _ => 0) :=
  Pipeline.θ_run_regions_kit_dev_sems (pcfgs (F := F)) adm (pdats m) () cellOf_inj (emb₁ : Emb (UR sig nD τ) 𝕄) defs₀ 𝒱₀ Lev lev m ρ main (fun _ => items m)
    (fun c Q => by rw [main_segs adm (pdats m) () 𝒱₀ Lev lev (host hostOps0 hostOps0_sub hostOps0_fresh (U0 m)) (host hostOps1 hostOps1_sub hostOps1_fresh (U2 m)) (host hostOps2 hostOps2_sub hostOps2_fresh (U4 m)) (host hostOps3 hostOps3_sub hostOps3_fresh (U6 m)) (host hostOps4 hostOps4_sub hostOps4_fresh (U8 m)) (host hostOps5 hostOps5_sub hostOps5_fresh (U10 m)) (reg m 0) (reg m 1) (reg m 2) (reg m 3) (reg m 4) rfl rfl rfl rfl rfl rfl c])
    (fun _ => by simp only [items, Seg.pipes_host, Seg.pipes_region, Seg.pipes_nil]; decide) (fun _ => 0)
    (fun g h => by simp [Lev, h]) (fun _ => iprop(emp)) u₀
    (by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Eo c))
    (Tₙ := fun c => StableHlo.held (c : Thread nD τ) (Pipeline.ucRefs τ sig) (U11 m c))
    (hch := fun c => ⟨.rfl, reg_pre m 0 c, reg_post m 0 c, reg_pre m 1 c, reg_post m 1 c, reg_pre m 2 c, reg_post m 2 c, reg_pre m 3 c, reg_post m 3 c, reg_pre m 4 c, reg_post m 4 c, .rfl⟩)
    (hinit := by
      refine Pipeline.initEach Lev lev fun c => ?_
      rw [show unscopedBufs c (fun b => m ((c : Thread nD τ).loc b)) = StableHlo.held (c : Thread nD τ) (Pipeline.ucRefs τ sig) (U0 m c) from Pipeline.unscopedBufs_held c (U0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = U11 m c b)
    (hfin := fun c s' => by
      unfold StableHlo.held
      iintro ⟨Hh, HSI⟩
      ihave Hr := (pointsTo_read_all (Pipeline.ucRefs τ sig) (fun b => ((c : Thread nD τ).1, b)) (U11 m c) s') $$ [Hh HSI]
      · isplitl [Hh] <;> iassumption
      icases Hr with ⟨%h, HSI⟩
      imodintro
      isplitr; · ipureintro; exact h
      iexact HSI)
    (hQ := fun _ h hz => ⟨h, funext fun g => hz g (.inr (regions_no_unscoped g.2))⟩)

end Launch

end Cert.Proof.KernelIdeal
end
-- ==== Proof.Frame.lean ====
/-
  The arguments stay as they were.
-/
module

public import proofs.«01_k».proof.Proof.Run

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI Idealize.SL.Sem

variable {F : FTy → Type} [FloatOps F]
variable (m : (ℓ : Loc nD τ sig) → Buf (Elt F) ℓ)

/-- The outputs of the regions. -/
abbrev outRefs : List (Ref sig .tc) :=
  [main_v15_0, main_v15_1, main_v19_0, main_v19_1, main_v23_0, main_v23_1, main_v27_0, main_v27_1, main_v31_0, main_v31_1]

/-- A buffer that is no region's output is as it was through every region. -/
theorem region_keeps (r : Ref sig .tc) (h : r ∉ outRefs) (c : Dev nD) :
    U2 m c (Proc.devRef .tc r) = U1 m c (Proc.devRef .tc r) ∧ U4 m c (Proc.devRef .tc r) = U3 m c (Proc.devRef .tc r)
      ∧ U6 m c (Proc.devRef .tc r) = U5 m c (Proc.devRef .tc r) ∧ U8 m c (Proc.devRef .tc r) = U7 m c (Proc.devRef .tc r)
      ∧ U10 m c (Proc.devRef .tc r) = U9 m c (Proc.devRef .tc r) := by
  have ne : ∀ s ∈ outRefs, Proc.devRef (τ := τ) .tc r ≠ Proc.devRef .tc s := fun s hs e =>
    h ((Proc.devRef_injective _ e) ▸ hs)
  exact ⟨upd2_of _ _ _ _ _ _ (ne _ (by decide)) (ne _ (by decide)), upd2_of _ _ _ _ _ _ (ne _ (by decide)) (ne _ (by decide)),
    upd2_of _ _ _ _ _ _ (ne _ (by decide)) (ne _ (by decide)), upd2_of _ _ _ _ _ _ (ne _ (by decide)) (ne _ (by decide)),
    upd2_of _ _ _ _ _ _ (ne _ (by decide)) (ne _ (by decide))⟩

/-- A buffer no host operation writes after the first stretch and no region puts out is, at every later point, as the first stretch left it. -/
theorem later (r : Ref sig .tc) (ho : r ∉ outRefs) (hw : r ∉ hostOps1_W ++ hostOps2_W ++ hostOps3_W ++ hostOps4_W ++ hostOps5_W) (c : Dev nD) :
    U2 m c (Proc.devRef .tc r) = U1 m c (Proc.devRef .tc r) ∧ U3 m c (Proc.devRef .tc r) = U1 m c (Proc.devRef .tc r)
      ∧ U4 m c (Proc.devRef .tc r) = U1 m c (Proc.devRef .tc r) ∧ U5 m c (Proc.devRef .tc r) = U1 m c (Proc.devRef .tc r)
      ∧ U6 m c (Proc.devRef .tc r) = U1 m c (Proc.devRef .tc r) ∧ U7 m c (Proc.devRef .tc r) = U1 m c (Proc.devRef .tc r)
      ∧ U8 m c (Proc.devRef .tc r) = U1 m c (Proc.devRef .tc r) ∧ U9 m c (Proc.devRef .tc r) = U1 m c (Proc.devRef .tc r)
      ∧ U11 m c (Proc.devRef .tc r) = U1 m c (Proc.devRef .tc r) := by
  simp only [List.mem_append, not_or] at hw
  obtain ⟨⟨⟨⟨h1, h2⟩, h3⟩, h4⟩, h5⟩ := hw
  obtain ⟨e2, e4, e6, e8, e10⟩ := region_keeps m r ho c
  have e3 := (StableHlo.after_of_writes_sub hostOps1 (U2 m c) hostOps1_writes h1).trans e2
  have e5 := (StableHlo.after_of_writes_sub hostOps2 (U4 m c) hostOps2_writes h2).trans (e4.trans e3)
  have e7 := (StableHlo.after_of_writes_sub hostOps3 (U6 m c) hostOps3_writes h3).trans (e6.trans e5)
  have e9 := (StableHlo.after_of_writes_sub hostOps4 (U8 m c) hostOps4_writes h4).trans (e8.trans e7)
  exact ⟨e2, e3, e4.trans e3, e5, e6.trans e5, e7, e8.trans e7, e9,
    (StableHlo.after_of_writes_sub hostOps5 (U10 m c) hostOps5_writes h5).trans (e10.trans e9)⟩

/-- The arguments. -/
abbrev argRefs : List (Ref sig .tc) :=
  [main_arg0, main_arg1, main_arg2, main_arg3, main_arg4, main_arg5, main_arg6, main_arg7, main_arg8, main_arg9, main_arg10]

/-- Every argument ends as it was. -/
theorem arg_kept (r : Ref sig .tc) (hr : r ∈ argRefs) (c : Dev nD) : U11 m c (Proc.devRef .tc r) = m (c, Proc.devRef .tc r) := by
  have h : ∀ r ∈ argRefs, r ∉ outRefs ∧ r ∉ hostOps1_W ++ hostOps2_W ++ hostOps3_W ++ hostOps4_W ++ hostOps5_W ∧ r ∉ hostOps0_W := by decide
  obtain ⟨h1, h2, h0⟩ := h r hr
  exact (later m r h1 h2 c).2.2.2.2.2.2.2.2.trans (StableHlo.after_of_writes_sub hostOps0 (U0 m c) hostOps0_writes h0)

/-- An unscoped TensorCore buffer is among those the run's end is told of. -/
theorem mem_uc (r : Ref sig .tc) (h : r.isScoped = false) : Proc.devRef (τ := τ) .tc r ∈ Pipeline.ucRefs τ sig :=
  Finset.mem_filter.mpr ⟨StableHlo.devRef_mem_tcRefs r, by simpa using h⟩

/-- From any memory with zero counters the program ends with each argument as it was and every counter at zero. -/
theorem frame (ρ : Dev nD → PrngReg) : θ_run defs (onTc (τ := τ) (main (F := F))) ⟨m, fun _ => 0, ρ⟩
    (fun r => (∀ c : Dev nD, ∀ a ∈ argRefs, r.2.mem ((c.tc : Thread nD τ).loc a) = m ((c.tc : Thread nD τ).loc a)) ∧ r.2.sem = fun _ => 0) :=
  (θ_run defs _ _).mono (fun _ h => ⟨fun c a ha => (h.1 c _ (mem_uc a ((by decide : ∀ a ∈ argRefs, a.isScoped = false) a ha))).trans
    (arg_kept m a ha c), h.2⟩) (run_all m ρ)

end Cert.Proof.KernelIdeal

end
-- ==== Proof.Conv.lean ====
/-
  The head at one pixel, in exact arithmetic, spelt in the kernel's way and in the reference's way, and that the two agree.

  An image of `H` lines of `W` pixels is kept as one row of `H * W` lanes per channel.
-/
module

public import proofs.«01_k».proof.Proof.Rows

@[expose] public section

noncomputable section

namespace Cert.Proof

open Idealize.ShloMosaic Idealize.ShloMosaic.TcCoe Idealize.ShloMosaic.Tactic

/-- Channel `c` of item `n` of a batch of images at lane `l`. -/
def imgAt (H W : ℕ) (x : (⟨4, ![2, 256, H, W]⟩ : Shape).Idx → EReal) (n : Fin 2) (c l : ℕ) : EReal :=
  if h : c < 256 ∧ l < H * W then
    x (ix4 n ⟨c, h.1⟩ ⟨l / W, Nat.div_lt_of_lt_mul (Nat.mul_comm H W ▸ h.2)⟩
      ⟨l % W, Nat.mod_lt _ (Nat.pos_of_ne_zero fun e => by subst e; exact absurd h.2 (by simp))⟩)
  else 0

/-- A channel with a line and a column of zeros around, at line `a` and column `b`. -/
def padAt (H W : ℕ) (x : ℕ → EReal) (a b : ℕ) : EReal :=
  if 1 ≤ a ∧ a ≤ H ∧ 1 ≤ b ∧ b ≤ W then x ((a - 1) * W + (b - 1)) else 0

/-- The product with the tap of line `dy` and column `dx`, summed over the channels. -/
def tap (H W : ℕ) (x : ℕ → ℕ → EReal) (k : Fin 256 → Fin 3 → Fin 3 → EReal) (h w : ℕ) (dy dx : Fin 3) : EReal :=
  ∑ c : Fin 256, padAt H W (x c) (dy + h) (dx + w) * k c dy dx

/-- The 3x3 convolution with its bias and relu at line `h` and column `w`, the nine taps added one by one. -/
def refRow (H W : ℕ) (x : ℕ → ℕ → EReal) (k : Fin 256 → Fin 3 → Fin 3 → EReal) (b : EReal) (h w : ℕ) : EReal :=
  max (b + tap H W x k h w 0 0 + tap H W x k h w 0 1 + tap H W x k h w 0 2 + tap H W x k h w 1 0 + tap H W x k h w 1 1
    + tap H W x k h w 1 2 + tap H W x k h w 2 0 + tap H W x k h w 2 1 + tap H W x k h w 2 2) 0

/-- The product with the stack's 768 rows at a lane. -/
def stackDot (L W : ℕ) (x : ℕ → ℕ → EReal) (k : Fin 768 → EReal) (l : ℕ) : EReal :=
  ∑ q : Fin 768, k q * stackAt (F := Ideal) L W x q l

/-- The same convolution at a lane, as three products with the stack, the outer two taken one lane off and dropped at the
    image's borders. -/
def laneRow (L W : ℕ) (x : ℕ → ℕ → EReal) (k : Fin 3 → Fin 768 → EReal) (b : EReal) (l : ℕ) : EReal :=
  max (stackDot L W x (k 1) l + (if l % W = 0 then 0 else stackDot L W x (k 0) (l - 1))
    + (if l % W = W - 1 then 0 else stackDot L W x (k 2) (l + 1)) + b) 0

/-- A row of zeros is zero. -/
theorem zeroRow_ideal : zeroRow (F := Ideal) = (0 : EReal) := Ideal.ofBits_zero _

/-- The stack's rows at a pixel are the padded image's lines around it. -/
theorem stack_pad (H W : ℕ) (x : ℕ → ℕ → EReal) (dy : Fin 3) (c : Fin 256) (h w : ℕ) (hh : h < H) (hw : w < W) :
    stackAt (F := Ideal) (H * W) W x (dy * 256 + c) (h * W + w) = padAt H W (x c) (dy + h) (w + 1) := by
  have hL : (h + 1) * W ≤ H * W := Nat.mul_le_mul_right _ hh
  have e : (h + 1) * W = h * W + W := Nat.succ_mul h W
  unfold padAt
  fin_cases dy
  · rw [show ((⟨0, by decide⟩ : Fin 3) : ℕ) * 256 + c = c by simp, stackAt_up, zeroRow_ideal]
    rcases h with _ | h
    · simp [hw]
    · have e' : (h + 1) * W = h * W + W := Nat.succ_mul h W
      rw [if_neg (by omega), if_pos ⟨by simp, by simp; omega, by omega, by omega⟩]
      congr 1
      simp; omega
  · rw [show ((⟨1, by decide⟩ : Fin 3) : ℕ) * 256 + c = 256 + c by simp, stackAt_mid,
      if_pos ⟨by simp, by simp; omega, by omega, by omega⟩]
    congr 1
    simp
  · rw [show ((⟨2, by decide⟩ : Fin 3) : ℕ) * 256 + c = 512 + c by simp, stackAt_down, zeroRow_ideal]
    by_cases hl : h + 1 < H
    · have hL' : (h + 2) * W ≤ H * W := Nat.mul_le_mul_right _ hl
      have e' : (h + 2) * W = h * W + W + W := by rw [Nat.succ_mul, e]
      rw [if_pos (by omega), if_pos ⟨by simp; omega, by simp; omega, by omega, by omega⟩]
      have : (2 + h - 1) * W = h * W + W := by rw [show 2 + h - 1 = h + 1 by omega, e]
      refine congrArg (x c) ?_
      show h * W + w + W = (2 + h - 1) * W + (w + 1 - 1)
      omega
    · have : h + 1 = H := by omega
      have hL' : H * W = h * W + W := by rw [← this, e]
      rw [if_neg (by omega), if_neg (by rintro ⟨-, h', -⟩; simp at h'; omega)]

/-- A product with the stack at a pixel is the three taps of a column, one per line. -/
theorem stackDot_taps (H W : ℕ) (x : ℕ → ℕ → EReal) (k : Fin 256 → Fin 3 → Fin 3 → EReal) (r : Fin 768 → EReal) (dx : Fin 3)
    (hr : ∀ (dy : Fin 3) (c : Fin 256), r ⟨dy * 256 + c, by omega⟩ = k c dy dx) (h w w' : ℕ) (hh : h < H) (hw : w < W) (e : w + 1 = dx + w') :
    stackDot (H * W) W x r (h * W + w) = tap H W x k h w' 0 dx + tap H W x k h w' 1 dx + tap H W x k h w' 2 dx := by
  unfold stackDot tap
  rw [Fin.sum_univ_tiles 3 256 rfl]
  rw [Fin.sum_univ_three]
  have key : ∀ dy : Fin 3, (∑ c : Fin 256, r ⟨dy * 256 + c, by omega⟩ * stackAt (F := Ideal) (H * W) W x (dy * 256 + c) (h * W + w))
      = ∑ c : Fin 256, padAt H W (x c) (dy + h) (dx + w') * k c dy dx := fun dy => Finset.sum_congr rfl fun c _ => by
    rw [hr, stack_pad H W x dy c h w hh hw, ← e]; exact mul_comm _ _
  exact congrArg₂ (· + ·) (congrArg₂ (· + ·) (key 0) (key 1)) (key 2)

/-- A tap outside the image's columns adds nothing. -/
theorem tap_zero (H W : ℕ) (x : ℕ → ℕ → EReal) (k : Fin 256 → Fin 3 → Fin 3 → EReal) (h w : ℕ) (dy dx : Fin 3) (hz : dx + w = 0 ∨ W < dx + w) :
    tap H W x k h w dy dx = 0 :=
  Finset.sum_eq_zero fun c _ => by
    unfold padAt
    rw [if_neg (by omega)]; exact zero_mul _

/-- The two spellings of the convolution agree. -/
theorem lane_ref (H W : ℕ) (x : ℕ → ℕ → EReal) (k : Fin 256 → Fin 3 → Fin 3 → EReal) (r : Fin 3 → Fin 768 → EReal) (b : EReal)
    (hr : ∀ (dx dy : Fin 3) (c : Fin 256), r dx ⟨dy * 256 + c, by omega⟩ = k c dy dx) (h w : ℕ) (hh : h < H) (hw : w < W) :
    laneRow (H * W) W x r b (h * W + w) = refRow H W x k b h w := by
  have em : (h * W + w) % W = w := by rw [Nat.mul_comm, Nat.mul_add_mod, Nat.mod_eq_of_lt hw]
  unfold laneRow refRow
  rw [em, stackDot_taps H W x k (r 1) 1 (hr 1) h w w hh hw (Nat.add_comm _ _)]
  have e0 : (if w = 0 then (0 : EReal) else stackDot (H * W) W x (r 0) (h * W + w - 1))
      = tap H W x k h w 0 0 + tap H W x k h w 1 0 + tap H W x k h w 2 0 := by
    split
    · next h0 => rw [tap_zero, tap_zero, tap_zero] <;> simp [h0]
    · next h0 =>
      rw [Nat.add_sub_assoc (by omega)]
      exact stackDot_taps H W x k (r 0) 0 (hr 0) h (w - 1) w hh (by omega) (by simp; omega)
  have e2 : (if w = W - 1 then (0 : EReal) else stackDot (H * W) W x (r 2) (h * W + w + 1))
      = tap H W x k h w 0 2 + tap H W x k h w 1 2 + tap H W x k h w 2 2 := by
    split
    · next h0 => rw [tap_zero, tap_zero, tap_zero] <;> first | (simp; done) | (right; simp; omega)
    · next h0 => exact stackDot_taps H W x k (r 2) 2 (hr 2) h (w + 1) w hh (by omega) (by simp; omega)
  rw [e0, e2]
  congr 1
  abel

/-- The convolution's rows through a 1x1 convolution with its bias. -/
def headAt (hw : Fin 256 → EReal) (hb : EReal) (t : Fin 256 → EReal) : EReal := (∑ o : Fin 256, hw o * t o) + hb

/-- Column `r` of segment `s`, of `N` lanes, is lane `l`: the columns `l0` and `l2` the kernel's rotations bring there are the
    lanes before and after it wherever they are kept. -/
theorem lanes {L W N s r l l1 l0 l2 w w' : ℕ} (x : ℕ → ℕ → EReal) (k : Fin 3 → Fin 768 → EReal) (b : EReal) (hW : W ∣ N) (hW0 : 0 < W) (hr : r < N)
    (hl : l = s * N + r) (h1 : l1 = s * N + r) (h0 : l0 = s * N + (r + N - 1) % N) (h2 : l2 = s * N + (r + N - (N - 1)) % N) (hw : w = r % W)
    (hw' : w' = W - 1) :
    max (stackDot L W x (k 1) l1 + (if w = 0 then 0 else stackDot L W x (k 0) l0) + (if w = w' then 0 else stackDot L W x (k 2) l2) + b) 0
      = laneRow L W x k b l := by
  subst h1 h0 h2 hw hw'
  obtain ⟨m, rfl⟩ := hW
  have em : l % W = r % W := by
    rw [hl, show s * (W * m) + r = W * (s * m) + r by rw [Nat.mul_left_comm], Nat.mul_add_mod]
  have hd := Nat.div_add_mod r W
  have hm := Nat.mod_lt r hW0
  unfold laneRow
  rw [em, ← hl]
  have e0 : r % W ≠ 0 → s * (W * m) + (r + W * m - 1) % (W * m) = l - 1 := fun h0 => by
    have : 0 < r := Nat.pos_of_ne_zero fun e => h0 (by simp [e])
    rw [show r + W * m - 1 = r - 1 + W * m by omega, Nat.add_mod_right, Nat.mod_eq_of_lt (by omega), hl, Nat.add_sub_assoc this]
  have e2 : r % W ≠ W - 1 → s * (W * m) + (r + W * m - (W * m - 1)) % (W * m) = l + 1 := fun h0 => by
    have hlt : r + 1 < W * m := by
      have h1 : r / W < m := Nat.div_lt_of_lt_mul hr
      have h2 : W * (r / W) + W ≤ W * m := by rw [← Nat.mul_succ]; exact Nat.mul_le_mul_left _ h1
      omega
    rw [show r + W * m - (W * m - 1) = r + 1 by omega, Nat.mod_eq_of_lt hlt, hl, Nat.add_assoc]
  refine congrArg (max · 0) (congrArg (· + b) (congrArg₂ (· + ·) (congrArg (_ + ·) ?_) ?_))
  · split
    · rfl
    · next h0 => rw [e0 h0]
  · split
    · rfl
    · next h2 => rw [e2 h2]

end Cert.Proof

end
-- ==== Proof.Closed.lean ====
/-
  The results in closed form, over the arrays of the arguments.
-/
module

public import proofs.«01_k».proof.Proof.Conv

@[expose] public section

noncomputable section

namespace Cert.Proof

open Idealize.ShloMosaic

/-- The 3x3 convolution of image `n` of `x` with the kernel `k`, at channel `o`, line `h` and column `w`: bias added, negative values cut. -/
def convOf (W : ℕ) (k : (⟨4, ![256, 256, 3, 3]⟩ : Shape).Idx → EReal) (b : (⟨1, ![256]⟩ : Shape).Idx → EReal)
    (x : (⟨4, ![2, 256, W, W]⟩ : Shape).Idx → EReal) (n : Fin 2) (o : Fin 256) (h w : ℕ) : EReal :=
  refRow W W (imgAt W W x n) (fun q dy dx => k (ix4 o q dy dx)) (b (ix1 o)) h w

/-- The 1x1 convolution of it with `hw` and `hb`, at channel `j`. -/
def resultOf (W : ℕ) {N : ℕ} (k : (⟨4, ![256, 256, 3, 3]⟩ : Shape).Idx → EReal) (b : (⟨1, ![256]⟩ : Shape).Idx → EReal)
    (hw : (⟨4, ![N, 256, 1, 1]⟩ : Shape).Idx → EReal) (hb : (⟨1, ![N]⟩ : Shape).Idx → EReal)
    (x : (⟨4, ![2, 256, W, W]⟩ : Shape).Idx → EReal) (n : Fin 2) (j : Fin N) (h w : ℕ) : EReal :=
  headAt (fun o => hw (ix4 j o 0 0)) (hb (ix1 j)) (fun o => convOf W k b x n o h w)

/-- The convolution written out: nine sums over the channels. -/
theorem convOf_eq (W : ℕ) (k : (⟨4, ![256, 256, 3, 3]⟩ : Shape).Idx → EReal) (b : (⟨1, ![256]⟩ : Shape).Idx → EReal)
    (x : (⟨4, ![2, 256, W, W]⟩ : Shape).Idx → EReal) (n : Fin 2) (o : Fin 256) (h w : ℕ) : convOf W k b x n o h w
    = max (b (ix1 o) + (∑ q : Fin 256, padAt W W (imgAt W W x n q) h w * k (ix4 o q 0 0))
      + (∑ q : Fin 256, padAt W W (imgAt W W x n q) h (1 + w) * k (ix4 o q 0 1))
      + (∑ q : Fin 256, padAt W W (imgAt W W x n q) h (2 + w) * k (ix4 o q 0 2))
      + (∑ q : Fin 256, padAt W W (imgAt W W x n q) (1 + h) w * k (ix4 o q 1 0))
      + (∑ q : Fin 256, padAt W W (imgAt W W x n q) (1 + h) (1 + w) * k (ix4 o q 1 1))
      + (∑ q : Fin 256, padAt W W (imgAt W W x n q) (1 + h) (2 + w) * k (ix4 o q 1 2))
      + (∑ q : Fin 256, padAt W W (imgAt W W x n q) (2 + h) w * k (ix4 o q 2 0))
      + (∑ q : Fin 256, padAt W W (imgAt W W x n q) (2 + h) (1 + w) * k (ix4 o q 2 1))
      + (∑ q : Fin 256, padAt W W (imgAt W W x n q) (2 + h) (2 + w) * k (ix4 o q 2 2))) 0 := by
  simp only [convOf, refRow, tap, Fin.val_zero, Fin.val_one, Fin.val_two, zero_add]

/-- When an index of the framed image is an index of the image. -/
theorem pad_cond {W : ℕ} (n : Fin 2) (k : Fin 256) (a b : Fin (W + 2)) :
    (∀ i : Fin 4, (![0, 0, 1, 1] : Fin 4 → ℕ) i ≤ ((ix4 n k a b : (⟨4, ![2, 256, W + 2, W + 2]⟩ : Shape).Idx) i : ℕ)
      ∧ (((ix4 n k a b : (⟨4, ![2, 256, W + 2, W + 2]⟩ : Shape).Idx) i : ℕ) - (![0, 0, 1, 1] : Fin 4 → ℕ) i) % ((![0, 0, 0, 0] : Fin 4 → ℕ) i + 1) = 0
      ∧ (((ix4 n k a b : (⟨4, ![2, 256, W + 2, W + 2]⟩ : Shape).Idx) i : ℕ) - (![0, 0, 1, 1] : Fin 4 → ℕ) i) / ((![0, 0, 0, 0] : Fin 4 → ℕ) i + 1)
        < (⟨4, ![2, 256, W, W]⟩ : Shape).size i)
    ↔ 1 ≤ a.val ∧ a.val ≤ W ∧ 1 ≤ b.val ∧ b.val ≤ W := by
  constructor
  · intro h
    have h2 := h 2
    have h3 := h 3
    simp at h2 h3
    omega
  · rintro ⟨h1, h2, h3, h4⟩ i
    fin_cases i <;> simp <;> omega

/-- A choice by that condition between the image and zero is the framed image. -/
theorem pad_dite {W : ℕ} (x : (⟨4, ![2, 256, W, W]⟩ : Shape).Idx → EReal) (n : Fin 2) (k : Fin 256) (a b : ℕ) {P : Prop} [Decidable P]
    (hP : P ↔ 1 ≤ a ∧ a ≤ W ∧ 1 ≤ b ∧ b ≤ W) (u : P → EReal)
    (hu : ∀ (p : P) (ha : a - 1 < W) (hb : b - 1 < W), u p = x (ix4 n k ⟨a - 1, ha⟩ ⟨b - 1, hb⟩)) (z : EReal) (hz : z = 0) :
    (if h : P then u h else z) = padAt W W (imgAt W W x n k) a b := by
  unfold padAt
  by_cases h : P
  · have h' := hP.mp h
    have hl : (a - 1) * W + (b - 1) < W * W := lt_of_lt_of_le (by omega : (a - 1) * W + (b - 1) < (a - 1) * W + W) (by
      calc (a - 1) * W + W = (a - 1 + 1) * W := by ring
        _ ≤ W * W := Nat.mul_le_mul_right _ (by omega))
    have hW : 0 < W := by omega
    have h1 : ((a - 1) * W + (b - 1)) / W = a - 1 := by rw [Nat.mul_comm, Nat.mul_add_div hW, Nat.div_eq_of_lt (by omega), Nat.add_zero]
    have h2 : ((a - 1) * W + (b - 1)) % W = b - 1 := by rw [Nat.mul_comm, Nat.mul_add_mod, Nat.mod_eq_of_lt (by omega)]
    rw [dif_pos h, if_pos h', hu h (by omega) (by omega), imgAt, dif_pos ⟨k.isLt, hl⟩]
    exact congrArg x (congrArg₂ (ix4 n k) (Fin.ext h1.symm) (Fin.ext h2.symm))
  · rw [dif_neg h, if_neg (fun h' => h (hP.mpr h')), hz]

end Cert.Proof

end
-- ==== Proof.Host.lean ====
/-
  What the host's first operations leave for the kernel, in exact arithmetic.
-/
module

public import proofs.«01_k».proof.Proof.Conv
public import proofs.«01_k».proof.Proof.Frame
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.StableHlo

variable (V : Valuation τ sig (Elt Ideal))

/-- The three weight matrices: entry `q` of row `o` of matrix `dx` is the tap of channel `q % 256`, line `q / 256` and column `dx`. -/
theorem host_wt (d : Fin 3) (o : Fin 256) (dy : Fin 3) (k : Fin 256) :
    StableHlo.after hostOps0 V (Proc.devRef .tc main_v2) (ix3 d o ⟨dy * 256 + k, by omega⟩) = V (Proc.devRef .tc main_arg5) (ix4 o k dy d) := by
  after_results_simp
  have e1 : (dy.val * 256 + k.val) / 256 = dy := by omega
  have e2 : (dy.val * 256 + k.val) % 256 = k := by omega
  pointwise [e1, e2]

/-- The operations before the two kernels of the head are put together. -/
theorem head_parts :
    StableHlo.after (hostOps0.take 9) V (Proc.devRef .tc main_v5) = shapeCast S3x256 (V (Proc.devRef .tc main_arg7)) shapeCasts_S3x256x1x1_S3x256
    ∧ StableHlo.after (hostOps0.take 9) V (Proc.devRef .tc main_v6) = shapeCast S12x256 (V (Proc.devRef .tc main_arg9)) shapeCasts_S12x256x1x1_S12x256 := by
  simp only [hostOps0, List.take]
  constructor <;> after_results_simp <;> rfl

/-- The operations before the two biases of the head are put together. -/
theorem bias_parts :
    StableHlo.after (hostOps0.take 16) V (Proc.devRef .tc main_arg8) = V (Proc.devRef .tc main_arg8)
    ∧ StableHlo.after (hostOps0.take 16) V (Proc.devRef .tc main_arg10) = V (Proc.devRef .tc main_arg10) := by
  simp only [hostOps0, List.take]
  constructor <;> after_results_simp

/-- The head's rows 0, 1, 2: the first 1x1 convolution. -/
theorem host_hw_logits (j : Fin 3) (o : Fin 256) :
    StableHlo.after hostOps0 V (Proc.devRef .tc main_v8) (ix2 ⟨j, by omega⟩ o) = V (Proc.devRef .tc main_arg7) (ix4 j o 0 0) := by
  after_results_simp
  pointwise []
  refine (congrFun (head_parts V).1 (ix2 j o)).trans ?_
  pointwise []

/-- The head's rows 8 to 19: the second 1x1 convolution. -/
theorem host_hw_bbox (j : Fin 12) (o : Fin 256) :
    StableHlo.after hostOps0 V (Proc.devRef .tc main_v8) (ix2 ⟨8 + j, by omega⟩ o) = V (Proc.devRef .tc main_arg9) (ix4 j o 0 0) := by
  after_results_simp
  pointwise []
  rw [dif_neg (by omega), dif_neg (by omega), dif_pos (by omega)]
  have e : (⟨8 + j.val - 3 - 5, by omega⟩ : Fin 12) = j := Fin.ext (by show 8 + j.val - 3 - 5 = j; omega)
  refine (congrFun (head_parts V).2 (ix2 _ o)).trans (.trans ?_ (congrArg (fun i => V (Proc.devRef .tc main_arg9) (ix4 i o 0 0)) e))
  pointwise []

/-- The convolution's bias as a column. -/
theorem host_cb (o : Fin 256) :
    StableHlo.after hostOps0 V (Proc.devRef .tc main_v9) (ix2 o 0) = V (Proc.devRef .tc main_arg6) (ix1 o) := by
  after_results_simp
  pointwise []

/-- The head's biases 0, 1, 2. -/
theorem host_hb_logits (j : Fin 3) :
    StableHlo.after hostOps0 V (Proc.devRef .tc main_v13) (ix2 ⟨j, by omega⟩ 0) = V (Proc.devRef .tc main_arg8) (ix1 j) := by
  after_results_simp
  pointwise []
  exact congrFun (bias_parts V).1 (ix1 j)

set_option maxHeartbeats 1000000 in
/-- The head's biases 8 to 19. -/
theorem host_hb_bbox (j : Fin 12) :
    StableHlo.after hostOps0 V (Proc.devRef .tc main_v13) (ix2 ⟨8 + j, by omega⟩ 0) = V (Proc.devRef .tc main_arg10) (ix1 j) := by
  after_results_simp
  pointwise []
  rw [dif_neg (by omega), dif_neg (by omega), dif_pos (by omega)]
  have e : (⟨8 + j.val - 3 - 5, by omega⟩ : Fin 12) = j := Fin.ext (by show 8 + j.val - 3 - 5 = j; omega)
  exact (congrFun (bias_parts V).2 (ix1 _)).trans (congrArg (fun i => V (Proc.devRef .tc main_arg10) (ix1 i)) e)

/-- Level 0's images, one row of lanes per channel. -/
theorem host_img0 (n : Fin 2) (c : Fin 256) (l : Fin 16384) :
    StableHlo.after hostOps0 V (Proc.devRef .tc main_v14) (ix3 n c l) = imgAt 128 128 (V (Proc.devRef .tc main_arg0)) n c l := by
  after_results_simp
  rw [imgAt, dif_pos ⟨c.isLt, l.isLt⟩]
  pointwise []

/-- Level 0's first result, by lines and columns. -/
theorem host_logits0 (n : Fin 2) (j : Fin 3) (h w : Fin 128) :
    StableHlo.after hostOps1 V (Proc.devRef .tc main_v16) (ix4 n j h w) = V (Proc.devRef .tc main_v15_0) (ix3 n j ⟨h * 128 + w, by omega⟩) := by
  after_results_simp
  pointwise []

/-- Level 0's second result, by lines and columns. -/
theorem host_bbox0 (n : Fin 2) (j : Fin 12) (h w : Fin 128) :
    StableHlo.after hostOps1 V (Proc.devRef .tc main_v17) (ix4 n j h w) = V (Proc.devRef .tc main_v15_1) (ix3 n j ⟨h * 128 + w, by omega⟩) := by
  after_results_simp
  pointwise []

/-- Level 1's images, one row of lanes per channel. -/
theorem host_img1 (n : Fin 2) (c : Fin 256) (l : Fin 4096) :
    StableHlo.after hostOps1 V (Proc.devRef .tc main_v18) (ix3 n c l) = imgAt 64 64 (V (Proc.devRef .tc main_arg1)) n c l := by
  after_results_simp
  rw [imgAt, dif_pos ⟨c.isLt, l.isLt⟩]
  pointwise []

/-- Level 1's first result, by lines and columns. -/
theorem host_logits1 (n : Fin 2) (j : Fin 3) (h w : Fin 64) :
    StableHlo.after hostOps2 V (Proc.devRef .tc main_v20) (ix4 n j h w) = V (Proc.devRef .tc main_v19_0) (ix3 n j ⟨h * 64 + w, by omega⟩) := by
  after_results_simp
  pointwise []

/-- Level 1's second result, by lines and columns. -/
theorem host_bbox1 (n : Fin 2) (j : Fin 12) (h w : Fin 64) :
    StableHlo.after hostOps2 V (Proc.devRef .tc main_v21) (ix4 n j h w) = V (Proc.devRef .tc main_v19_1) (ix3 n j ⟨h * 64 + w, by omega⟩) := by
  after_results_simp
  pointwise []

/-- Level 2's images, one row of lanes per channel. -/
theorem host_img2 (n : Fin 2) (c : Fin 256) (l : Fin 1024) :
    StableHlo.after hostOps2 V (Proc.devRef .tc main_v22) (ix3 n c l) = imgAt 32 32 (V (Proc.devRef .tc main_arg2)) n c l := by
  after_results_simp
  rw [imgAt, dif_pos ⟨c.isLt, l.isLt⟩]
  pointwise []

/-- Level 2's first result, by lines and columns. -/
theorem host_logits2 (n : Fin 2) (j : Fin 3) (h w : Fin 32) :
    StableHlo.after hostOps3 V (Proc.devRef .tc main_v24) (ix4 n j h w) = V (Proc.devRef .tc main_v23_0) (ix3 n j ⟨h * 32 + w, by omega⟩) := by
  after_results_simp
  pointwise []

/-- Level 2's second result, by lines and columns. -/
theorem host_bbox2 (n : Fin 2) (j : Fin 12) (h w : Fin 32) :
    StableHlo.after hostOps3 V (Proc.devRef .tc main_v25) (ix4 n j h w) = V (Proc.devRef .tc main_v23_1) (ix3 n j ⟨h * 32 + w, by omega⟩) := by
  after_results_simp
  pointwise []

/-- Level 3's images, one row of lanes per channel. -/
theorem host_img3 (n : Fin 2) (c : Fin 256) (l : Fin 256) :
    StableHlo.after hostOps3 V (Proc.devRef .tc main_v26) (ix3 n c l) = imgAt 16 16 (V (Proc.devRef .tc main_arg3)) n c l := by
  after_results_simp
  rw [imgAt, dif_pos ⟨c.isLt, l.isLt⟩]
  pointwise []

/-- Level 3's first result, by lines and columns. -/
theorem host_logits3 (n : Fin 2) (j : Fin 3) (h w : Fin 16) :
    StableHlo.after hostOps4 V (Proc.devRef .tc main_v28) (ix4 n j h w) = V (Proc.devRef .tc main_v27_0) (ix3 n j ⟨h * 16 + w, by omega⟩) := by
  after_results_simp
  pointwise []

/-- Level 3's second result, by lines and columns. -/
theorem host_bbox3 (n : Fin 2) (j : Fin 12) (h w : Fin 16) :
    StableHlo.after hostOps4 V (Proc.devRef .tc main_v29) (ix4 n j h w) = V (Proc.devRef .tc main_v27_1) (ix3 n j ⟨h * 16 + w, by omega⟩) := by
  after_results_simp
  pointwise []

/-- Level 4's images, one row of lanes per channel. -/
theorem host_img4 (n : Fin 2) (c : Fin 256) (l : Fin 64) :
    StableHlo.after hostOps4 V (Proc.devRef .tc main_v30) (ix3 n c l) = imgAt 8 8 (V (Proc.devRef .tc main_arg4)) n c l := by
  after_results_simp
  rw [imgAt, dif_pos ⟨c.isLt, l.isLt⟩]
  pointwise []

/-- Level 4's first result, by lines and columns. -/
theorem host_logits4 (n : Fin 2) (j : Fin 3) (h w : Fin 8) :
    StableHlo.after hostOps5 V (Proc.devRef .tc main_v32) (ix4 n j h w) = V (Proc.devRef .tc main_v31_0) (ix3 n j ⟨h * 8 + w, by omega⟩) := by
  after_results_simp
  pointwise []

/-- Level 4's second result, by lines and columns. -/
theorem host_bbox4 (n : Fin 2) (j : Fin 12) (h w : Fin 8) :
    StableHlo.after hostOps5 V (Proc.devRef .tc main_v33) (ix4 n j h w) = V (Proc.devRef .tc main_v31_1) (ix3 n j ⟨h * 8 + w, by omega⟩) := by
  after_results_simp
  pointwise []

end Cert.Proof.KernelIdeal

end
-- ==== Proof.Fed.lean ====
/-
  What a region finds in the arrays of the weights, and the results in closed form.
-/
module

public import proofs.«01_k».proof.Proof.Closed
public import proofs.«01_k».proof.Proof.Host

@[expose] public section

set_option maxRecDepth 16384

noncomputable section

namespace Cert.Proof.KernelIdeal

open Cert.KernelIdeal Cert.KernelIdeal.Gen
open Idealize.ShloMosaic Idealize.ShloMosaic.TcCoe

/-- A block of lanes that holds image `n` of `x`, cast, is that image with zeros around. -/
theorem cast_img {W L : ℕ} (hL : L = W * W) (X : Vec Ideal ⟨3, ![1, 256, L]⟩ .f32) (x : (⟨4, ![2, 256, W, W]⟩ : Shape).Idx → EReal) (n : Fin 2)
    (h : ∀ (k : Fin 256) (l : Fin L), X (ix3 0 k l) = imgAt W W x n k l) : castAt (F := Ideal) L X = imgAt W W x n := by
  subst hL
  funext k l
  by_cases hk : k < 256 ∧ l < W * W
  · unfold castAt; rw [dif_pos hk]
    exact h ⟨k, hk.1⟩ ⟨l, hk.2⟩
  · unfold castAt imgAt; rw [dif_neg hk, dif_neg hk]
    exact zeroRow_ideal

/-- The first result of a level, its image `x`, the other arguments those of `V`. -/
abbrev logitAt (W : ℕ) (V : Valuation τ sig (Elt Ideal)) (x : (⟨4, ![2, 256, W, W]⟩ : Shape).Idx → EReal) (n : Fin 2) (j : Fin 3) (h w : ℕ) : EReal :=
  resultOf W (V (Proc.devRef .tc main_arg5)) (V (Proc.devRef .tc main_arg6)) (V (Proc.devRef .tc main_arg7)) (V (Proc.devRef .tc main_arg8)) x n j h w

/-- The second result of a level, its image `x`, the other arguments those of `V`. -/
abbrev bboxAt (W : ℕ) (V : Valuation τ sig (Elt Ideal)) (x : (⟨4, ![2, 256, W, W]⟩ : Shape).Idx → EReal) (n : Fin 2) (j : Fin 12) (h w : ℕ) : EReal :=
  resultOf W (V (Proc.devRef .tc main_arg5)) (V (Proc.devRef .tc main_arg6)) (V (Proc.devRef .tc main_arg9)) (V (Proc.devRef .tc main_arg10)) x n j h w

/-- The arrays of the weights in `A` are the arguments of `V` as the first stretch of host operations lays them out. -/
structure Fed (A V : Valuation τ sig (Elt Ideal)) : Prop where
  kernel (d : Fin 3) (o : Fin 256) (dy : Fin 3) (k : Fin 256) : A (Proc.devRef .tc main_v2) (ix3 d o ⟨dy * 256 + k, by omega⟩) = V (Proc.devRef .tc main_arg5) (ix4 o k dy d)
  bias (o : Fin 256) : A (Proc.devRef .tc main_v9) (ix2 o 0) = V (Proc.devRef .tc main_arg6) (ix1 o)
  headLogits (j : Fin 3) (o : Fin 256) : A (Proc.devRef .tc main_v8) (ix2 ⟨j, by omega⟩ o) = V (Proc.devRef .tc main_arg7) (ix4 j o 0 0)
  headBbox (j : Fin 12) (o : Fin 256) : A (Proc.devRef .tc main_v8) (ix2 ⟨8 + j, by omega⟩ o) = V (Proc.devRef .tc main_arg9) (ix4 j o 0 0)
  biasLogits (j : Fin 3) : A (Proc.devRef .tc main_v13) (ix2 ⟨j, by omega⟩ 0) = V (Proc.devRef .tc main_arg8) (ix1 j)
  biasBbox (j : Fin 12) : A (Proc.devRef .tc main_v13) (ix2 ⟨8 + j, by omega⟩ 0) = V (Proc.devRef .tc main_arg10) (ix1 j)

/-- The first stretch leaves them so. -/
theorem fed_host (V : Valuation τ sig (Elt Ideal)) : Fed (StableHlo.after hostOps0 V) V :=
  ⟨host_wt V, host_cb V, host_hw_logits V, host_hw_bbox V, host_hb_logits V, host_hb_bbox V⟩

/-- So does any point later that still has these arrays. -/
theorem Fed.of_eq {A B V : Valuation τ sig (Elt Ideal)} (h : Fed A V) (e : ∀ r ∈ [main_v2, main_v8, main_v9, main_v13], B (Proc.devRef .tc r) = A (Proc.devRef .tc r)) : Fed B V := by
  have e2 := e main_v2 (by decide)
  have e8 := e main_v8 (by decide)
  have e9 := e main_v9 (by decide)
  have e13 := e main_v13 (by decide)
  exact ⟨fun d o y k => (congrFun e2 _).trans (h.kernel d o y k), fun o => (congrFun e9 _).trans (h.bias o), fun j o => (congrFun e8 _).trans (h.headLogits j o),
    fun j o => (congrFun e8 _).trans (h.headBbox j o), fun j => (congrFun e13 _).trans (h.biasLogits j), fun j => (congrFun e13 _).trans (h.biasBbox j)⟩

variable (m : (ℓ : Loc nD τ sig) → Buf (Elt Ideal) ℓ) (c : Dev nD)

/-- Every region finds the arrays of the weights so. -/
theorem fed : Fed (U1 m c) (U0 m c) ∧ Fed (U3 m c) (U0 m c) ∧ Fed (U5 m c) (U0 m c) ∧ Fed (U7 m c) (U0 m c) ∧ Fed (U9 m c) (U0 m c) := by
  have h : ∀ r ∈ [main_v2, main_v8, main_v9, main_v13], r ∉ outRefs ∧ r ∉ hostOps1_W ++ hostOps2_W ++ hostOps3_W ++ hostOps4_W ++ hostOps5_W := by decide
  have l := fun r hr => later m r (h r hr).1 (h r hr).2 c
  have f := fed_host (U0 m c)
  exact ⟨f, f.of_eq fun r hr => (l r hr).2.1, f.of_eq fun r hr => (l r hr).2.2.2.1, f.of_eq fun r hr => (l r hr).2.2.2.2.2.1,
    f.of_eq fun r hr => (l r hr).2.2.2.2.2.2.2.1⟩

/-- An argument is, at every point between, as at launch. -/
theorem arg_between (r : Ref sig .tc) (hr : r ∈ argRefs) : U2 m c (Proc.devRef .tc r) = U0 m c (Proc.devRef .tc r)
    ∧ U4 m c (Proc.devRef .tc r) = U0 m c (Proc.devRef .tc r) ∧ U6 m c (Proc.devRef .tc r) = U0 m c (Proc.devRef .tc r)
    ∧ U8 m c (Proc.devRef .tc r) = U0 m c (Proc.devRef .tc r) := by
  have h : ∀ r ∈ argRefs, r ∉ outRefs ∧ r ∉ hostOps1_W ++ hostOps2_W ++ hostOps3_W ++ hostOps4_W ++ hostOps5_W ∧ r ∉ hostOps0_W := by decide
  obtain ⟨h1, h2, h0⟩ := h r hr
  have e := StableHlo.after_of_writes_sub hostOps0 (U0 m c) hostOps0_writes h0
  have l := later m r h1 h2 c
  exact ⟨l.1.trans e, l.2.2.1.trans e, l.2.2.2.2.1.trans e, l.2.2.2.2.2.2.1.trans e⟩

end Cert.Proof.KernelIdeal

end
-- ==== Proof.Value.lean ====
/-
  What each level's body computes at an index, in exact arithmetic.
-/
module

public import proofs.«01_k».proof.Proof.Conv
public import proofs.«01_k».proof.Proof.Level0
public import proofs.«01_k».proof.Proof.Level1
public import proofs.«01_k».proof.Proof.Level2
public import proofs.«01_k».proof.Proof.Level3
public import proofs.«01_k».proof.Proof.Level4
public import Idealize.ShloMosaic.Lib.Pointwise
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.WordCmp (cmpi_eq_eq_toNat select_decide)

/-- The 32-bit word the kernel computes for the column of lane `l`: the remainder by the line's width, made nonnegative. -/
def colWord (W : BitVec 32) (l : ℕ) : BitVec 32 :=
  Scalar.select
    (IntOp.andi
      (IntOp.xori (IntOp.cmpi .slt (IntOp.remsi .vector (BitVec.ofNat 32 l) (Scalar.select (Scalar.cmpi .eq W 0#32) 1#32 W)) 0#32)
        (Scalar.cmpi .slt (Scalar.select (Scalar.cmpi .eq W 0#32) 1#32 W) 0#32))
      (IntOp.cmpi .ne (IntOp.remsi .vector (BitVec.ofNat 32 l) (Scalar.select (Scalar.cmpi .eq W 0#32) 1#32 W)) 0#32))
    (IntOp.addi (IntOp.remsi .vector (BitVec.ofNat 32 l) (Scalar.select (Scalar.cmpi .eq W 0#32) 1#32 W)) (Scalar.select (Scalar.cmpi .eq W 0#32) 1#32 W))
    (IntOp.remsi .vector (BitVec.ofNat 32 l) (Scalar.select (Scalar.cmpi .eq W 0#32) 1#32 W))

/-- Reading a choice on the equality of two words small enough to be numbers. -/
theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  rw [cmpi_eq_eq_toNat, select_decide, BitVec.toNat_ofNat, BitVec.toNat_ofNat, Nat.mod_eq_of_lt ha, Nat.mod_eq_of_lt hb]

/-- The column words of level 4. -/
theorem col4 : ∀ l : Fin 64, colWord 8#32 l = BitVec.ofNat 32 (l % 8) := by decide +kernel

/-- Level 4's rows at an index. -/
theorem k4_value (X : Vec Ideal S1x256x64 .f32) (WT : Vec Ideal S3x256x768 .bf16) (HW : Vec Ideal S24x256 .bf16) (CB : Vec Ideal S256x1 .f32)
    (HB : Vec Ideal S24x1 .f32) (j : Fin 24) (l : Fin 64) :
    k4_out (F := Ideal) X WT HW CB HB (ix2 j l) = headAt (fun o => HW (ix2 j o)) (HB (ix2 j 0))
      (fun o => laneRow 64 8 (castAt (F := Ideal) 64 X) (fun d q => WT (ix3 d o q)) (CB (ix2 o 0)) l) := by
  unfold k4_out
  have hc := col4 l
  have s0 := fun x y : EReal => select_eq ((l : ℕ) % 8) 0 (by omega) (by omega) x y
  have s1 := fun x y : EReal => select_eq ((l : ℕ) % 8) 7 (by omega) (by omega) x y
  unfold colWord at hc
  pointwise [k4_pay16, k4_pay2, k4_pay3, k4_pay4, k4_pay15, wtAt, segAt, hc]
  simp only [s0, s1]
  refine congrArg (· + HB (ix2 j 0)) (Finset.sum_congr rfl fun o _ => congrArg (HW (ix2 j o) * ·) ?_)
  exact lanes (L := 64) (W := 8) (N := 64) (s := 0) (r := l) (castAt (F := Ideal) 64 X) (fun d q => WT (ix3 d o q)) (CB (ix2 o 0)) (by decide) (by decide) l.isLt
    (by omega) (by omega) (by omega) (by omega) rfl rfl

/-- The column words of level 3. -/
theorem col3 : ∀ l : Fin 256, colWord 16#32 l = BitVec.ofNat 32 (l % 16) := by decide +kernel

/-- Level 3's rows at an index. -/
theorem k3_value (X : Vec Ideal S1x256x256 .f32) (WT : Vec Ideal S3x256x768 .bf16) (HW : Vec Ideal S24x256 .bf16) (CB : Vec Ideal S256x1 .f32)
    (HB : Vec Ideal S24x1 .f32) (j : Fin 24) (l : Fin 256) :
    k3_out (F := Ideal) X WT HW CB HB (ix2 j l) = headAt (fun o => HW (ix2 j o)) (HB (ix2 j 0))
      (fun o => laneRow 256 16 (castAt (F := Ideal) 256 X) (fun d q => WT (ix3 d o q)) (CB (ix2 o 0)) l) := by
  unfold k3_out
  have hc := col3 l
  have s0 := fun x y : EReal => select_eq ((l : ℕ) % 16) 0 (by omega) (by omega) x y
  have s1 := fun x y : EReal => select_eq ((l : ℕ) % 16) 15 (by omega) (by omega) x y
  unfold colWord at hc
  pointwise [k3_pay16, k3_pay2, k3_pay3, k3_pay4, k3_pay15, wtAt, segAt, hc]
  simp only [s0, s1]
  refine congrArg (· + HB (ix2 j 0)) (Finset.sum_congr rfl fun o _ => congrArg (HW (ix2 j o) * ·) ?_)
  exact lanes (L := 256) (W := 16) (N := 256) (s := 0) (r := l) (castAt (F := Ideal) 256 X) (fun d q => WT (ix3 d o q)) (CB (ix2 o 0)) (by decide) (by decide) l.isLt
    (by omega) (by omega) (by omega) (by omega) rfl rfl

/-- The column words of level 2. -/
theorem col2 : ∀ l : Fin 1024, colWord 32#32 l = BitVec.ofNat 32 (l % 32) := by decide +kernel

/-- Level 2's rows at an index. -/
theorem k2_value (X : Vec Ideal S1x256x1024 .f32) (WT : Vec Ideal S3x256x768 .bf16) (HW : Vec Ideal S24x256 .bf16) (CB : Vec Ideal S256x1 .f32)
    (HB : Vec Ideal S24x1 .f32) (j : Fin 24) (l : Fin 1024) :
    k2_out (F := Ideal) X WT HW CB HB (ix2 j l) = headAt (fun o => HW (ix2 j o)) (HB (ix2 j 0))
      (fun o => laneRow 1024 32 (castAt (F := Ideal) 1024 X) (fun d q => WT (ix3 d o q)) (CB (ix2 o 0)) l) := by
  unfold k2_out
  have hc := col2 l
  have s0 := fun x y : EReal => select_eq ((l : ℕ) % 32) 0 (by omega) (by omega) x y
  have s1 := fun x y : EReal => select_eq ((l : ℕ) % 32) 31 (by omega) (by omega) x y
  unfold colWord at hc
  pointwise [k2_pay16, k2_pay2, k2_pay3, k2_pay4, k2_pay15, wtAt, segAt, hc]
  simp only [s0, s1]
  refine congrArg (· + HB (ix2 j 0)) (Finset.sum_congr rfl fun o _ => congrArg (HW (ix2 j o) * ·) ?_)
  exact lanes (L := 1024) (W := 32) (N := 1024) (s := 0) (r := l) (castAt (F := Ideal) 1024 X) (fun d q => WT (ix3 d o q)) (CB (ix2 o 0)) (by decide) (by decide) l.isLt
    (by omega) (by omega) (by omega) (by omega) rfl rfl

/-- The column words of level 1. -/
theorem col1 : ∀ l : Fin 2048, colWord 64#32 l = BitVec.ofNat 32 (l % 64) := by decide +kernel

/-- Level 1's rows at an index. -/
theorem k1_value (X : Vec Ideal S1x256x4096 .f32) (WT : Vec Ideal S3x256x768 .bf16) (HW : Vec Ideal S24x256 .bf16) (CB : Vec Ideal S256x1 .f32)
    (HB : Vec Ideal S24x1 .f32) (j : Fin 24) (l : Fin 4096) :
    k1_out (F := Ideal) X WT HW CB HB (ix2 j l) = headAt (fun o => HW (ix2 j o)) (HB (ix2 j 0))
      (fun o => laneRow 4096 64 (castAt (F := Ideal) 4096 X) (fun d q => WT (ix3 d o q)) (CB (ix2 o 0)) l) := by
  rw [k1_out_at]
  generalize hr : (⟨l.val % 2048, Nat.mod_lt _ (by decide)⟩ : Fin 2048) = r
  have hr' : l.val % 2048 = r.val := congrArg Fin.val hr
  have hd := Nat.div_add_mod l.val 2048
  have hc := col1 r
  have s0 := fun x y : EReal => select_eq (r % 64) 0 (by omega) (by omega) x y
  have s1 := fun x y : EReal => select_eq (r % 64) 63 (by omega) (by omega) x y
  unfold colWord at hc
  pointwise [k1_seg, k1_pay3, k1_pay12, k1_pay13, k1_pay14, k1_pay15, k1_pay16, k1_pay17, k1_pay18, k1_pay19, wtAt, segAt, hc]
  simp only [s0, s1]
  refine congrArg (· + HB (ix2 j 0)) (Finset.sum_congr rfl fun o _ => congrArg (HW (ix2 j o) * ·) ?_)
  exact lanes (L := 4096) (W := 64) (N := 2048) (s := l / 2048) (r := r) (castAt (F := Ideal) 4096 X) (fun d q => WT (ix3 d o q)) (CB (ix2 o 0)) (by decide) (by decide) r.isLt
    (by omega) rfl rfl rfl rfl rfl

/-- The column words of level 0. -/
theorem col0 : ∀ l : Fin 1024, colWord 128#32 l = BitVec.ofNat 32 (l % 128) := by decide +kernel

/-- Level 0's rows at an index. -/
theorem k0_value (X : Vec Ideal S1x256x16384 .f32) (WT : Vec Ideal S3x256x768 .bf16) (HW : Vec Ideal S24x256 .bf16) (CB : Vec Ideal S256x1 .f32)
    (HB : Vec Ideal S24x1 .f32) (j : Fin 24) (l : Fin 16384) :
    k0_out (F := Ideal) X WT HW CB HB (ix2 j l) = headAt (fun o => HW (ix2 j o)) (HB (ix2 j 0))
      (fun o => laneRow 16384 128 (castAt (F := Ideal) 16384 X) (fun d q => WT (ix3 d o q)) (CB (ix2 o 0)) l) := by
  rw [k0_out_at]
  generalize hr : (⟨l.val % 1024, Nat.mod_lt _ (by decide)⟩ : Fin 1024) = r
  have hr' : l.val % 1024 = r.val := congrArg Fin.val hr
  have hd := Nat.div_add_mod l.val 1024
  have hc := col0 r
  have s0 := fun x y : EReal => select_eq (r % 128) 0 (by omega) (by omega) x y
  have s1 := fun x y : EReal => select_eq (r % 128) 127 (by omega) (by omega) x y
  unfold colWord at hc
  pointwise [k0_seg, k0_pay3, k0_pay12, k0_pay13, k0_pay14, k0_pay15, k0_pay16, k0_pay17, k0_pay18, k0_pay19, wtAt, segAt, hc]
  simp only [s0, s1]
  refine congrArg (· + HB (ix2 j 0)) (Finset.sum_congr rfl fun o _ => congrArg (HW (ix2 j o) * ·) ?_)
  exact lanes (L := 16384) (W := 128) (N := 1024) (s := l / 1024) (r := r) (castAt (F := Ideal) 16384 X) (fun d q => WT (ix3 d o q)) (CB (ix2 o 0)) (by decide) (by decide) r.isLt
    (by omega) rfl rfl rfl rfl rfl

end Cert.Proof.KernelIdeal

end
-- ==== Proof.Result0.lean ====
/-
  What the two outputs of region 0 hold at the end, in exact arithmetic.
-/
module

public import proofs.«01_k».proof.Proof.Fed
public import proofs.«01_k».proof.Proof.Value
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.Pipeline

variable (A : Dev nD → Valuation τ sig (Elt Ideal)) (V : Valuation τ sig (Elt Ideal)) (c : Dev nD)

/-- The windows' block indices at point `t`: the image and the outputs move with `t`, the weights stay. -/
theorem r0_index : ∀ t : Fin cfg0.N,
    (win0_0.index t (0 : Fin 3) = t ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t ∧ win0_5.index t (1 : Fin 3) = 0 ∧ win0_5.index t (2 : Fin 3) = 0)
    ∧ (win0_6.index t (0 : Fin 3) = t ∧ win0_6.index t (1 : Fin 3) = 0 ∧ win0_6.index t (2 : Fin 3) = 0) := by decide +kernel

/-- The image's block at point `t` is image `t`. -/
theorem r0_blk0 (t : Fin 2) (k : Fin 256) (l : Fin 16384) : r0_blk A c 0 t (ix3 0 k l) = A c (Proc.devRef .tc main_v14) (ix3 t k l) := by
  blk_ext [r0_blk, (r0_index t).1]

/-- The block of the convolution's kernels is all of them. -/
theorem r0_blk1 (t : Fin 2) (d : Fin 3) (o : Fin 256) (q : Fin 768) : r0_blk A c 1 t (ix3 d o q) = A c (Proc.devRef .tc main_v2) (ix3 d o q) := by
  blk_ext [r0_blk, (r0_index t).2.1]
/-- The block of the head's kernels is all of them. -/
theorem r0_blk2 (t : Fin 2) (j : Fin 24) (o : Fin 256) : r0_blk A c 2 t (ix2 j o) = A c (Proc.devRef .tc main_v8) (ix2 j o) := by
  blk_ext [r0_blk, (r0_index t).2.2.1]
/-- The block of the convolution's biases is all of them. -/
theorem r0_blk3 (t : Fin 2) (o : Fin 256) : r0_blk A c 3 t (ix2 o 0) = A c (Proc.devRef .tc main_v9) (ix2 o 0) := by
  blk_ext [r0_blk, (r0_index t).2.2.2.1]
/-- The block of the head's biases is all of them. -/
theorem r0_blk4 (t : Fin 2) (j : Fin 24) : r0_blk A c 4 t (ix2 j 0) = A c (Proc.devRef .tc main_v13) (ix2 j 0) := by
  blk_ext [r0_blk, (r0_index t).2.2.2.2.1]

variable (hA : Fed (A c) V) (hx : ∀ (n : Fin 2) (k : Fin 256) (l : Fin 16384), A c (Proc.devRef .tc main_v14) (ix3 n k l) = imgAt 128 128 (V (Proc.devRef .tc main_arg0)) n k l)
include hA hx

/-- Row `j` of the body at line `h` and column `w` of image `t`: the head of the convolution there. -/
theorem r0_out_at (t : Fin 2) (j : Fin 24) (h w : Fin 128) : r0_out A c t (ix2 j ⟨h * 128 + w, by omega⟩)
    = headAt (fun o => A c (Proc.devRef .tc main_v8) (ix2 j o)) (A c (Proc.devRef .tc main_v13) (ix2 j 0)) (fun o => convOf 128 (V (Proc.devRef .tc main_arg5)) (V (Proc.devRef .tc main_arg6)) (V (Proc.devRef .tc main_arg0)) t o h w) := by
  have hc : castAt (F := Ideal) 16384 (r0_blk A c 0 t) = imgAt 128 128 (V (Proc.devRef .tc main_arg0)) t :=
    cast_img (W := 128) (L := 16384) rfl _ _ _ fun k l => (r0_blk0 A c t k l).trans (hx t k l)
  refine (k0_value _ _ _ _ _ j ⟨h * 128 + w, by omega⟩).trans ?_
  refine congr (congr (congrArg headAt (funext fun o => r0_blk2 A c t j o)) (r0_blk4 A c t j)) (funext fun o => ?_)
  rw [hc]
  refine (congrArg (fun b => laneRow 16384 128 (imgAt 128 128 (V (Proc.devRef .tc main_arg0)) t) _ b (h * 128 + w)) ((r0_blk3 A c t o).trans (hA.bias o))).trans ?_
  exact lane_ref 128 128 _ _ _ _ (fun d y k => (r0_blk1 A c t d o _).trans (hA.kernel d o y k)) h w h.isLt w.isLt

/-- The first output: the first 1x1 convolution's rows. -/
theorem r0_logits_end (n : Fin 2) (j : Fin 3) (h w : Fin 128) : (r0_dat A c).arrAt 5 cfg0.N (ix3 n j ⟨h * 128 + w, by omega⟩)
    = logitAt 128 V (V (Proc.devRef .tc main_arg0)) n j h w := by
  have e : (r0_dat A c).arrAt 5 cfg0.N = fun i : S2x3x16384.Idx => r0_logits A c (i 0) (ix3 0 (i 1) (i 2)) := by
    refine (r0_dat A c).arrAt_eq_of_covers 5 _ (by decide +kernel) fun t _ y => ?_
    blk_simp []
    have e0 : (win0_5.blk t).view.emb y 0 = t := Fin.ext (by blk_simp [(r0_index t).2.2.2.2.2.1])
    have e1 : y = ix3 0 ((win0_5.blk t).view.emb y 1) ((win0_5.blk t).view.emb y 2) := by blk_ext [(r0_index t).2.2.2.2.2.1]
    exact congr (congrArg (r0_logits A c) e0.symm) e1
  rw [e]
  refine (r0_out_at A V c hA hx n ⟨j, by omega⟩ h w).trans ?_
  exact congrFun (congr (congrArg headAt (funext fun o => hA.headLogits j o)) (hA.biasLogits j)) _

/-- The second output: the second 1x1 convolution's rows. -/
theorem r0_bbox_end (n : Fin 2) (j : Fin 12) (h w : Fin 128) : (r0_dat A c).arrAt 6 cfg0.N (ix3 n j ⟨h * 128 + w, by omega⟩)
    = bboxAt 128 V (V (Proc.devRef .tc main_arg0)) n j h w := by
  have e : (r0_dat A c).arrAt 6 cfg0.N = fun i : S2x12x16384.Idx => r0_bbox A c (i 0) (ix3 0 (i 1) (i 2)) := by
    refine (r0_dat A c).arrAt_eq_of_covers 6 _ (by decide +kernel) fun t _ y => ?_
    blk_simp []
    have e0 : (win0_6.blk t).view.emb y 0 = t := Fin.ext (by blk_simp [(r0_index t).2.2.2.2.2.2])
    have e1 : y = ix3 0 ((win0_6.blk t).view.emb y 1) ((win0_6.blk t).view.emb y 2) := by blk_ext [(r0_index t).2.2.2.2.2.2]
    exact congr (congrArg (r0_bbox A c) e0.symm) e1
  rw [e]
  refine (r0_out_at A V c hA hx n ⟨8 + j, by omega⟩ h w).trans ?_
  exact congrFun (congr (congrArg headAt (funext fun o => hA.headBbox j o)) (hA.biasBbox j)) _

end Cert.Proof.KernelIdeal

end
-- ==== Proof.Result1.lean ====
/-
  What the two outputs of region 1 hold at the end, in exact arithmetic.
-/
module

public import proofs.«01_k».proof.Proof.Fed
public import proofs.«01_k».proof.Proof.Value
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.Pipeline

variable (A : Dev nD → Valuation τ sig (Elt Ideal)) (V : Valuation τ sig (Elt Ideal)) (c : Dev nD)

/-- The windows' block indices at point `t`: the image and the outputs move with `t`, the weights stay. -/
theorem r1_index : ∀ t : Fin cfg1.N,
    (win1_0.index t (0 : Fin 3) = t ∧ win1_0.index t (1 : Fin 3) = 0 ∧ win1_0.index t (2 : Fin 3) = 0)
    ∧ (win1_1.index t (0 : Fin 3) = 0 ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 3) = t ∧ win1_5.index t (1 : Fin 3) = 0 ∧ win1_5.index t (2 : Fin 3) = 0)
    ∧ (win1_6.index t (0 : Fin 3) = t ∧ win1_6.index t (1 : Fin 3) = 0 ∧ win1_6.index t (2 : Fin 3) = 0) := by decide +kernel

/-- The image's block at point `t` is image `t`. -/
theorem r1_blk0 (t : Fin 2) (k : Fin 256) (l : Fin 4096) : r1_blk A c 0 t (ix3 0 k l) = A c (Proc.devRef .tc main_v18) (ix3 t k l) := by
  blk_ext [r1_blk, (r1_index t).1]

/-- The block of the convolution's kernels is all of them. -/
theorem r1_blk1 (t : Fin 2) (d : Fin 3) (o : Fin 256) (q : Fin 768) : r1_blk A c 1 t (ix3 d o q) = A c (Proc.devRef .tc main_v2) (ix3 d o q) := by
  blk_ext [r1_blk, (r1_index t).2.1]
/-- The block of the head's kernels is all of them. -/
theorem r1_blk2 (t : Fin 2) (j : Fin 24) (o : Fin 256) : r1_blk A c 2 t (ix2 j o) = A c (Proc.devRef .tc main_v8) (ix2 j o) := by
  blk_ext [r1_blk, (r1_index t).2.2.1]
/-- The block of the convolution's biases is all of them. -/
theorem r1_blk3 (t : Fin 2) (o : Fin 256) : r1_blk A c 3 t (ix2 o 0) = A c (Proc.devRef .tc main_v9) (ix2 o 0) := by
  blk_ext [r1_blk, (r1_index t).2.2.2.1]
/-- The block of the head's biases is all of them. -/
theorem r1_blk4 (t : Fin 2) (j : Fin 24) : r1_blk A c 4 t (ix2 j 0) = A c (Proc.devRef .tc main_v13) (ix2 j 0) := by
  blk_ext [r1_blk, (r1_index t).2.2.2.2.1]

variable (hA : Fed (A c) V) (hx : ∀ (n : Fin 2) (k : Fin 256) (l : Fin 4096), A c (Proc.devRef .tc main_v18) (ix3 n k l) = imgAt 64 64 (V (Proc.devRef .tc main_arg1)) n k l)
include hA hx

/-- Row `j` of the body at line `h` and column `w` of image `t`: the head of the convolution there. -/
theorem r1_out_at (t : Fin 2) (j : Fin 24) (h w : Fin 64) : r1_out A c t (ix2 j ⟨h * 64 + w, by omega⟩)
    = headAt (fun o => A c (Proc.devRef .tc main_v8) (ix2 j o)) (A c (Proc.devRef .tc main_v13) (ix2 j 0)) (fun o => convOf 64 (V (Proc.devRef .tc main_arg5)) (V (Proc.devRef .tc main_arg6)) (V (Proc.devRef .tc main_arg1)) t o h w) := by
  have hc : castAt (F := Ideal) 4096 (r1_blk A c 0 t) = imgAt 64 64 (V (Proc.devRef .tc main_arg1)) t :=
    cast_img (W := 64) (L := 4096) rfl _ _ _ fun k l => (r1_blk0 A c t k l).trans (hx t k l)
  refine (k1_value _ _ _ _ _ j ⟨h * 64 + w, by omega⟩).trans ?_
  refine congr (congr (congrArg headAt (funext fun o => r1_blk2 A c t j o)) (r1_blk4 A c t j)) (funext fun o => ?_)
  rw [hc]
  refine (congrArg (fun b => laneRow 4096 64 (imgAt 64 64 (V (Proc.devRef .tc main_arg1)) t) _ b (h * 64 + w)) ((r1_blk3 A c t o).trans (hA.bias o))).trans ?_
  exact lane_ref 64 64 _ _ _ _ (fun d y k => (r1_blk1 A c t d o _).trans (hA.kernel d o y k)) h w h.isLt w.isLt

/-- The first output: the first 1x1 convolution's rows. -/
theorem r1_logits_end (n : Fin 2) (j : Fin 3) (h w : Fin 64) : (r1_dat A c).arrAt 5 cfg1.N (ix3 n j ⟨h * 64 + w, by omega⟩)
    = logitAt 64 V (V (Proc.devRef .tc main_arg1)) n j h w := by
  have e : (r1_dat A c).arrAt 5 cfg1.N = fun i : S2x3x4096.Idx => r1_logits A c (i 0) (ix3 0 (i 1) (i 2)) := by
    refine (r1_dat A c).arrAt_eq_of_covers 5 _ (by decide +kernel) fun t _ y => ?_
    blk_simp []
    have e0 : (win1_5.blk t).view.emb y 0 = t := Fin.ext (by blk_simp [(r1_index t).2.2.2.2.2.1])
    have e1 : y = ix3 0 ((win1_5.blk t).view.emb y 1) ((win1_5.blk t).view.emb y 2) := by blk_ext [(r1_index t).2.2.2.2.2.1]
    exact congr (congrArg (r1_logits A c) e0.symm) e1
  rw [e]
  refine (r1_out_at A V c hA hx n ⟨j, by omega⟩ h w).trans ?_
  exact congrFun (congr (congrArg headAt (funext fun o => hA.headLogits j o)) (hA.biasLogits j)) _

/-- The second output: the second 1x1 convolution's rows. -/
theorem r1_bbox_end (n : Fin 2) (j : Fin 12) (h w : Fin 64) : (r1_dat A c).arrAt 6 cfg1.N (ix3 n j ⟨h * 64 + w, by omega⟩)
    = bboxAt 64 V (V (Proc.devRef .tc main_arg1)) n j h w := by
  have e : (r1_dat A c).arrAt 6 cfg1.N = fun i : S2x12x4096.Idx => r1_bbox A c (i 0) (ix3 0 (i 1) (i 2)) := by
    refine (r1_dat A c).arrAt_eq_of_covers 6 _ (by decide +kernel) fun t _ y => ?_
    blk_simp []
    have e0 : (win1_6.blk t).view.emb y 0 = t := Fin.ext (by blk_simp [(r1_index t).2.2.2.2.2.2])
    have e1 : y = ix3 0 ((win1_6.blk t).view.emb y 1) ((win1_6.blk t).view.emb y 2) := by blk_ext [(r1_index t).2.2.2.2.2.2]
    exact congr (congrArg (r1_bbox A c) e0.symm) e1
  rw [e]
  refine (r1_out_at A V c hA hx n ⟨8 + j, by omega⟩ h w).trans ?_
  exact congrFun (congr (congrArg headAt (funext fun o => hA.headBbox j o)) (hA.biasBbox j)) _

end Cert.Proof.KernelIdeal

end
-- ==== Proof.Result2.lean ====
/-
  What the two outputs of region 2 hold at the end, in exact arithmetic.
-/
module

public import proofs.«01_k».proof.Proof.Fed
public import proofs.«01_k».proof.Proof.Value
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.Pipeline

variable (A : Dev nD → Valuation τ sig (Elt Ideal)) (V : Valuation τ sig (Elt Ideal)) (c : Dev nD)

/-- The windows' block indices at point `t`: the image and the outputs move with `t`, the weights stay. -/
theorem r2_index : ∀ t : Fin cfg2.N,
    (win2_0.index t (0 : Fin 3) = t ∧ win2_0.index t (1 : Fin 3) = 0 ∧ win2_0.index t (2 : Fin 3) = 0)
    ∧ (win2_1.index t (0 : Fin 3) = 0 ∧ win2_1.index t (1 : Fin 3) = 0 ∧ win2_1.index t (2 : Fin 3) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 3) = t ∧ win2_5.index t (1 : Fin 3) = 0 ∧ win2_5.index t (2 : Fin 3) = 0)
    ∧ (win2_6.index t (0 : Fin 3) = t ∧ win2_6.index t (1 : Fin 3) = 0 ∧ win2_6.index t (2 : Fin 3) = 0) := by decide +kernel

/-- The image's block at point `t` is image `t`. -/
theorem r2_blk0 (t : Fin 2) (k : Fin 256) (l : Fin 1024) : r2_blk A c 0 t (ix3 0 k l) = A c (Proc.devRef .tc main_v22) (ix3 t k l) := by
  blk_ext [r2_blk, (r2_index t).1]

/-- The block of the convolution's kernels is all of them. -/
theorem r2_blk1 (t : Fin 2) (d : Fin 3) (o : Fin 256) (q : Fin 768) : r2_blk A c 1 t (ix3 d o q) = A c (Proc.devRef .tc main_v2) (ix3 d o q) := by
  blk_ext [r2_blk, (r2_index t).2.1]
/-- The block of the head's kernels is all of them. -/
theorem r2_blk2 (t : Fin 2) (j : Fin 24) (o : Fin 256) : r2_blk A c 2 t (ix2 j o) = A c (Proc.devRef .tc main_v8) (ix2 j o) := by
  blk_ext [r2_blk, (r2_index t).2.2.1]
/-- The block of the convolution's biases is all of them. -/
theorem r2_blk3 (t : Fin 2) (o : Fin 256) : r2_blk A c 3 t (ix2 o 0) = A c (Proc.devRef .tc main_v9) (ix2 o 0) := by
  blk_ext [r2_blk, (r2_index t).2.2.2.1]
/-- The block of the head's biases is all of them. -/
theorem r2_blk4 (t : Fin 2) (j : Fin 24) : r2_blk A c 4 t (ix2 j 0) = A c (Proc.devRef .tc main_v13) (ix2 j 0) := by
  blk_ext [r2_blk, (r2_index t).2.2.2.2.1]

variable (hA : Fed (A c) V) (hx : ∀ (n : Fin 2) (k : Fin 256) (l : Fin 1024), A c (Proc.devRef .tc main_v22) (ix3 n k l) = imgAt 32 32 (V (Proc.devRef .tc main_arg2)) n k l)
include hA hx

/-- Row `j` of the body at line `h` and column `w` of image `t`: the head of the convolution there. -/
theorem r2_out_at (t : Fin 2) (j : Fin 24) (h w : Fin 32) : r2_out A c t (ix2 j ⟨h * 32 + w, by omega⟩)
    = headAt (fun o => A c (Proc.devRef .tc main_v8) (ix2 j o)) (A c (Proc.devRef .tc main_v13) (ix2 j 0)) (fun o => convOf 32 (V (Proc.devRef .tc main_arg5)) (V (Proc.devRef .tc main_arg6)) (V (Proc.devRef .tc main_arg2)) t o h w) := by
  have hc : castAt (F := Ideal) 1024 (r2_blk A c 0 t) = imgAt 32 32 (V (Proc.devRef .tc main_arg2)) t :=
    cast_img (W := 32) (L := 1024) rfl _ _ _ fun k l => (r2_blk0 A c t k l).trans (hx t k l)
  refine (k2_value _ _ _ _ _ j ⟨h * 32 + w, by omega⟩).trans ?_
  refine congr (congr (congrArg headAt (funext fun o => r2_blk2 A c t j o)) (r2_blk4 A c t j)) (funext fun o => ?_)
  rw [hc]
  refine (congrArg (fun b => laneRow 1024 32 (imgAt 32 32 (V (Proc.devRef .tc main_arg2)) t) _ b (h * 32 + w)) ((r2_blk3 A c t o).trans (hA.bias o))).trans ?_
  exact lane_ref 32 32 _ _ _ _ (fun d y k => (r2_blk1 A c t d o _).trans (hA.kernel d o y k)) h w h.isLt w.isLt

/-- The first output: the first 1x1 convolution's rows. -/
theorem r2_logits_end (n : Fin 2) (j : Fin 3) (h w : Fin 32) : (r2_dat A c).arrAt 5 cfg2.N (ix3 n j ⟨h * 32 + w, by omega⟩)
    = logitAt 32 V (V (Proc.devRef .tc main_arg2)) n j h w := by
  have e : (r2_dat A c).arrAt 5 cfg2.N = fun i : S2x3x1024.Idx => r2_logits A c (i 0) (ix3 0 (i 1) (i 2)) := by
    refine (r2_dat A c).arrAt_eq_of_covers 5 _ (by decide +kernel) fun t _ y => ?_
    blk_simp []
    have e0 : (win2_5.blk t).view.emb y 0 = t := Fin.ext (by blk_simp [(r2_index t).2.2.2.2.2.1])
    have e1 : y = ix3 0 ((win2_5.blk t).view.emb y 1) ((win2_5.blk t).view.emb y 2) := by blk_ext [(r2_index t).2.2.2.2.2.1]
    exact congr (congrArg (r2_logits A c) e0.symm) e1
  rw [e]
  refine (r2_out_at A V c hA hx n ⟨j, by omega⟩ h w).trans ?_
  exact congrFun (congr (congrArg headAt (funext fun o => hA.headLogits j o)) (hA.biasLogits j)) _

/-- The second output: the second 1x1 convolution's rows. -/
theorem r2_bbox_end (n : Fin 2) (j : Fin 12) (h w : Fin 32) : (r2_dat A c).arrAt 6 cfg2.N (ix3 n j ⟨h * 32 + w, by omega⟩)
    = bboxAt 32 V (V (Proc.devRef .tc main_arg2)) n j h w := by
  have e : (r2_dat A c).arrAt 6 cfg2.N = fun i : S2x12x1024.Idx => r2_bbox A c (i 0) (ix3 0 (i 1) (i 2)) := by
    refine (r2_dat A c).arrAt_eq_of_covers 6 _ (by decide +kernel) fun t _ y => ?_
    blk_simp []
    have e0 : (win2_6.blk t).view.emb y 0 = t := Fin.ext (by blk_simp [(r2_index t).2.2.2.2.2.2])
    have e1 : y = ix3 0 ((win2_6.blk t).view.emb y 1) ((win2_6.blk t).view.emb y 2) := by blk_ext [(r2_index t).2.2.2.2.2.2]
    exact congr (congrArg (r2_bbox A c) e0.symm) e1
  rw [e]
  refine (r2_out_at A V c hA hx n ⟨8 + j, by omega⟩ h w).trans ?_
  exact congrFun (congr (congrArg headAt (funext fun o => hA.headBbox j o)) (hA.biasBbox j)) _

end Cert.Proof.KernelIdeal

end
-- ==== Proof.Result3.lean ====
/-
  What the two outputs of region 3 hold at the end, in exact arithmetic.
-/
module

public import proofs.«01_k».proof.Proof.Fed
public import proofs.«01_k».proof.Proof.Value
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.Pipeline

variable (A : Dev nD → Valuation τ sig (Elt Ideal)) (V : Valuation τ sig (Elt Ideal)) (c : Dev nD)

/-- The windows' block indices at point `t`: the image and the outputs move with `t`, the weights stay. -/
theorem r3_index : ∀ t : Fin cfg3.N,
    (win3_0.index t (0 : Fin 3) = t ∧ win3_0.index t (1 : Fin 3) = 0 ∧ win3_0.index t (2 : Fin 3) = 0)
    ∧ (win3_1.index t (0 : Fin 3) = 0 ∧ win3_1.index t (1 : Fin 3) = 0 ∧ win3_1.index t (2 : Fin 3) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 3) = t ∧ win3_5.index t (1 : Fin 3) = 0 ∧ win3_5.index t (2 : Fin 3) = 0)
    ∧ (win3_6.index t (0 : Fin 3) = t ∧ win3_6.index t (1 : Fin 3) = 0 ∧ win3_6.index t (2 : Fin 3) = 0) := by decide +kernel

/-- The image's block at point `t` is image `t`. -/
theorem r3_blk0 (t : Fin 2) (k : Fin 256) (l : Fin 256) : r3_blk A c 0 t (ix3 0 k l) = A c (Proc.devRef .tc main_v26) (ix3 t k l) := by
  blk_ext [r3_blk, (r3_index t).1]

/-- The block of the convolution's kernels is all of them. -/
theorem r3_blk1 (t : Fin 2) (d : Fin 3) (o : Fin 256) (q : Fin 768) : r3_blk A c 1 t (ix3 d o q) = A c (Proc.devRef .tc main_v2) (ix3 d o q) := by
  blk_ext [r3_blk, (r3_index t).2.1]
/-- The block of the head's kernels is all of them. -/
theorem r3_blk2 (t : Fin 2) (j : Fin 24) (o : Fin 256) : r3_blk A c 2 t (ix2 j o) = A c (Proc.devRef .tc main_v8) (ix2 j o) := by
  blk_ext [r3_blk, (r3_index t).2.2.1]
/-- The block of the convolution's biases is all of them. -/
theorem r3_blk3 (t : Fin 2) (o : Fin 256) : r3_blk A c 3 t (ix2 o 0) = A c (Proc.devRef .tc main_v9) (ix2 o 0) := by
  blk_ext [r3_blk, (r3_index t).2.2.2.1]
/-- The block of the head's biases is all of them. -/
theorem r3_blk4 (t : Fin 2) (j : Fin 24) : r3_blk A c 4 t (ix2 j 0) = A c (Proc.devRef .tc main_v13) (ix2 j 0) := by
  blk_ext [r3_blk, (r3_index t).2.2.2.2.1]

variable (hA : Fed (A c) V) (hx : ∀ (n : Fin 2) (k : Fin 256) (l : Fin 256), A c (Proc.devRef .tc main_v26) (ix3 n k l) = imgAt 16 16 (V (Proc.devRef .tc main_arg3)) n k l)
include hA hx

/-- Row `j` of the body at line `h` and column `w` of image `t`: the head of the convolution there. -/
theorem r3_out_at (t : Fin 2) (j : Fin 24) (h w : Fin 16) : r3_out A c t (ix2 j ⟨h * 16 + w, by omega⟩)
    = headAt (fun o => A c (Proc.devRef .tc main_v8) (ix2 j o)) (A c (Proc.devRef .tc main_v13) (ix2 j 0)) (fun o => convOf 16 (V (Proc.devRef .tc main_arg5)) (V (Proc.devRef .tc main_arg6)) (V (Proc.devRef .tc main_arg3)) t o h w) := by
  have hc : castAt (F := Ideal) 256 (r3_blk A c 0 t) = imgAt 16 16 (V (Proc.devRef .tc main_arg3)) t :=
    cast_img (W := 16) (L := 256) rfl _ _ _ fun k l => (r3_blk0 A c t k l).trans (hx t k l)
  refine (k3_value _ _ _ _ _ j ⟨h * 16 + w, by omega⟩).trans ?_
  refine congr (congr (congrArg headAt (funext fun o => r3_blk2 A c t j o)) (r3_blk4 A c t j)) (funext fun o => ?_)
  rw [hc]
  refine (congrArg (fun b => laneRow 256 16 (imgAt 16 16 (V (Proc.devRef .tc main_arg3)) t) _ b (h * 16 + w)) ((r3_blk3 A c t o).trans (hA.bias o))).trans ?_
  exact lane_ref 16 16 _ _ _ _ (fun d y k => (r3_blk1 A c t d o _).trans (hA.kernel d o y k)) h w h.isLt w.isLt

/-- The first output: the first 1x1 convolution's rows. -/
theorem r3_logits_end (n : Fin 2) (j : Fin 3) (h w : Fin 16) : (r3_dat A c).arrAt 5 cfg3.N (ix3 n j ⟨h * 16 + w, by omega⟩)
    = logitAt 16 V (V (Proc.devRef .tc main_arg3)) n j h w := by
  have e : (r3_dat A c).arrAt 5 cfg3.N = fun i : S2x3x256.Idx => r3_logits A c (i 0) (ix3 0 (i 1) (i 2)) := by
    refine (r3_dat A c).arrAt_eq_of_covers 5 _ (by decide +kernel) fun t _ y => ?_
    blk_simp []
    have e0 : (win3_5.blk t).view.emb y 0 = t := Fin.ext (by blk_simp [(r3_index t).2.2.2.2.2.1])
    have e1 : y = ix3 0 ((win3_5.blk t).view.emb y 1) ((win3_5.blk t).view.emb y 2) := by blk_ext [(r3_index t).2.2.2.2.2.1]
    exact congr (congrArg (r3_logits A c) e0.symm) e1
  rw [e]
  refine (r3_out_at A V c hA hx n ⟨j, by omega⟩ h w).trans ?_
  exact congrFun (congr (congrArg headAt (funext fun o => hA.headLogits j o)) (hA.biasLogits j)) _

/-- The second output: the second 1x1 convolution's rows. -/
theorem r3_bbox_end (n : Fin 2) (j : Fin 12) (h w : Fin 16) : (r3_dat A c).arrAt 6 cfg3.N (ix3 n j ⟨h * 16 + w, by omega⟩)
    = bboxAt 16 V (V (Proc.devRef .tc main_arg3)) n j h w := by
  have e : (r3_dat A c).arrAt 6 cfg3.N = fun i : S2x12x256.Idx => r3_bbox A c (i 0) (ix3 0 (i 1) (i 2)) := by
    refine (r3_dat A c).arrAt_eq_of_covers 6 _ (by decide +kernel) fun t _ y => ?_
    blk_simp []
    have e0 : (win3_6.blk t).view.emb y 0 = t := Fin.ext (by blk_simp [(r3_index t).2.2.2.2.2.2])
    have e1 : y = ix3 0 ((win3_6.blk t).view.emb y 1) ((win3_6.blk t).view.emb y 2) := by blk_ext [(r3_index t).2.2.2.2.2.2]
    exact congr (congrArg (r3_bbox A c) e0.symm) e1
  rw [e]
  refine (r3_out_at A V c hA hx n ⟨8 + j, by omega⟩ h w).trans ?_
  exact congrFun (congr (congrArg headAt (funext fun o => hA.headBbox j o)) (hA.biasBbox j)) _

end Cert.Proof.KernelIdeal

end
-- ==== Proof.Result4.lean ====
/-
  What the two outputs of region 4 hold at the end, in exact arithmetic.
-/
module

public import proofs.«01_k».proof.Proof.Fed
public import proofs.«01_k».proof.Proof.Value
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.Pipeline

variable (A : Dev nD → Valuation τ sig (Elt Ideal)) (V : Valuation τ sig (Elt Ideal)) (c : Dev nD)

/-- The windows' block indices at point `t`: the image and the outputs move with `t`, the weights stay. -/
theorem r4_index : ∀ t : Fin cfg4.N,
    (win4_0.index t (0 : Fin 3) = t ∧ win4_0.index t (1 : Fin 3) = 0 ∧ win4_0.index t (2 : Fin 3) = 0)
    ∧ (win4_1.index t (0 : Fin 3) = 0 ∧ win4_1.index t (1 : Fin 3) = 0 ∧ win4_1.index t (2 : Fin 3) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 3) = t ∧ win4_5.index t (1 : Fin 3) = 0 ∧ win4_5.index t (2 : Fin 3) = 0)
    ∧ (win4_6.index t (0 : Fin 3) = t ∧ win4_6.index t (1 : Fin 3) = 0 ∧ win4_6.index t (2 : Fin 3) = 0) := by decide +kernel

/-- The image's block at point `t` is image `t`. -/
theorem r4_blk0 (t : Fin 2) (k : Fin 256) (l : Fin 64) : r4_blk A c 0 t (ix3 0 k l) = A c (Proc.devRef .tc main_v30) (ix3 t k l) := by
  blk_ext [r4_blk, (r4_index t).1]

/-- The block of the convolution's kernels is all of them. -/
theorem r4_blk1 (t : Fin 2) (d : Fin 3) (o : Fin 256) (q : Fin 768) : r4_blk A c 1 t (ix3 d o q) = A c (Proc.devRef .tc main_v2) (ix3 d o q) := by
  blk_ext [r4_blk, (r4_index t).2.1]
/-- The block of the head's kernels is all of them. -/
theorem r4_blk2 (t : Fin 2) (j : Fin 24) (o : Fin 256) : r4_blk A c 2 t (ix2 j o) = A c (Proc.devRef .tc main_v8) (ix2 j o) := by
  blk_ext [r4_blk, (r4_index t).2.2.1]
/-- The block of the convolution's biases is all of them. -/
theorem r4_blk3 (t : Fin 2) (o : Fin 256) : r4_blk A c 3 t (ix2 o 0) = A c (Proc.devRef .tc main_v9) (ix2 o 0) := by
  blk_ext [r4_blk, (r4_index t).2.2.2.1]
/-- The block of the head's biases is all of them. -/
theorem r4_blk4 (t : Fin 2) (j : Fin 24) : r4_blk A c 4 t (ix2 j 0) = A c (Proc.devRef .tc main_v13) (ix2 j 0) := by
  blk_ext [r4_blk, (r4_index t).2.2.2.2.1]

variable (hA : Fed (A c) V) (hx : ∀ (n : Fin 2) (k : Fin 256) (l : Fin 64), A c (Proc.devRef .tc main_v30) (ix3 n k l) = imgAt 8 8 (V (Proc.devRef .tc main_arg4)) n k l)
include hA hx

/-- Row `j` of the body at line `h` and column `w` of image `t`: the head of the convolution there. -/
theorem r4_out_at (t : Fin 2) (j : Fin 24) (h w : Fin 8) : r4_out A c t (ix2 j ⟨h * 8 + w, by omega⟩)
    = headAt (fun o => A c (Proc.devRef .tc main_v8) (ix2 j o)) (A c (Proc.devRef .tc main_v13) (ix2 j 0)) (fun o => convOf 8 (V (Proc.devRef .tc main_arg5)) (V (Proc.devRef .tc main_arg6)) (V (Proc.devRef .tc main_arg4)) t o h w) := by
  have hc : castAt (F := Ideal) 64 (r4_blk A c 0 t) = imgAt 8 8 (V (Proc.devRef .tc main_arg4)) t :=
    cast_img (W := 8) (L := 64) rfl _ _ _ fun k l => (r4_blk0 A c t k l).trans (hx t k l)
  refine (k4_value _ _ _ _ _ j ⟨h * 8 + w, by omega⟩).trans ?_
  refine congr (congr (congrArg headAt (funext fun o => r4_blk2 A c t j o)) (r4_blk4 A c t j)) (funext fun o => ?_)
  rw [hc]
  refine (congrArg (fun b => laneRow 64 8 (imgAt 8 8 (V (Proc.devRef .tc main_arg4)) t) _ b (h * 8 + w)) ((r4_blk3 A c t o).trans (hA.bias o))).trans ?_
  exact lane_ref 8 8 _ _ _ _ (fun d y k => (r4_blk1 A c t d o _).trans (hA.kernel d o y k)) h w h.isLt w.isLt

/-- The first output: the first 1x1 convolution's rows. -/
theorem r4_logits_end (n : Fin 2) (j : Fin 3) (h w : Fin 8) : (r4_dat A c).arrAt 5 cfg4.N (ix3 n j ⟨h * 8 + w, by omega⟩)
    = logitAt 8 V (V (Proc.devRef .tc main_arg4)) n j h w := by
  have e : (r4_dat A c).arrAt 5 cfg4.N = fun i : S2x3x64.Idx => r4_logits A c (i 0) (ix3 0 (i 1) (i 2)) := by
    refine (r4_dat A c).arrAt_eq_of_covers 5 _ (by decide +kernel) fun t _ y => ?_
    blk_simp []
    have e0 : (win4_5.blk t).view.emb y 0 = t := Fin.ext (by blk_simp [(r4_index t).2.2.2.2.2.1])
    have e1 : y = ix3 0 ((win4_5.blk t).view.emb y 1) ((win4_5.blk t).view.emb y 2) := by blk_ext [(r4_index t).2.2.2.2.2.1]
    exact congr (congrArg (r4_logits A c) e0.symm) e1
  rw [e]
  refine (r4_out_at A V c hA hx n ⟨j, by omega⟩ h w).trans ?_
  exact congrFun (congr (congrArg headAt (funext fun o => hA.headLogits j o)) (hA.biasLogits j)) _

/-- The second output: the second 1x1 convolution's rows. -/
theorem r4_bbox_end (n : Fin 2) (j : Fin 12) (h w : Fin 8) : (r4_dat A c).arrAt 6 cfg4.N (ix3 n j ⟨h * 8 + w, by omega⟩)
    = bboxAt 8 V (V (Proc.devRef .tc main_arg4)) n j h w := by
  have e : (r4_dat A c).arrAt 6 cfg4.N = fun i : S2x12x64.Idx => r4_bbox A c (i 0) (ix3 0 (i 1) (i 2)) := by
    refine (r4_dat A c).arrAt_eq_of_covers 6 _ (by decide +kernel) fun t _ y => ?_
    blk_simp []
    have e0 : (win4_6.blk t).view.emb y 0 = t := Fin.ext (by blk_simp [(r4_index t).2.2.2.2.2.2])
    have e1 : y = ix3 0 ((win4_6.blk t).view.emb y 1) ((win4_6.blk t).view.emb y 2) := by blk_ext [(r4_index t).2.2.2.2.2.2]
    exact congr (congrArg (r4_bbox A c) e0.symm) e1
  rw [e]
  refine (r4_out_at A V c hA hx n ⟨8 + j, by omega⟩ h w).trans ?_
  exact congrFun (congr (congrArg headAt (funext fun o => hA.headBbox j o)) (hA.biasBbox j)) _

end Cert.Proof.KernelIdeal

end
-- ==== Proof.Ends.lean ====
/-
  What the program's ten results hold at the end, in exact arithmetic.
-/
module

public import proofs.«01_k».proof.Proof.Result0
public import proofs.«01_k».proof.Proof.Result1
public import proofs.«01_k».proof.Proof.Result2
public import proofs.«01_k».proof.Proof.Result3
public import proofs.«01_k».proof.Proof.Result4

@[expose] public section

set_option maxRecDepth 65536

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ) (c : Dev nD)

/-- A buffer that no region puts out and the last stretch of host operations does not write ends as the stretch before left it. -/
theorem kept9 (r : Ref sig .tc) (ho : r ∉ outRefs) (hw : r ∉ hostOps5_W) : U11 m c (Proc.devRef .tc r) = U9 m c (Proc.devRef .tc r) :=
  (StableHlo.after_of_writes_sub hostOps5 (U10 m c) hostOps5_writes hw).trans (region_keeps m r ho c).2.2.2.2
/-- So it is from the fourth stretch on. -/
theorem kept7 (r : Ref sig .tc) (ho : r ∉ outRefs) (hw : r ∉ hostOps4_W ++ hostOps5_W) : U11 m c (Proc.devRef .tc r) = U7 m c (Proc.devRef .tc r) := by
  rw [List.mem_append, not_or] at hw
  exact (kept9 m c r ho hw.2).trans ((StableHlo.after_of_writes_sub hostOps4 (U8 m c) hostOps4_writes hw.1).trans (region_keeps m r ho c).2.2.2.1)
/-- So it is from the third stretch on. -/
theorem kept5 (r : Ref sig .tc) (ho : r ∉ outRefs) (hw : r ∉ hostOps3_W ++ (hostOps4_W ++ hostOps5_W)) : U11 m c (Proc.devRef .tc r) = U5 m c (Proc.devRef .tc r) := by
  rw [List.mem_append, not_or] at hw
  exact (kept7 m c r ho hw.2).trans ((StableHlo.after_of_writes_sub hostOps3 (U6 m c) hostOps3_writes hw.1).trans (region_keeps m r ho c).2.2.1)
/-- So it is from the second stretch on. -/
theorem kept3 (r : Ref sig .tc) (ho : r ∉ outRefs) (hw : r ∉ hostOps2_W ++ (hostOps3_W ++ (hostOps4_W ++ hostOps5_W))) : U11 m c (Proc.devRef .tc r) = U3 m c (Proc.devRef .tc r) := by
  rw [List.mem_append, not_or] at hw
  exact (kept5 m c r ho hw.2).trans ((StableHlo.after_of_writes_sub hostOps2 (U4 m c) hostOps2_writes hw.1).trans (region_keeps m r ho c).2.1)

/-- Level 0's image as its region finds it. -/
theorem image0 (n : Fin 2) (k : Fin 256) (l : Fin 16384) : U1 m c (Proc.devRef .tc main_v14) (ix3 n k l) = imgAt 128 128 (U0 m c (Proc.devRef .tc main_arg0)) n k l :=
  (fun n k l => host_img0 (U0 m c) n k l) n k l

/-- Level 0's first result. -/
theorem logits0 (n : Fin 2) (j : Fin 3) (h w : Fin 128) : U11 m c (Proc.devRef .tc main_v16) (ix4 n j h w) = logitAt 128 (U0 m c) (U0 m c (Proc.devRef .tc main_arg0)) n j h w :=
  (congrFun (kept3 m c main_v16 (by decide) (by decide)) _).trans <| (host_logits0 (U2 m c) n j h w).trans <| (congrFun (upd2_fst (U1 m c) main_v15_0 main_v15_1 (by decide) ((r0_dat (U1 m) c).arrAt 5 cfg0.N) ((r0_dat (U1 m) c).arrAt 6 cfg0.N)) _).trans
    (r0_logits_end (U1 m) (U0 m c) c (fed m c).1 (image0 m c) n j h w)

/-- Level 0's second result. -/
theorem bbox0 (n : Fin 2) (j : Fin 12) (h w : Fin 128) : U11 m c (Proc.devRef .tc main_v17) (ix4 n j h w) = bboxAt 128 (U0 m c) (U0 m c (Proc.devRef .tc main_arg0)) n j h w :=
  (congrFun (kept3 m c main_v17 (by decide) (by decide)) _).trans <| (host_bbox0 (U2 m c) n j h w).trans <| (congrFun (upd2_snd (U1 m c) main_v15_0 main_v15_1 ((r0_dat (U1 m) c).arrAt 5 cfg0.N) ((r0_dat (U1 m) c).arrAt 6 cfg0.N)) _).trans
    (r0_bbox_end (U1 m) (U0 m c) c (fed m c).1 (image0 m c) n j h w)

/-- Level 1's image as its region finds it. -/
theorem image1 (n : Fin 2) (k : Fin 256) (l : Fin 4096) : U3 m c (Proc.devRef .tc main_v18) (ix3 n k l) = imgAt 64 64 (U0 m c (Proc.devRef .tc main_arg1)) n k l :=
  (fun n k l => (host_img1 (U2 m c) n k l).trans (congrArg (imgAt 64 64 · n k l) (arg_between m c main_arg1 (by decide)).1)) n k l

/-- Level 1's first result. -/
theorem logits1 (n : Fin 2) (j : Fin 3) (h w : Fin 64) : U11 m c (Proc.devRef .tc main_v20) (ix4 n j h w) = logitAt 64 (U0 m c) (U0 m c (Proc.devRef .tc main_arg1)) n j h w :=
  (congrFun (kept5 m c main_v20 (by decide) (by decide)) _).trans <| (host_logits1 (U4 m c) n j h w).trans <| (congrFun (upd2_fst (U3 m c) main_v19_0 main_v19_1 (by decide) ((r1_dat (U3 m) c).arrAt 5 cfg1.N) ((r1_dat (U3 m) c).arrAt 6 cfg1.N)) _).trans
    (r1_logits_end (U3 m) (U0 m c) c (fed m c).2.1 (image1 m c) n j h w)

/-- Level 1's second result. -/
theorem bbox1 (n : Fin 2) (j : Fin 12) (h w : Fin 64) : U11 m c (Proc.devRef .tc main_v21) (ix4 n j h w) = bboxAt 64 (U0 m c) (U0 m c (Proc.devRef .tc main_arg1)) n j h w :=
  (congrFun (kept5 m c main_v21 (by decide) (by decide)) _).trans <| (host_bbox1 (U4 m c) n j h w).trans <| (congrFun (upd2_snd (U3 m c) main_v19_0 main_v19_1 ((r1_dat (U3 m) c).arrAt 5 cfg1.N) ((r1_dat (U3 m) c).arrAt 6 cfg1.N)) _).trans
    (r1_bbox_end (U3 m) (U0 m c) c (fed m c).2.1 (image1 m c) n j h w)

/-- Level 2's image as its region finds it. -/
theorem image2 (n : Fin 2) (k : Fin 256) (l : Fin 1024) : U5 m c (Proc.devRef .tc main_v22) (ix3 n k l) = imgAt 32 32 (U0 m c (Proc.devRef .tc main_arg2)) n k l :=
  (fun n k l => (host_img2 (U4 m c) n k l).trans (congrArg (imgAt 32 32 · n k l) (arg_between m c main_arg2 (by decide)).2.1)) n k l

/-- Level 2's first result. -/
theorem logits2 (n : Fin 2) (j : Fin 3) (h w : Fin 32) : U11 m c (Proc.devRef .tc main_v24) (ix4 n j h w) = logitAt 32 (U0 m c) (U0 m c (Proc.devRef .tc main_arg2)) n j h w :=
  (congrFun (kept7 m c main_v24 (by decide) (by decide)) _).trans <| (host_logits2 (U6 m c) n j h w).trans <| (congrFun (upd2_fst (U5 m c) main_v23_0 main_v23_1 (by decide) ((r2_dat (U5 m) c).arrAt 5 cfg2.N) ((r2_dat (U5 m) c).arrAt 6 cfg2.N)) _).trans
    (r2_logits_end (U5 m) (U0 m c) c (fed m c).2.2.1 (image2 m c) n j h w)

/-- Level 2's second result. -/
theorem bbox2 (n : Fin 2) (j : Fin 12) (h w : Fin 32) : U11 m c (Proc.devRef .tc main_v25) (ix4 n j h w) = bboxAt 32 (U0 m c) (U0 m c (Proc.devRef .tc main_arg2)) n j h w :=
  (congrFun (kept7 m c main_v25 (by decide) (by decide)) _).trans <| (host_bbox2 (U6 m c) n j h w).trans <| (congrFun (upd2_snd (U5 m c) main_v23_0 main_v23_1 ((r2_dat (U5 m) c).arrAt 5 cfg2.N) ((r2_dat (U5 m) c).arrAt 6 cfg2.N)) _).trans
    (r2_bbox_end (U5 m) (U0 m c) c (fed m c).2.2.1 (image2 m c) n j h w)

/-- Level 3's image as its region finds it. -/
theorem image3 (n : Fin 2) (k : Fin 256) (l : Fin 256) : U7 m c (Proc.devRef .tc main_v26) (ix3 n k l) = imgAt 16 16 (U0 m c (Proc.devRef .tc main_arg3)) n k l :=
  (fun n k l => (host_img3 (U6 m c) n k l).trans (congrArg (imgAt 16 16 · n k l) (arg_between m c main_arg3 (by decide)).2.2.1)) n k l

/-- Level 3's first result. -/
theorem logits3 (n : Fin 2) (j : Fin 3) (h w : Fin 16) : U11 m c (Proc.devRef .tc main_v28) (ix4 n j h w) = logitAt 16 (U0 m c) (U0 m c (Proc.devRef .tc main_arg3)) n j h w :=
  (congrFun (kept9 m c main_v28 (by decide) (by decide)) _).trans <| (host_logits3 (U8 m c) n j h w).trans <| (congrFun (upd2_fst (U7 m c) main_v27_0 main_v27_1 (by decide) ((r3_dat (U7 m) c).arrAt 5 cfg3.N) ((r3_dat (U7 m) c).arrAt 6 cfg3.N)) _).trans
    (r3_logits_end (U7 m) (U0 m c) c (fed m c).2.2.2.1 (image3 m c) n j h w)

/-- Level 3's second result. -/
theorem bbox3 (n : Fin 2) (j : Fin 12) (h w : Fin 16) : U11 m c (Proc.devRef .tc main_v29) (ix4 n j h w) = bboxAt 16 (U0 m c) (U0 m c (Proc.devRef .tc main_arg3)) n j h w :=
  (congrFun (kept9 m c main_v29 (by decide) (by decide)) _).trans <| (host_bbox3 (U8 m c) n j h w).trans <| (congrFun (upd2_snd (U7 m c) main_v27_0 main_v27_1 ((r3_dat (U7 m) c).arrAt 5 cfg3.N) ((r3_dat (U7 m) c).arrAt 6 cfg3.N)) _).trans
    (r3_bbox_end (U7 m) (U0 m c) c (fed m c).2.2.2.1 (image3 m c) n j h w)

/-- Level 4's image as its region finds it. -/
theorem image4 (n : Fin 2) (k : Fin 256) (l : Fin 64) : U9 m c (Proc.devRef .tc main_v30) (ix3 n k l) = imgAt 8 8 (U0 m c (Proc.devRef .tc main_arg4)) n k l :=
  (fun n k l => (host_img4 (U8 m c) n k l).trans (congrArg (imgAt 8 8 · n k l) (arg_between m c main_arg4 (by decide)).2.2.2)) n k l

/-- Level 4's first result. -/
theorem logits4 (n : Fin 2) (j : Fin 3) (h w : Fin 8) : U11 m c (Proc.devRef .tc main_v32) (ix4 n j h w) = logitAt 8 (U0 m c) (U0 m c (Proc.devRef .tc main_arg4)) n j h w :=
  (host_logits4 (U10 m c) n j h w).trans <| (congrFun (upd2_fst (U9 m c) main_v31_0 main_v31_1 (by decide) ((r4_dat (U9 m) c).arrAt 5 cfg4.N) ((r4_dat (U9 m) c).arrAt 6 cfg4.N)) _).trans
    (r4_logits_end (U9 m) (U0 m c) c (fed m c).2.2.2.2 (image4 m c) n j h w)

/-- Level 4's second result. -/
theorem bbox4 (n : Fin 2) (j : Fin 12) (h w : Fin 8) : U11 m c (Proc.devRef .tc main_v33) (ix4 n j h w) = bboxAt 8 (U0 m c) (U0 m c (Proc.devRef .tc main_arg4)) n j h w :=
  (host_bbox4 (U10 m c) n j h w).trans <| (congrFun (upd2_snd (U9 m c) main_v31_0 main_v31_1 ((r4_dat (U9 m) c).arrAt 5 cfg4.N) ((r4_dat (U9 m) c).arrAt 6 cfg4.N)) _).trans
    (r4_bbox_end (U9 m) (U0 m c) c (fed m c).2.2.2.2 (image4 m c) n j h w)

end Cert.Proof.KernelIdeal

end
-- ==== Proof.Ref.lean ====
/-
  The reference's results in closed form.
-/
module

public import proofs.«01_k».proof.Proof.Closed
public import proofs.«01_k».proof.Proof.Gen.ReferenceIdeal.Run
public import Idealize.ShloMosaic.Lib.Pointwise

@[expose] public section

set_option maxRecDepth 16384

noncomputable section

namespace Cert.Proof.Ref

open Cert.ReferenceIdeal.Value Cert.ReferenceIdeal Cert.ReferenceIdeal.Gen
open Idealize.ShloMosaic Idealize.ShloMosaic.TcCoe Idealize.ShloMosaic.Tactic Idealize.ShloMosaic.StableHlo

variable (V : Valuation τ sig (Elt Ideal))

/-- The padding value is zero. -/
theorem pad_value : FloatOps.sitofp (F := Ideal) FTy.f32 0#32 = (0 : EReal) := by
  show (((0#32 : BitVec 32).toInt : ℝ) : EReal) = 0
  simp

/-- A head's sum with the factors in the reference's order. -/
theorem head_eq {N W : ℕ} (k b) (hw : (⟨4, ![N, 256, 1, 1]⟩ : Shape).Idx → EReal) (hb : (⟨1, ![N]⟩ : Shape).Idx → EReal) (x) (n : Fin 2) (j : Fin N) (h w : ℕ) :
    (∑ o : Fin 256, convOf W k b x n o h w * hw (ix4 j o 0 0)) + hb (ix1 j) = resultOf W k b hw hb x n j h w :=
  congrArg (· + hb (ix1 j)) (Finset.sum_congr rfl fun o _ => mul_comm _ _)

/-- Level 0's images with a frame of zeros. -/
theorem pad0 (n : Fin 2) (k : Fin 256) (a b : Fin 130) :
    res_main_v0 V (ix4 n k a b) = padAt 128 128 (imgAt 128 128 (V (Proc.devRef .tc main_arg0)) n k) a b := by
  pointwise [res_main_v0]
  exact pad_dite _ n k a b (pad_cond n k a b) _ (fun _ _ _ => rfl) _ pad_value

/-- Level 0's convolution. -/
theorem conv0 (n : Fin 2) (o : Fin 256) (h w : Fin 128) :
    res_main_v58 V (ix4 n o h w) = convOf 128 (V (Proc.devRef .tc main_arg5)) (V (Proc.devRef .tc main_arg6)) (V (Proc.devRef .tc main_arg0)) n o h w := by
  pointwise [res_main_v58, res_main_v56]
  simp only [pad0]
  exact (convOf_eq 128 _ _ _ n o h w).symm

/-- Level 0's first result. -/
theorem logits0 (n : Fin 2) (j : Fin 3) (h w : Fin 128) :
    val7 V (Proc.devRef .tc main_v64) (ix4 n j h w) = resultOf 128 (V (Proc.devRef .tc main_arg5)) (V (Proc.devRef .tc main_arg6)) (V (Proc.devRef .tc main_arg7))
      (V (Proc.devRef .tc main_arg8)) (V (Proc.devRef .tc main_arg0)) n j h w := by
  rw [val7_main_v64]
  pointwise []
  simp only [conv0]
  exact head_eq _ _ _ _ _ n j h w

/-- Level 0's second result. -/
theorem bbox0 (n : Fin 2) (j : Fin 12) (h w : Fin 128) :
    val7 V (Proc.devRef .tc main_v70) (ix4 n j h w) = resultOf 128 (V (Proc.devRef .tc main_arg5)) (V (Proc.devRef .tc main_arg6)) (V (Proc.devRef .tc main_arg9))
      (V (Proc.devRef .tc main_arg10)) (V (Proc.devRef .tc main_arg0)) n j h w := by
  rw [val7_main_v70]
  pointwise []
  simp only [conv0]
  exact head_eq _ _ _ _ _ n j h w

/-- Level 1's images with a frame of zeros. -/
theorem pad1 (n : Fin 2) (k : Fin 256) (a b : Fin 66) :
    res_main_v71 V (ix4 n k a b) = padAt 64 64 (imgAt 64 64 (V (Proc.devRef .tc main_arg1)) n k) a b := by
  pointwise [res_main_v71]
  exact pad_dite _ n k a b (pad_cond n k a b) _ (fun _ _ _ => rfl) _ pad_value

/-- Level 1's convolution. -/
theorem conv1 (n : Fin 2) (o : Fin 256) (h w : Fin 64) :
    res_main_v129 V (ix4 n o h w) = convOf 64 (V (Proc.devRef .tc main_arg5)) (V (Proc.devRef .tc main_arg6)) (V (Proc.devRef .tc main_arg1)) n o h w := by
  pointwise [res_main_v129, res_main_v127]
  simp only [pad1]
  exact (convOf_eq 64 _ _ _ n o h w).symm

/-- Level 1's first result. -/
theorem logits1 (n : Fin 2) (j : Fin 3) (h w : Fin 64) :
    val7 V (Proc.devRef .tc main_v135) (ix4 n j h w) = resultOf 64 (V (Proc.devRef .tc main_arg5)) (V (Proc.devRef .tc main_arg6)) (V (Proc.devRef .tc main_arg7))
      (V (Proc.devRef .tc main_arg8)) (V (Proc.devRef .tc main_arg1)) n j h w := by
  rw [val7_main_v135]
  pointwise []
  simp only [conv1]
  exact head_eq _ _ _ _ _ n j h w

/-- Level 1's second result. -/
theorem bbox1 (n : Fin 2) (j : Fin 12) (h w : Fin 64) :
    val7 V (Proc.devRef .tc main_v141) (ix4 n j h w) = resultOf 64 (V (Proc.devRef .tc main_arg5)) (V (Proc.devRef .tc main_arg6)) (V (Proc.devRef .tc main_arg9))
      (V (Proc.devRef .tc main_arg10)) (V (Proc.devRef .tc main_arg1)) n j h w := by
  rw [val7_main_v141]
  pointwise []
  simp only [conv1]
  exact head_eq _ _ _ _ _ n j h w

/-- Level 2's images with a frame of zeros. -/
theorem pad2 (n : Fin 2) (k : Fin 256) (a b : Fin 34) :
    res_main_v142 V (ix4 n k a b) = padAt 32 32 (imgAt 32 32 (V (Proc.devRef .tc main_arg2)) n k) a b := by
  pointwise [res_main_v142]
  exact pad_dite _ n k a b (pad_cond n k a b) _ (fun _ _ _ => rfl) _ pad_value

/-- Level 2's convolution. -/
theorem conv2 (n : Fin 2) (o : Fin 256) (h w : Fin 32) :
    res_main_v200 V (ix4 n o h w) = convOf 32 (V (Proc.devRef .tc main_arg5)) (V (Proc.devRef .tc main_arg6)) (V (Proc.devRef .tc main_arg2)) n o h w := by
  pointwise [res_main_v200, res_main_v198]
  simp only [pad2]
  exact (convOf_eq 32 _ _ _ n o h w).symm

/-- Level 2's first result. -/
theorem logits2 (n : Fin 2) (j : Fin 3) (h w : Fin 32) :
    val7 V (Proc.devRef .tc main_v206) (ix4 n j h w) = resultOf 32 (V (Proc.devRef .tc main_arg5)) (V (Proc.devRef .tc main_arg6)) (V (Proc.devRef .tc main_arg7))
      (V (Proc.devRef .tc main_arg8)) (V (Proc.devRef .tc main_arg2)) n j h w := by
  rw [val7_main_v206]
  pointwise []
  simp only [conv2]
  exact head_eq _ _ _ _ _ n j h w

/-- Level 2's second result. -/
theorem bbox2 (n : Fin 2) (j : Fin 12) (h w : Fin 32) :
    val7 V (Proc.devRef .tc main_v212) (ix4 n j h w) = resultOf 32 (V (Proc.devRef .tc main_arg5)) (V (Proc.devRef .tc main_arg6)) (V (Proc.devRef .tc main_arg9))
      (V (Proc.devRef .tc main_arg10)) (V (Proc.devRef .tc main_arg2)) n j h w := by
  rw [val7_main_v212]
  pointwise []
  simp only [conv2]
  exact head_eq _ _ _ _ _ n j h w

/-- Level 3's images with a frame of zeros. -/
theorem pad3 (n : Fin 2) (k : Fin 256) (a b : Fin 18) :
    res_main_v213 V (ix4 n k a b) = padAt 16 16 (imgAt 16 16 (V (Proc.devRef .tc main_arg3)) n k) a b := by
  pointwise [res_main_v213]
  exact pad_dite _ n k a b (pad_cond n k a b) _ (fun _ _ _ => rfl) _ pad_value

/-- Level 3's convolution. -/
theorem conv3 (n : Fin 2) (o : Fin 256) (h w : Fin 16) :
    res_main_v271 V (ix4 n o h w) = convOf 16 (V (Proc.devRef .tc main_arg5)) (V (Proc.devRef .tc main_arg6)) (V (Proc.devRef .tc main_arg3)) n o h w := by
  pointwise [res_main_v271, res_main_v269]
  simp only [pad3]
  exact (convOf_eq 16 _ _ _ n o h w).symm

/-- Level 3's first result. -/
theorem logits3 (n : Fin 2) (j : Fin 3) (h w : Fin 16) :
    val7 V (Proc.devRef .tc main_v277) (ix4 n j h w) = resultOf 16 (V (Proc.devRef .tc main_arg5)) (V (Proc.devRef .tc main_arg6)) (V (Proc.devRef .tc main_arg7))
      (V (Proc.devRef .tc main_arg8)) (V (Proc.devRef .tc main_arg3)) n j h w := by
  rw [val7_main_v277]
  pointwise []
  simp only [conv3]
  exact head_eq _ _ _ _ _ n j h w

/-- Level 3's second result. -/
theorem bbox3 (n : Fin 2) (j : Fin 12) (h w : Fin 16) :
    val7 V (Proc.devRef .tc main_v283) (ix4 n j h w) = resultOf 16 (V (Proc.devRef .tc main_arg5)) (V (Proc.devRef .tc main_arg6)) (V (Proc.devRef .tc main_arg9))
      (V (Proc.devRef .tc main_arg10)) (V (Proc.devRef .tc main_arg3)) n j h w := by
  rw [val7_main_v283]
  pointwise []
  simp only [conv3]
  exact head_eq _ _ _ _ _ n j h w

/-- Level 4's images with a frame of zeros. -/
theorem pad4 (n : Fin 2) (k : Fin 256) (a b : Fin 10) :
    res_main_v284 V (ix4 n k a b) = padAt 8 8 (imgAt 8 8 (V (Proc.devRef .tc main_arg4)) n k) a b := by
  pointwise [res_main_v284]
  exact pad_dite _ n k a b (pad_cond n k a b) _ (fun _ _ _ => rfl) _ pad_value

/-- Level 4's convolution. -/
theorem conv4 (n : Fin 2) (o : Fin 256) (h w : Fin 8) :
    res_main_v342 V (ix4 n o h w) = convOf 8 (V (Proc.devRef .tc main_arg5)) (V (Proc.devRef .tc main_arg6)) (V (Proc.devRef .tc main_arg4)) n o h w := by
  pointwise [res_main_v342, res_main_v340]
  simp only [pad4]
  exact (convOf_eq 8 _ _ _ n o h w).symm

/-- Level 4's first result. -/
theorem logits4 (n : Fin 2) (j : Fin 3) (h w : Fin 8) :
    val7 V (Proc.devRef .tc main_v348) (ix4 n j h w) = resultOf 8 (V (Proc.devRef .tc main_arg5)) (V (Proc.devRef .tc main_arg6)) (V (Proc.devRef .tc main_arg7))
      (V (Proc.devRef .tc main_arg8)) (V (Proc.devRef .tc main_arg4)) n j h w := by
  rw [val7_main_v348]
  pointwise []
  simp only [conv4]
  exact head_eq _ _ _ _ _ n j h w

/-- Level 4's second result. -/
theorem bbox4 (n : Fin 2) (j : Fin 12) (h w : Fin 8) :
    val7 V (Proc.devRef .tc main_v354) (ix4 n j h w) = resultOf 8 (V (Proc.devRef .tc main_arg5)) (V (Proc.devRef .tc main_arg6)) (V (Proc.devRef .tc main_arg9))
      (V (Proc.devRef .tc main_arg10)) (V (Proc.devRef .tc main_arg4)) n j h w := by
  rw [val7_main_v354]
  pointwise []
  simp only [conv4]
  exact head_eq _ _ _ _ _ n j h w

end Cert.Proof.Ref

end
-- ==== Proof.lean ====
/-
  The kernel, its idealization and the reference run and leave their arguments as they were; the idealization and the reference end with the same
  results.
-/
module

public import proofs.«01_k».proof.Defs
public import proofs.«01_k».proof.Proof.Frame
public import proofs.«01_k».proof.Proof.Original.Frame
public import proofs.«01_k».proof.Proof.Ends
public import proofs.«01_k».proof.Proof.Ref
public import proofs.«01_k».proof.Proof.Gen.Kernel.Points
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.TcCoe

/-- The kernel's frame. -/
theorem frame_kernel : letI := Cert.Kernel.Gen.facts; Cert.quiescent_Kernel := fun m g _ =>
  (θ_run _ _ _).mono (fun _ h => ⟨fun c => ⟨h.1 c _ (by decide), h.1 c _ (by decide), h.1 c _ (by decide), h.1 c _ (by decide), h.1 c _ (by decide),
    h.1 c _ (by decide), h.1 c _ (by decide), h.1 c _ (by decide), h.1 c _ (by decide), h.1 c _ (by decide), h.1 c _ (by decide)⟩, h.2⟩)
    (Kernel.frame m g)

/-- The idealized kernel's frame. -/
theorem frame_ideal : letI := Cert.KernelIdeal.Gen.facts; Cert.quiescent_KernelIdeal := fun m g _ =>
  (θ_run _ _ _).mono (fun _ h => ⟨fun c => ⟨h.1 c _ (by decide), h.1 c _ (by decide), h.1 c _ (by decide), h.1 c _ (by decide), h.1 c _ (by decide),
    h.1 c _ (by decide), h.1 c _ (by decide), h.1 c _ (by decide), h.1 c _ (by decide), h.1 c _ (by decide), h.1 c _ (by decide)⟩, h.2⟩)
    (KernelIdeal.frame m g)

/-- The reference's frame: it has no semaphore. -/
theorem frame_reference : letI := Cert.ReferenceIdeal.Gen.facts; Cert.quiescent_ReferenceIdeal := fun m g _ =>
  (θ_run _ _ _).mono (fun r h => ⟨fun c => (h c).2.2.2.2.2.2.2.2.2.2, sem_eq_zero_of_no_sems (by decide) r.2⟩) (Cert.ReferenceIdeal.Value.run m g)

/-- Two results equal at every index are equal. -/
theorem same {N W : ℕ} (X Y : (⟨4, ![2, N, W, W]⟩ : Shape).Idx → EReal) (h : ∀ n j a b, X (ix4 n j a b) = Y (ix4 n j a b)) : X = Y :=
  funext fun i => by rw [eq_ix4 i]; exact h _ _ _ _

/-- The closed form over equal arguments. -/
theorem result_congr {W N : ℕ} {k k'} {b b'} {hw hw' : (⟨4, ![N, 256, 1, 1]⟩ : Shape).Idx → EReal} {hb hb'} {x x'} (ek : k' = k) (eb : b' = b) (ew : hw' = hw)
    (eh : hb' = hb) (ex : x' = x) (n : Fin 2) (j : Fin N) (h w : ℕ) : resultOf W k b hw hb x n j h w = resultOf W k' b' hw' hb' x' n j h w := by
  subst ek eb ew eh ex; rfl

section
open Cert.ReferenceIdeal.Value
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The device's arguments agree. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable {m m' c} (h : Agree m m' c)
include h

/-- Level 0's first result is the reference's. -/
theorem logits0_eq : KernelIdeal.U11 m c (Proc.devRef .tc Cert.KernelIdeal.main_v16) = val7 (Idealize.ShloMosaic.StableHlo.launchContents m' c) (Proc.devRef .tc Cert.ReferenceIdeal.main_v64) :=
  same _ _ fun n j a b => (KernelIdeal.logits0 m c n j a b).trans <| (result_congr h.2.2.2.2.2.1 h.2.2.2.2.2.2.1 h.2.2.2.2.2.2.2.1 h.2.2.2.2.2.2.2.2.1 h.1 n j a b).trans
    (Ref.logits0 (Idealize.ShloMosaic.StableHlo.launchContents m' c) n j a b).symm
/-- Level 1's first result is the reference's. -/
theorem logits1_eq : KernelIdeal.U11 m c (Proc.devRef .tc Cert.KernelIdeal.main_v20) = val7 (Idealize.ShloMosaic.StableHlo.launchContents m' c) (Proc.devRef .tc Cert.ReferenceIdeal.main_v135) :=
  same _ _ fun n j a b => (KernelIdeal.logits1 m c n j a b).trans <| (result_congr h.2.2.2.2.2.1 h.2.2.2.2.2.2.1 h.2.2.2.2.2.2.2.1 h.2.2.2.2.2.2.2.2.1 h.2.1 n j a b).trans
    (Ref.logits1 (Idealize.ShloMosaic.StableHlo.launchContents m' c) n j a b).symm
/-- Level 2's first result is the reference's. -/
theorem logits2_eq : KernelIdeal.U11 m c (Proc.devRef .tc Cert.KernelIdeal.main_v24) = val7 (Idealize.ShloMosaic.StableHlo.launchContents m' c) (Proc.devRef .tc Cert.ReferenceIdeal.main_v206) :=
  same _ _ fun n j a b => (KernelIdeal.logits2 m c n j a b).trans <| (result_congr h.2.2.2.2.2.1 h.2.2.2.2.2.2.1 h.2.2.2.2.2.2.2.1 h.2.2.2.2.2.2.2.2.1 h.2.2.1 n j a b).trans
    (Ref.logits2 (Idealize.ShloMosaic.StableHlo.launchContents m' c) n j a b).symm
/-- Level 3's first result is the reference's. -/
theorem logits3_eq : KernelIdeal.U11 m c (Proc.devRef .tc Cert.KernelIdeal.main_v28) = val7 (Idealize.ShloMosaic.StableHlo.launchContents m' c) (Proc.devRef .tc Cert.ReferenceIdeal.main_v277) :=
  same _ _ fun n j a b => (KernelIdeal.logits3 m c n j a b).trans <| (result_congr h.2.2.2.2.2.1 h.2.2.2.2.2.2.1 h.2.2.2.2.2.2.2.1 h.2.2.2.2.2.2.2.2.1 h.2.2.2.1 n j a b).trans
    (Ref.logits3 (Idealize.ShloMosaic.StableHlo.launchContents m' c) n j a b).symm
/-- Level 4's first result is the reference's. -/
theorem logits4_eq : KernelIdeal.U11 m c (Proc.devRef .tc Cert.KernelIdeal.main_v32) = val7 (Idealize.ShloMosaic.StableHlo.launchContents m' c) (Proc.devRef .tc Cert.ReferenceIdeal.main_v348) :=
  same _ _ fun n j a b => (KernelIdeal.logits4 m c n j a b).trans <| (result_congr h.2.2.2.2.2.1 h.2.2.2.2.2.2.1 h.2.2.2.2.2.2.2.1 h.2.2.2.2.2.2.2.2.1 h.2.2.2.2.1 n j a b).trans
    (Ref.logits4 (Idealize.ShloMosaic.StableHlo.launchContents m' c) n j a b).symm
/-- Level 0's second result is the reference's. -/
theorem bbox0_eq : KernelIdeal.U11 m c (Proc.devRef .tc Cert.KernelIdeal.main_v17) = val7 (Idealize.ShloMosaic.StableHlo.launchContents m' c) (Proc.devRef .tc Cert.ReferenceIdeal.main_v70) :=
  same _ _ fun n j a b => (KernelIdeal.bbox0 m c n j a b).trans <| (result_congr h.2.2.2.2.2.1 h.2.2.2.2.2.2.1 h.2.2.2.2.2.2.2.2.2.1 h.2.2.2.2.2.2.2.2.2.2 h.1 n j a b).trans
    (Ref.bbox0 (Idealize.ShloMosaic.StableHlo.launchContents m' c) n j a b).symm
/-- Level 1's second result is the reference's. -/
theorem bbox1_eq : KernelIdeal.U11 m c (Proc.devRef .tc Cert.KernelIdeal.main_v21) = val7 (Idealize.ShloMosaic.StableHlo.launchContents m' c) (Proc.devRef .tc Cert.ReferenceIdeal.main_v141) :=
  same _ _ fun n j a b => (KernelIdeal.bbox1 m c n j a b).trans <| (result_congr h.2.2.2.2.2.1 h.2.2.2.2.2.2.1 h.2.2.2.2.2.2.2.2.2.1 h.2.2.2.2.2.2.2.2.2.2 h.2.1 n j a b).trans
    (Ref.bbox1 (Idealize.ShloMosaic.StableHlo.launchContents m' c) n j a b).symm
/-- Level 2's second result is the reference's. -/
theorem bbox2_eq : KernelIdeal.U11 m c (Proc.devRef .tc Cert.KernelIdeal.main_v25) = val7 (Idealize.ShloMosaic.StableHlo.launchContents m' c) (Proc.devRef .tc Cert.ReferenceIdeal.main_v212) :=
  same _ _ fun n j a b => (KernelIdeal.bbox2 m c n j a b).trans <| (result_congr h.2.2.2.2.2.1 h.2.2.2.2.2.2.1 h.2.2.2.2.2.2.2.2.2.1 h.2.2.2.2.2.2.2.2.2.2 h.2.2.1 n j a b).trans
    (Ref.bbox2 (Idealize.ShloMosaic.StableHlo.launchContents m' c) n j a b).symm
/-- Level 3's second result is the reference's. -/
theorem bbox3_eq : KernelIdeal.U11 m c (Proc.devRef .tc Cert.KernelIdeal.main_v29) = val7 (Idealize.ShloMosaic.StableHlo.launchContents m' c) (Proc.devRef .tc Cert.ReferenceIdeal.main_v283) :=
  same _ _ fun n j a b => (KernelIdeal.bbox3 m c n j a b).trans <| (result_congr h.2.2.2.2.2.1 h.2.2.2.2.2.2.1 h.2.2.2.2.2.2.2.2.2.1 h.2.2.2.2.2.2.2.2.2.2 h.2.2.2.1 n j a b).trans
    (Ref.bbox3 (Idealize.ShloMosaic.StableHlo.launchContents m' c) n j a b).symm
/-- Level 4's second result is the reference's. -/
theorem bbox4_eq : KernelIdeal.U11 m c (Proc.devRef .tc Cert.KernelIdeal.main_v33) = val7 (Idealize.ShloMosaic.StableHlo.launchContents m' c) (Proc.devRef .tc Cert.ReferenceIdeal.main_v354) :=
  same _ _ fun n j a b => (KernelIdeal.bbox4 m c n j a b).trans <| (result_congr h.2.2.2.2.2.1 h.2.2.2.2.2.2.1 h.2.2.2.2.2.2.2.2.2.1 h.2.2.2.2.2.2.2.2.2.2 h.2.2.2.2.1 n j a b).trans
    (Ref.bbox4 (Idealize.ShloMosaic.StableHlo.launchContents m' c) n j a b).symm

end

/-- The idealized kernel and the reference end with the same results. -/
theorem algebraic : letI := Cert.KernelIdeal.Gen.facts; letI := Cert.ReferenceIdeal.Gen.facts; Cert.algebraic_KernelIdeal_ReferenceIdeal := by
  intro m g m' g' _ h
  refine ⟨fun c => KernelIdeal.U11 m c (Proc.devRef .tc Cert.KernelIdeal.main_v16), fun c => KernelIdeal.U11 m c (Proc.devRef .tc Cert.KernelIdeal.main_v20), fun c => KernelIdeal.U11 m c (Proc.devRef .tc Cert.KernelIdeal.main_v24), fun c => KernelIdeal.U11 m c (Proc.devRef .tc Cert.KernelIdeal.main_v28), fun c => KernelIdeal.U11 m c (Proc.devRef .tc Cert.KernelIdeal.main_v32), fun c => KernelIdeal.U11 m c (Proc.devRef .tc Cert.KernelIdeal.main_v17), fun c => KernelIdeal.U11 m c (Proc.devRef .tc Cert.KernelIdeal.main_v21), fun c => KernelIdeal.U11 m c (Proc.devRef .tc Cert.KernelIdeal.main_v25), fun c => KernelIdeal.U11 m c (Proc.devRef .tc Cert.KernelIdeal.main_v29), fun c => KernelIdeal.U11 m c (Proc.devRef .tc Cert.KernelIdeal.main_v33), ?_, ?_⟩
  · refine (θ_run _ _ _).mono (fun r hr c => ?_) (KernelIdeal.run_all m g)
    have keep := fun a ha => (hr.1 c _ (KernelIdeal.mem_uc a ((by decide : ∀ a ∈ KernelIdeal.argRefs, a.isScoped = false) a ha))).trans (KernelIdeal.arg_kept m a ha c)
    exact ⟨hr.1 c _ (KernelIdeal.mem_uc _ rfl), hr.1 c _ (KernelIdeal.mem_uc _ rfl), hr.1 c _ (KernelIdeal.mem_uc _ rfl), hr.1 c _ (KernelIdeal.mem_uc _ rfl), hr.1 c _ (KernelIdeal.mem_uc _ rfl), hr.1 c _ (KernelIdeal.mem_uc _ rfl), hr.1 c _ (KernelIdeal.mem_uc _ rfl), hr.1 c _ (KernelIdeal.mem_uc _ rfl), hr.1 c _ (KernelIdeal.mem_uc _ rfl), hr.1 c _ (KernelIdeal.mem_uc _ rfl),
      keep _ (by decide), keep _ (by decide), keep _ (by decide), keep _ (by decide), keep _ (by decide), keep _ (by decide), keep _ (by decide), keep _ (by decide), keep _ (by decide), keep _ (by decide), keep _ (by decide)⟩
  · refine (θ_run _ _ _).mono (fun r hr c => ?_) (Cert.ReferenceIdeal.Value.run m' g')
    obtain ⟨e0, e1, e2, e3, e4, e5, e6, e7, e8, e9, ha⟩ := hr c
    exact ⟨e0.trans ((Cert.ReferenceIdeal.Value.val7_main_v64 _).symm.trans (logits0_eq (h c)).symm),
      e1.trans ((Cert.ReferenceIdeal.Value.val7_main_v135 _).symm.trans (logits1_eq (h c)).symm),
      e2.trans ((Cert.ReferenceIdeal.Value.val7_main_v206 _).symm.trans (logits2_eq (h c)).symm),
      e3.trans ((Cert.ReferenceIdeal.Value.val7_main_v277 _).symm.trans (logits3_eq (h c)).symm),
      e4.trans ((Cert.ReferenceIdeal.Value.val7_main_v348 _).symm.trans (logits4_eq (h c)).symm),
      e5.trans ((Cert.ReferenceIdeal.Value.val7_main_v70 _).symm.trans (bbox0_eq (h c)).symm),
      e6.trans ((Cert.ReferenceIdeal.Value.val7_main_v141 _).symm.trans (bbox1_eq (h c)).symm),
      e7.trans ((Cert.ReferenceIdeal.Value.val7_main_v212 _).symm.trans (bbox2_eq (h c)).symm),
      e8.trans ((Cert.ReferenceIdeal.Value.val7_main_v283 _).symm.trans (bbox3_eq (h c)).symm),
      e9.trans ((Cert.ReferenceIdeal.Value.val7_main_v354 _).symm.trans (bbox4_eq (h c)).symm), ha⟩

/-- Everything claimed. -/
theorem claim : Cert.Claim := ⟨Cert.Kernel.Gen.facts, Cert.KernelIdeal.Gen.facts, Cert.ReferenceIdeal.Gen.facts, frame_kernel, frame_ideal, frame_reference,
  trivial, algebraic⟩

end Cert.Proof

end
